-- ==== Defs.lean ====
def Pre_Kernel [hPre_graph_ids : Cert.Pre_graph_ids.Facts] (m : (ℓ : Loc Cert.Kernel.nD Cert.Kernel.τ Cert.Kernel.sig) → Buf (Elt Bits) ℓ) : Prop :=
  ∀ c : Dev Cert.Kernel.nD,
    (Cert.Pre_graph_ids.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_graph_ids : Cert.Pre_graph_ids.Facts] (m : (ℓ : Loc Cert.KernelIdeal.nD Cert.KernelIdeal.τ Cert.KernelIdeal.sig) → Buf (Elt Ideal) ℓ) : Prop :=
  ∀ c : Dev Cert.KernelIdeal.nD,
    (Cert.Pre_graph_ids.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_KernelIdeal_sorted_graph_ids [hPre_sorted_graph_ids : Cert.Pre_sorted_graph_ids.Facts] (m : (ℓ : Loc Cert.KernelIdeal.nD Cert.KernelIdeal.τ Cert.KernelIdeal.sig) → Buf (Elt Ideal) ℓ) : Prop :=
  ∀ c : Dev Cert.KernelIdeal.nD,
    (Cert.Pre_sorted_graph_ids.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_sorted_graph_ids [hPre_sorted_graph_ids : Cert.Pre_sorted_graph_ids.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_sorted_graph_ids.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def quiescent_Kernel [hKernel : Cert.Kernel.Facts] [hPre_graph_ids : Cert.Pre_graph_ids.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))
      ∧ r.2.sem = fun _ => 0)

def quiescent_KernelIdeal [hKernelIdeal : Cert.KernelIdeal.Facts] [hPre_graph_ids : Cert.Pre_graph_ids.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ r.2.sem = fun _ => 0)

def quiescent_KernelIdeal_pre_sorted_graph_ids [hKernelIdeal : Cert.KernelIdeal.Facts] [hPre_sorted_graph_ids : Cert.Pre_sorted_graph_ids.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_sorted_graph_ids m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))
      ∧ r.2.sem = fun _ => 0)

def quiescent_ReferenceIdeal_pre_sorted_graph_ids [hReferenceIdeal : Cert.ReferenceIdeal.Facts] [hPre_sorted_graph_ids : Cert.Pre_sorted_graph_ids.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_sorted_graph_ids m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))
      ∧ r.2.sem = fun _ => 0)

def preserves_Kernel_KernelIdeal : Prop :=
  True

def algebraic_KernelIdeal_ReferenceIdeal_pre_sorted_graph_ids [hKernelIdeal : Cert.KernelIdeal.Facts] [hReferenceIdeal : Cert.ReferenceIdeal.Facts] [hPre_sorted_graph_ids : Cert.Pre_sorted_graph_ids.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_sorted_graph_ids m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v38) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_graph_ids : Cert.Pre_graph_ids.Facts) (hPre_sorted_graph_ids : Cert.Pre_sorted_graph_ids.Facts),
    quiescent_Kernel (hKernel := hKernel) (hPre_graph_ids := hPre_graph_ids)
    ∧ quiescent_KernelIdeal (hKernelIdeal := hKernelIdeal) (hPre_graph_ids := hPre_graph_ids)
    ∧ quiescent_KernelIdeal_pre_sorted_graph_ids (hKernelIdeal := hKernelIdeal) (hPre_sorted_graph_ids := hPre_sorted_graph_ids)
    ∧ quiescent_ReferenceIdeal (hReferenceIdeal := hReferenceIdeal)
    ∧ quiescent_ReferenceIdeal_pre_sorted_graph_ids (hReferenceIdeal := hReferenceIdeal) (hPre_sorted_graph_ids := hPre_sorted_graph_ids)
    ∧ preserves_Kernel_KernelIdeal
    ∧ algebraic_KernelIdeal_ReferenceIdeal_pre_sorted_graph_ids (hKernelIdeal := hKernelIdeal) (hReferenceIdeal := hReferenceIdeal) (hPre_sorted_graph_ids := hPre_sorted_graph_ids)
-- ==== Pre_graph_ids.lean ====
abbrev S100000x128 : Shape := ⟨2, ![100000, 128]⟩
abbrev S100000 : Shape := ⟨1, ![100000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S64x1 : Shape := ⟨2, ![64, 1]⟩
abbrev S1 : Shape := ⟨1, ![1]⟩
abbrev S256x128 : Shape := ⟨2, ![256, 128]⟩
abbrev S128x10 : Shape := ⟨2, ![128, 10]⟩
abbrev S10 : Shape := ⟨1, ![10]⟩
abbrev S_ : Shape := ⟨0, ![]⟩

class Facts : Prop where
  bcast_S_S100000 : S_.BroadcastsInDim S100000 (![] : Fin 0 → Fin S100000.rank)
  reducesTo_S100000_S_d0 : S100000.ReducesTo [0] S_
  h_S_ : 0 < S_.numel

variable [Facts]

def fn {F : FTy → Type} [FloatOps F] (main_arg0 : FVec F S100000x128 .f32) (main_arg1 : IVec S100000 32) (main_arg2 : FVec F S128x128 .f32) (main_arg3 : FVec F S128 .f32) (main_arg4 : FVec F S128x64 .f32) (main_arg5 : FVec F S64 .f32) (main_arg6 : FVec F S64x1 .f32) (main_arg7 : FVec F S1 .f32) (main_arg8 : FVec F S256x128 .f32) (main_arg9 : FVec F S128 .f32) (main_arg10 : FVec F S128x10 .f32) (main_arg11 : FVec F S10 .f32) : IVec S_ 1 :=
  let main_c : IVec S_ 32 := constantI S_ 32 0#32
  let main_v0 : IVec S100000 32 := broadcastInDim S100000 ![] bcast_S_S100000 main_c
  let main_v1 : IVec S100000 1 := cmpi .sge main_arg1 main_v0
  let main_c_0 : IVec S_ 1 := constantI S_ 1 1#1
  let main_v2 : IVec S_ 1 := (fun x v => Host.reduce IntOp.andi x v reducesTo_S100000_S_d0 h_S_) main_v1 main_c_0
  let main_c_1 : IVec S_ 32 := constantI S_ 32 256#32
  let main_v3 : IVec S100000 32 := broadcastInDim S100000 ![] bcast_S_S100000 main_c_1
  let main_v4 : IVec S100000 1 := cmpi .slt main_arg1 main_v3
  let main_c_2 : IVec S_ 1 := constantI S_ 1 1#1
  let main_v5 : IVec S_ 1 := (fun x v => Host.reduce IntOp.andi x v reducesTo_S100000_S_d0 h_S_) main_v4 main_c_2
  let main_v6 : IVec S_ 1 := andi main_v2 main_v5
  main_v6
-- ==== Pre_sorted_graph_ids.lean ====
abbrev S100000x128 : Shape := ⟨2, ![100000, 128]⟩
abbrev S100000 : Shape := ⟨1, ![100000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S64x1 : Shape := ⟨2, ![64, 1]⟩
abbrev S1 : Shape := ⟨1, ![1]⟩
abbrev S256x128 : Shape := ⟨2, ![256, 128]⟩
abbrev S128x10 : Shape := ⟨2, ![128, 10]⟩
abbrev S10 : Shape := ⟨1, ![10]⟩
abbrev S_ : Shape := ⟨0, ![]⟩
abbrev S99999 : Shape := ⟨1, ![99999]⟩

class Facts : Prop where
  bcast_S_S100000 : S_.BroadcastsInDim S100000 (![] : Fin 0 → Fin S100000.rank)
  reducesTo_S100000_S_d0 : S100000.ReducesTo [0] S_
  h_S_ : 0 < S_.numel
  slices_S100000_S99999_0 : S100000.Slices ![0] S99999
  slices_S100000_S99999_1 : S100000.Slices ![1] S99999
  reducesTo_S99999_S_d0 : S99999.ReducesTo [0] S_

variable [Facts]

def fn {F : FTy → Type} [FloatOps F] (main_arg0 : FVec F S100000x128 .f32) (main_arg1 : IVec S100000 32) (main_arg2 : FVec F S128x128 .f32) (main_arg3 : FVec F S128 .f32) (main_arg4 : FVec F S128x64 .f32) (main_arg5 : FVec F S64 .f32) (main_arg6 : FVec F S64x1 .f32) (main_arg7 : FVec F S1 .f32) (main_arg8 : FVec F S256x128 .f32) (main_arg9 : FVec F S128 .f32) (main_arg10 : FVec F S128x10 .f32) (main_arg11 : FVec F S10 .f32) : IVec S_ 1 :=
  let main_c : IVec S_ 32 := constantI S_ 32 0#32
  let main_v0 : IVec S100000 32 := broadcastInDim S100000 ![] bcast_S_S100000 main_c
  let main_v1 : IVec S100000 1 := cmpi .sge main_arg1 main_v0
  let main_c_0 : IVec S_ 1 := constantI S_ 1 1#1
  let main_v2 : IVec S_ 1 := (fun x v => Host.reduce IntOp.andi x v reducesTo_S100000_S_d0 h_S_) main_v1 main_c_0
  let main_c_1 : IVec S_ 32 := constantI S_ 32 256#32
  let main_v3 : IVec S100000 32 := broadcastInDim S100000 ![] bcast_S_S100000 main_c_1
  let main_v4 : IVec S100000 1 := cmpi .slt main_arg1 main_v3
  let main_c_2 : IVec S_ 1 := constantI S_ 1 1#1
  let main_v5 : IVec S_ 1 := (fun x v => Host.reduce IntOp.andi x v reducesTo_S100000_S_d0 h_S_) main_v4 main_c_2
  let main_v6 : IVec S_ 1 := andi main_v2 main_v5
  let main_v7 : IVec S99999 32 := (extractStridedSlice S99999 ![0] · slices_S100000_S99999_0) main_arg1
  let main_v8 : IVec S99999 32 := (extractStridedSlice S99999 ![1] · slices_S100000_S99999_1) main_arg1
  let main_v9 : IVec S99999 1 := cmpi .sle main_v7 main_v8
  let main_c_3 : IVec S_ 1 := constantI S_ 1 1#1
  let main_v10 : IVec S_ 1 := (fun x v => Host.reduce IntOp.andi x v reducesTo_S99999_S_d0 h_S_) main_v9 main_c_3
  let main_v11 : IVec S_ 1 := andi main_v6 main_v10
  main_v11
-- ==== Kernel.lean ====
abbrev S100000x128 : Shape := ⟨2, ![100000, 128]⟩
abbrev S100000 : Shape := ⟨1, ![100000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S64x1 : Shape := ⟨2, ![64, 1]⟩
abbrev S1 : Shape := ⟨1, ![1]⟩
abbrev S256x128 : Shape := ⟨2, ![256, 128]⟩
abbrev S128x10 : Shape := ⟨2, ![128, 10]⟩
abbrev S10 : Shape := ⟨1, ![10]⟩
abbrev S100000x1 : Shape := ⟨2, ![100000, 1]⟩
abbrev S50 : Shape := ⟨1, ![50]⟩
abbrev S320x128 : Shape := ⟨2, ![320, 128]⟩
abbrev S2000x128 : Shape := ⟨2, ![2000, 128]⟩
abbrev S2000x1 : Shape := ⟨2, ![2000, 1]⟩
abbrev S1x128 : Shape := ⟨2, ![1, 128]⟩
abbrev S2000x64 : Shape := ⟨2, ![2000, 64]⟩
abbrev S1x64 : Shape := ⟨2, ![1, 64]⟩
abbrev S1x1 : Shape := ⟨2, ![1, 1]⟩
abbrev S64x128 : Shape := ⟨2, ![64, 128]⟩
abbrev S320x10 : Shape := ⟨2, ![320, 10]⟩
abbrev S2000x10 : Shape := ⟨2, ![2000, 10]⟩
abbrev S1x10 : Shape := ⟨2, ![1, 10]⟩
abbrev S64x10 : Shape := ⟨2, ![64, 10]⟩
abbrev S256x10 : Shape := ⟨2, ![256, 10]⟩

abbrev nBuf : Space → Nat
  | .hbm => 19
  | .vmem => 27
  | .smem => 2
  | _ => 0

abbrev bufTy : (tb : Table) → Fin (tcTables nBuf tb) → BufTy
  | .hbm, ⟨0, _⟩ => ⟨S100000x128, .f32⟩
  | .hbm, ⟨1, _⟩ => ⟨S100000, .i32⟩
  | .hbm, ⟨2, _⟩ => ⟨S128x128, .f32⟩
  | .hbm, ⟨3, _⟩ => ⟨S128, .f32⟩
  | .hbm, ⟨4, _⟩ => ⟨S128x64, .f32⟩
  | .hbm, ⟨5, _⟩ => ⟨S64, .f32⟩
  | .hbm, ⟨6, _⟩ => ⟨S64x1, .f32⟩
  | .hbm, ⟨7, _⟩ => ⟨S1, .f32⟩
  | .hbm, ⟨8, _⟩ => ⟨S256x128, .f32⟩
  | .hbm, ⟨9, _⟩ => ⟨S128, .f32⟩
  | .hbm, ⟨10, _⟩ => ⟨S128x10, .f32⟩
  | .hbm, ⟨11, _⟩ => ⟨S10, .f32⟩
  | .hbm, ⟨12, _⟩ => ⟨S100000x1, .i32⟩
  | .hbm, ⟨13, _⟩ => ⟨S100000x1, .f32⟩
  | .hbm, ⟨14, _⟩ => ⟨S320x128, .f32⟩
  | .hbm, ⟨15, _⟩ => ⟨S128x128, .f32⟩
  | .hbm, ⟨16, _⟩ => ⟨S128x128, .f32⟩
  | .hbm, ⟨17, _⟩ => ⟨S320x10, .f32⟩
  | .hbm, ⟨18, _⟩ => ⟨S256x10, .f32⟩
  | .local _ .vmem, ⟨0, _⟩ => ⟨S2000x128, .f32⟩
  | .local _ .vmem, ⟨1, _⟩ => ⟨S2000x128, .f32⟩
  | .local _ .vmem, ⟨2, _⟩ => ⟨S2000x1, .i32⟩
  | .local _ .vmem, ⟨3, _⟩ => ⟨S2000x1, .i32⟩
  | .local _ .vmem, ⟨4, _⟩ => ⟨S128x128, .f32⟩
  | .local _ .vmem, ⟨5, _⟩ => ⟨S128, .f32⟩
  | .local _ .vmem, ⟨6, _⟩ => ⟨S128x64, .f32⟩
  | .local _ .vmem, ⟨7, _⟩ => ⟨S64, .f32⟩
  | .local _ .vmem, ⟨8, _⟩ => ⟨S64x1, .f32⟩
  | .local _ .vmem, ⟨9, _⟩ => ⟨S1, .f32⟩
  | .local _ .vmem, ⟨10, _⟩ => ⟨S2000x1, .f32⟩
  | .local _ .vmem, ⟨11, _⟩ => ⟨S2000x1, .f32⟩
  | .local _ .vmem, ⟨12, _⟩ => ⟨S320x128, .f32⟩
  | .local _ .vmem, ⟨13, _⟩ => ⟨S2000x128, .f32⟩
  | .local _ .vmem, ⟨14, _⟩ => ⟨S2000x128, .f32⟩
  | .local _ .vmem, ⟨15, _⟩ => ⟨S2000x1, .i32⟩
  | .local _ .vmem, ⟨16, _⟩ => ⟨S2000x1, .i32⟩
  | .local _ .vmem, ⟨17, _⟩ => ⟨S2000x1, .f32⟩
  | .local _ .vmem, ⟨18, _⟩ => ⟨S2000x1, .f32⟩
  | .local _ .vmem, ⟨19, _⟩ => ⟨S320x128, .f32⟩
  | .local _ .vmem, ⟨20, _⟩ => ⟨S128x128, .f32⟩
  | .local _ .vmem, ⟨21, _⟩ => ⟨S128x128, .f32⟩
  | .local _ .vmem, ⟨22, _⟩ => ⟨S128, .f32⟩
  | .local _ .vmem, ⟨23, _⟩ => ⟨S128x10, .f32⟩
  | .local _ .vmem, ⟨24, _⟩ => ⟨S10, .f32⟩
  | .local _ .vmem, ⟨25, _⟩ => ⟨S320x10, .f32⟩
  | .local _ .vmem, ⟨26, _⟩ => ⟨S320x128, .f32⟩
  | .local _ .smem, ⟨0, _⟩ => ⟨S50, .i32⟩
  | .local _ .smem, ⟨1, _⟩ => ⟨S50, .i32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v3_0 : Ref sig .tc := ⟨.hbm, 13, rfl⟩
abbrev main_v3_1 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v1 : Ref sig .tc := ⟨.smem, 0, rfl⟩
abbrev main_v2 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc1_stg0_0 : Ref sig .tc := ⟨.vmem, 13, rfl⟩
abbrev cc1_stg0_1 : Ref sig .tc := ⟨.vmem, 14, rfl⟩
abbrev cc1_stg1_0 : Ref sig .tc := ⟨.vmem, 15, rfl⟩
abbrev cc1_stg1_1 : Ref sig .tc := ⟨.vmem, 16, rfl⟩
abbrev cc1_stg2_0 : Ref sig .tc := ⟨.vmem, 17, rfl⟩
abbrev cc1_stg2_1 : Ref sig .tc := ⟨.vmem, 18, rfl⟩
abbrev cc1_stg3_0 : Ref sig .tc := ⟨.vmem, 19, rfl⟩
abbrev cc1_stg4_0 : Ref sig .tc := ⟨.vmem, 20, rfl⟩
abbrev cc1_stg5_0 : Ref sig .tc := ⟨.vmem, 21, rfl⟩
abbrev cc1_stg6_0 : Ref sig .tc := ⟨.vmem, 22, rfl⟩
abbrev cc1_stg7_0 : Ref sig .tc := ⟨.vmem, 23, rfl⟩
abbrev cc1_stg8_0 : Ref sig .tc := ⟨.vmem, 24, rfl⟩
abbrev cc1_stg9_0 : Ref sig .tc := ⟨.vmem, 25, rfl⟩
abbrev cc1_scratch0 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem8_1 : DmaSem sig := 11
abbrev cc0_sem9_0 : DmaSem sig := 12
abbrev cc1_sem0_0 : DmaSem sig := 13
abbrev cc1_sem0_1 : DmaSem sig := 14
abbrev cc1_sem1_0 : DmaSem sig := 15
abbrev cc1_sem1_1 : DmaSem sig := 16
abbrev cc1_sem2_0 : DmaSem sig := 17
abbrev cc1_sem2_1 : DmaSem sig := 18
abbrev cc1_sem3_0 : DmaSem sig := 19
abbrev cc1_sem4_0 : DmaSem sig := 20
abbrev cc1_sem5_0 : DmaSem sig := 21
abbrev cc1_sem6_0 : DmaSem sig := 22
abbrev cc1_sem7_0 : DmaSem sig := 23
abbrev cc1_sem8_0 : DmaSem sig := 24
abbrev cc1_sem9_0 : DmaSem sig := 25

abbrev nD : Nat := 1
abbrev τ : Topo := Topo.v7x

variable {F : FTy → Type} [FloatOps F]

abbrev grid0 : Pipeline.Grid := ⟨1, ![50], ![false]⟩

abbrev pre0 : Pipeline.Prefetch sig := ⟨2, ![main_v1.idx, main_v2.idx], fun | 0 => main_v1.names | 1 => main_v2.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v29 : Index := Scalar.indexCast arg0
  ![v29.toNat]
@[reducible] def k0_t1_loop (v30 : BitVec 32) (v32 : BitVec 32) : Scf.Loop 32 :=
  let c0_i32_25 : BitVec 32 := 0#32
  let v33 : BitVec 32 := Scalar.subi v32 v30
  let c0_i32_19 : BitVec 32 := 0#32
  let v35 : BitVec 1 := Scalar.cmpi .sgt v33 c0_i32_19
  let v36 : BitVec 32 := Scalar.extui v35
  let c0_i32_20 : BitVec 32 := 0#32
  let v37 : BitVec 1 := Scalar.cmpi .slt v33 c0_i32_20
  let v38 : BitVec 32 := Scalar.extui v37
  let v39 : BitVec 32 := Scalar.subi v36 v38
  let c64_i32 : BitVec 32 := 64#32
  let c0_i32_21 : BitVec 32 := 0#32
  let v40 : BitVec 1 := Scalar.cmpi .sgt c64_i32 c0_i32_21
  let v41 : BitVec 32 := Scalar.extui v40
  let c0_i32_22 : BitVec 32 := 0#32
  let v42 : BitVec 1 := Scalar.cmpi .slt c64_i32 c0_i32_22
  let v43 : BitVec 32 := Scalar.extui v42
  let v44 : BitVec 32 := Scalar.subi v41 v43
  let v45 : BitVec 1 := Scalar.cmpi .ne v39 v44
  let v46 : BitVec 32 := Scalar.remsi v33 c64_i32
  let c0_i32_23 : BitVec 32 := 0#32
  let v47 : BitVec 1 := Scalar.cmpi .ne v46 c0_i32_23
  let v48 : BitVec 1 := Scalar.andi v45 v47
  let v34 : BitVec 32 := Scalar.divsi v33 c64_i32
  let c1_i32 : BitVec 32 := 1#32
  let v49 : BitVec 32 := Scalar.subi v34 c1_i32
  let v50 : BitVec 32 := Scalar.select v48 v49 v34
  let c1_i32_24 : BitVec 32 := 1#32
  let v51 : BitVec 32 := Scalar.addi v50 c1_i32_24
  let v52 : BitVec 32 := Scalar.subi v51 c0_i32_25
  let c1_i32_27 : BitVec 32 := 1#32
  let v54 : BitVec 32 := Scalar.divsi v52 c1_i32_27
  let v55 : BitVec 32 := Scalar.muli v54 c1_i32_27
  let v56 : BitVec 32 := Scalar.addi c0_i32_25 v55
  let c1_i32_28 : BitVec 32 := 1#32
  ⟨c0_i32_25, v56, c1_i32_28⟩

def k0_off2 (v30 : BitVec 32) (v32 : BitVec 32) (k0_t1 : Fin (k0_t1_loop v30 v32).trips) : Fin 2 → Nat :=
  let c0_i32_25 : BitVec 32 := 0#32
  let c1_i32_28 : BitVec 32 := 1#32
  let arg13 : BitVec 32 := Scf.iv c0_i32_25 c1_i32_28 k0_t1
  let c64_i32_30 : BitVec 32 := 64#32
  let v59 : BitVec 32 := Scalar.muli arg13 c64_i32_30
  let v60 : BitVec 32 := Scalar.addi v30 v59
  let v70 : Index := Scalar.indexCast v60
  let c0_32 : Index := 0#32
  ![v70.toNat, 0]
@[reducible] def k0_t2_loop (v30 : BitVec 32) (v32 : BitVec 32) : Scf.Loop 32 :=
  let c0_i32_25 : BitVec 32 := 0#32
  let v33 : BitVec 32 := Scalar.subi v32 v30
  let c0_i32_19 : BitVec 32 := 0#32
  let v35 : BitVec 1 := Scalar.cmpi .sgt v33 c0_i32_19
  let v36 : BitVec 32 := Scalar.extui v35
  let c0_i32_20 : BitVec 32 := 0#32
  let v37 : BitVec 1 := Scalar.cmpi .slt v33 c0_i32_20
  let v38 : BitVec 32 := Scalar.extui v37
  let v39 : BitVec 32 := Scalar.subi v36 v38
  let c64_i32 : BitVec 32 := 64#32
  let c0_i32_21 : BitVec 32 := 0#32
  let v40 : BitVec 1 := Scalar.cmpi .sgt c64_i32 c0_i32_21
  let v41 : BitVec 32 := Scalar.extui v40
  let c0_i32_22 : BitVec 32 := 0#32
  let v42 : BitVec 1 := Scalar.cmpi .slt c64_i32 c0_i32_22
  let v43 : BitVec 32 := Scalar.extui v42
  let v44 : BitVec 32 := Scalar.subi v41 v43
  let v45 : BitVec 1 := Scalar.cmpi .ne v39 v44
  let v46 : BitVec 32 := Scalar.remsi v33 c64_i32
  let c0_i32_23 : BitVec 32 := 0#32
  let v47 : BitVec 1 := Scalar.cmpi .ne v46 c0_i32_23
  let v48 : BitVec 1 := Scalar.andi v45 v47
  let v34 : BitVec 32 := Scalar.divsi v33 c64_i32
  let c1_i32 : BitVec 32 := 1#32
  let v49 : BitVec 32 := Scalar.subi v34 c1_i32
  let v50 : BitVec 32 := Scalar.select v48 v49 v34
  let c1_i32_24 : BitVec 32 := 1#32
  let v51 : BitVec 32 := Scalar.addi v50 c1_i32_24
  let v52 : BitVec 32 := Scalar.subi v51 c0_i32_25
  let c1_i32_27 : BitVec 32 := 1#32
  let v54 : BitVec 32 := Scalar.divsi v52 c1_i32_27
  let v55 : BitVec 32 := Scalar.muli v54 c1_i32_27
  let v56 : BitVec 32 := Scalar.addi c0_i32_25 v55
  let v53 : BitVec 32 := Scalar.addi c0_i32_25 v52
  let c1_i32_29 : BitVec 32 := 1#32
  ⟨v56, v53, c1_i32_29⟩
def k0_off3 (v30 : BitVec 32) (v32 : BitVec 32) (k0_t2 : Fin (k0_t2_loop v30 v32).trips) : Fin 2 → Nat :=
  let c0_i32_25 : BitVec 32 := 0#32
  let v33 : BitVec 32 := Scalar.subi v32 v30
  let c0_i32_19 : BitVec 32 := 0#32
  let v35 : BitVec 1 := Scalar.cmpi .sgt v33 c0_i32_19
  let v36 : BitVec 32 := Scalar.extui v35
  let c0_i32_20 : BitVec 32 := 0#32
  let v37 : BitVec 1 := Scalar.cmpi .slt v33 c0_i32_20
  let v38 : BitVec 32 := Scalar.extui v37
  let v39 : BitVec 32 := Scalar.subi v36 v38
  let c64_i32 : BitVec 32 := 64#32
  let c0_i32_21 : BitVec 32 := 0#32
  let v40 : BitVec 1 := Scalar.cmpi .sgt c64_i32 c0_i32_21
  let v41 : BitVec 32 := Scalar.extui v40
  let c0_i32_22 : BitVec 32 := 0#32
  let v42 : BitVec 1 := Scalar.cmpi .slt c64_i32 c0_i32_22
  let v43 : BitVec 32 := Scalar.extui v42
  let v44 : BitVec 32 := Scalar.subi v41 v43
  let v45 : BitVec 1 := Scalar.cmpi .ne v39 v44
  let v46 : BitVec 32 := Scalar.remsi v33 c64_i32
  let c0_i32_23 : BitVec 32 := 0#32
  let v47 : BitVec 1 := Scalar.cmpi .ne v46 c0_i32_23
  let v48 : BitVec 1 := Scalar.andi v45 v47
  let v34 : BitVec 32 := Scalar.divsi v33 c64_i32
  let c1_i32 : BitVec 32 := 1#32
  let v49 : BitVec 32 := Scalar.subi v34 c1_i32
  let v50 : BitVec 32 := Scalar.select v48 v49 v34
  let c1_i32_24 : BitVec 32 := 1#32
  let v51 : BitVec 32 := Scalar.addi v50 c1_i32_24
  let v52 : BitVec 32 := Scalar.subi v51 c0_i32_25
  let c1_i32_27 : BitVec 32 := 1#32
  let v54 : BitVec 32 := Scalar.divsi v52 c1_i32_27
  let v55 : BitVec 32 := Scalar.muli v54 c1_i32_27
  let v56 : BitVec 32 := Scalar.addi c0_i32_25 v55
  let c1_i32_29 : BitVec 32 := 1#32
  let arg13 : BitVec 32 := Scf.iv v56 c1_i32_29 k0_t2
  let c64_i32_30 : BitVec 32 := 64#32
  let v59 : BitVec 32 := Scalar.muli arg13 c64_i32_30
  let v60 : BitVec 32 := Scalar.addi v30 v59
  let v70 : Index := Scalar.indexCast v60
  let c0_32 : Index := 0#32
  ![v70.toNat, 0]

def k0_chk1 (v30 : BitVec 32) (v32 : BitVec 32) : Prop :=
  ((k0_t1_loop v30 v32).OK) ∧
  (∀ k0_t1 : Fin (k0_t1_loop v30 v32).trips, ∀ a, (k0_off2 v30 v32 k0_t1) a + S64x128.size a ≤ S320x128.size a) ∧
  ((k0_t2_loop v30 v32).OK) ∧
  (∀ k0_t2 : Fin (k0_t2_loop v30 v32).trips, ∀ a, (k0_off3 v30 v32 k0_t2) a + S64x128.size a ≤ S320x128.size a)
theorem k0_t1_ok : ∀ (v30 : BitVec 32) (v32 : BitVec 32) (k0_hw1 : k0_chk1 v30 v32), (k0_t1_loop v30 v32).OK := fun v30 v32 k0_hw1 => k0_hw1.1
theorem k0_off2_inb : ∀ (v30 : BitVec 32) (v32 : BitVec 32) (k0_hw1 : k0_chk1 v30 v32) (k0_t1 : Fin (k0_t1_loop v30 v32).trips), ∀ a, (k0_off2 v30 v32 k0_t1) a + S64x128.size a ≤ S320x128.size a := fun v30 v32 k0_hw1 k0_t1 => k0_hw1.2.1 k0_t1
theorem k0_t2_ok : ∀ (v30 : BitVec 32) (v32 : BitVec 32) (k0_hw1 : k0_chk1 v30 v32), (k0_t2_loop v30 v32).OK := fun v30 v32 k0_hw1 => k0_hw1.2.2.1
theorem k0_off3_inb : ∀ (v30 : BitVec 32) (v32 : BitVec 32) (k0_hw1 : k0_chk1 v30 v32) (k0_t2 : Fin (k0_t2_loop v30 v32).trips), ∀ a, (k0_off3 v30 v32 k0_t2) a + S64x128.size a ≤ S320x128.size a := fun v30 v32 k0_hw1 k0_t2 => k0_hw1.2.2.2 k0_t2

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x1 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S64x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S2000x1 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S320x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev grid1 : Pipeline.Grid := ⟨1, ![50], ![false]⟩

abbrev pre1 : Pipeline.Prefetch sig := ⟨2, ![main_v1.idx, main_v2.idx], fun | 0 => main_v1.names | 1 => main_v2.names | ⟨_ + 2, h⟩ => absurd h (Nat.not_lt.2 (Nat.le_add_left _ _)), fun | 0 => rfl | 1 => rfl | ⟨_ + 2, h⟩ => absurd h (Nat.not_lt.2 (Nat.le_add_left _ _))⟩

def k1_off1 (i : grid1.Coords) : Fin 1 → Nat :=
  let arg0 : BitVec 32 := BitVec.ofNat 32 (i 0).val
  let v9 : Index := Scalar.indexCast arg0
  ![v9.toNat]
@[reducible] def k1_t1_loop (v10 : BitVec 32) (v12 : BitVec 32) : Scf.Loop 32 :=
  let c0_i32_13 : BitVec 32 := 0#32
  let v13 : BitVec 32 := Scalar.subi v12 v10
  let c0_i32_6 : BitVec 32 := 0#32
  let v15 : BitVec 1 := Scalar.cmpi .sgt v13 c0_i32_6
  let v16 : BitVec 32 := Scalar.extui v15
  let c0_i32_7 : BitVec 32 := 0#32
  let v17 : BitVec 1 := Scalar.cmpi .slt v13 c0_i32_7
  let v18 : BitVec 32 := Scalar.extui v17
  let v19 : BitVec 32 := Scalar.subi v16 v18
  let c64_i32 : BitVec 32 := 64#32
  let c0_i32_8 : BitVec 32 := 0#32
  let v20 : BitVec 1 := Scalar.cmpi .sgt c64_i32 c0_i32_8
  let v21 : BitVec 32 := Scalar.extui v20
  let c0_i32_9 : BitVec 32 := 0#32
  let v22 : BitVec 1 := Scalar.cmpi .slt c64_i32 c0_i32_9
  let v23 : BitVec 32 := Scalar.extui v22
  let v24 : BitVec 32 := Scalar.subi v21 v23
  let v25 : BitVec 1 := Scalar.cmpi .ne v19 v24
  let v26 : BitVec 32 := Scalar.remsi v13 c64_i32
  let c0_i32_10 : BitVec 32 := 0#32
  let v27 : BitVec 1 := Scalar.cmpi .ne v26 c0_i32_10
  let v28 : BitVec 1 := Scalar.andi v25 v27
  let v14 : BitVec 32 := Scalar.divsi v13 c64_i32
  let c1_i32 : BitVec 32 := 1#32
  let v29 : BitVec 32 := Scalar.subi v14 c1_i32
  let v30 : BitVec 32 := Scalar.select v28 v29 v14
  let c1_i32_11 : BitVec 32 := 1#32
  let v31 : BitVec 32 := Scalar.addi v30 c1_i32_11
  let v33 : BitVec 32 := Scalar.subi v31 c0_i32_13
  let c1_i32_14 : BitVec 32 := 1#32
  let v35 : BitVec 32 := Scalar.divsi v33 c1_i32_14
  let v36 : BitVec 32 := Scalar.muli v35 c1_i32_14
  let v37 : BitVec 32 := Scalar.addi c0_i32_13 v36
  let c1_i32_15 : BitVec 32 := 1#32
  ⟨c0_i32_13, v37, c1_i32_15⟩

def k1_off2 (v10 : BitVec 32) (v12 : BitVec 32) (k1_t1 : Fin (k1_t1_loop v10 v12).trips) : Fin 2 → Nat :=
  let c0_i32_13 : BitVec 32 := 0#32
  let c1_i32_15 : BitVec 32 := 1#32
  let arg14 : BitVec 32 := Scf.iv c0_i32_13 c1_i32_15 k1_t1
  let c64_i32_29 : BitVec 32 := 64#32
  let v60 : BitVec 32 := Scalar.muli arg14 c64_i32_29
  let v61 : BitVec 32 := Scalar.addi v10 v60
  let v70 : Index := Scalar.indexCast v61
  let c0_30 : Index := 0#32
  ![v70.toNat, 0]
@[reducible] def k1_t2_loop (v10 : BitVec 32) (v12 : BitVec 32) : Scf.Loop 32 :=
  let c0_i32_13 : BitVec 32 := 0#32
  let v13 : BitVec 32 := Scalar.subi v12 v10
  let c0_i32_6 : BitVec 32 := 0#32
  let v15 : BitVec 1 := Scalar.cmpi .sgt v13 c0_i32_6
  let v16 : BitVec 32 := Scalar.extui v15
  let c0_i32_7 : BitVec 32 := 0#32
  let v17 : BitVec 1 := Scalar.cmpi .slt v13 c0_i32_7
  let v18 : BitVec 32 := Scalar.extui v17
  let v19 : BitVec 32 := Scalar.subi v16 v18
  let c64_i32 : BitVec 32 := 64#32
  let c0_i32_8 : BitVec 32 := 0#32
  let v20 : BitVec 1 := Scalar.cmpi .sgt c64_i32 c0_i32_8
  let v21 : BitVec 32 := Scalar.extui v20
  let c0_i32_9 : BitVec 32 := 0#32
  let v22 : BitVec 1 := Scalar.cmpi .slt c64_i32 c0_i32_9
  let v23 : BitVec 32 := Scalar.extui v22
  let v24 : BitVec 32 := Scalar.subi v21 v23
  let v25 : BitVec 1 := Scalar.cmpi .ne v19 v24
  let v26 : BitVec 32 := Scalar.remsi v13 c64_i32
  let c0_i32_10 : BitVec 32 := 0#32
  let v27 : BitVec 1 := Scalar.cmpi .ne v26 c0_i32_10
  let v28 : BitVec 1 := Scalar.andi v25 v27
  let v14 : BitVec 32 := Scalar.divsi v13 c64_i32
  let c1_i32 : BitVec 32 := 1#32
  let v29 : BitVec 32 := Scalar.subi v14 c1_i32
  let v30 : BitVec 32 := Scalar.select v28 v29 v14
  let c1_i32_11 : BitVec 32 := 1#32
  let v31 : BitVec 32 := Scalar.addi v30 c1_i32_11
  let v33 : BitVec 32 := Scalar.subi v31 c0_i32_13
  let c1_i32_14 : BitVec 32 := 1#32
  let v35 : BitVec 32 := Scalar.divsi v33 c1_i32_14
  let v36 : BitVec 32 := Scalar.muli v35 c1_i32_14
  let v37 : BitVec 32 := Scalar.addi c0_i32_13 v36
  let v34 : BitVec 32 := Scalar.addi c0_i32_13 v33
  let c1_i32_16 : BitVec 32 := 1#32
  ⟨v37, v34, c1_i32_16⟩
def k1_off3 (v10 : BitVec 32) (v12 : BitVec 32) (k1_t2 : Fin (k1_t2_loop v10 v12).trips) : Fin 2 → Nat :=
  let c0_i32_13 : BitVec 32 := 0#32
  let v13 : BitVec 32 := Scalar.subi v12 v10
  let c0_i32_6 : BitVec 32 := 0#32
  let v15 : BitVec 1 := Scalar.cmpi .sgt v13 c0_i32_6
  let v16 : BitVec 32 := Scalar.extui v15
  let c0_i32_7 : BitVec 32 := 0#32
  let v17 : BitVec 1 := Scalar.cmpi .slt v13 c0_i32_7
  let v18 : BitVec 32 := Scalar.extui v17
  let v19 : BitVec 32 := Scalar.subi v16 v18
  let c64_i32 : BitVec 32 := 64#32
  let c0_i32_8 : BitVec 32 := 0#32
  let v20 : BitVec 1 := Scalar.cmpi .sgt c64_i32 c0_i32_8
  let v21 : BitVec 32 := Scalar.extui v20
  let c0_i32_9 : BitVec 32 := 0#32
  let v22 : BitVec 1 := Scalar.cmpi .slt c64_i32 c0_i32_9
  let v23 : BitVec 32 := Scalar.extui v22
  let v24 : BitVec 32 := Scalar.subi v21 v23
  let v25 : BitVec 1 := Scalar.cmpi .ne v19 v24
  let v26 : BitVec 32 := Scalar.remsi v13 c64_i32
  let c0_i32_10 : BitVec 32 := 0#32
  let v27 : BitVec 1 := Scalar.cmpi .ne v26 c0_i32_10
  let v28 : BitVec 1 := Scalar.andi v25 v27
  let v14 : BitVec 32 := Scalar.divsi v13 c64_i32
  let c1_i32 : BitVec 32 := 1#32
  let v29 : BitVec 32 := Scalar.subi v14 c1_i32
  let v30 : BitVec 32 := Scalar.select v28 v29 v14
  let c1_i32_11 : BitVec 32 := 1#32
  let v31 : BitVec 32 := Scalar.addi v30 c1_i32_11
  let v33 : BitVec 32 := Scalar.subi v31 c0_i32_13
  let c1_i32_14 : BitVec 32 := 1#32
  let v35 : BitVec 32 := Scalar.divsi v33 c1_i32_14
  let v36 : BitVec 32 := Scalar.muli v35 c1_i32_14
  let v37 : BitVec 32 := Scalar.addi c0_i32_13 v36
  let c1_i32_16 : BitVec 32 := 1#32
  let arg14 : BitVec 32 := Scf.iv v37 c1_i32_16 k1_t2
  let c64_i32_29 : BitVec 32 := 64#32
  let v60 : BitVec 32 := Scalar.muli arg14 c64_i32_29
  let v61 : BitVec 32 := Scalar.addi v10 v60
  let v70 : Index := Scalar.indexCast v61
  let c0_30 : Index := 0#32
  ![v70.toNat, 0]
@[reducible] def k1_t3_loop (v10 : BitVec 32) (v12 : BitVec 32) : Scf.Loop 32 :=
  let c0_i32_24 : BitVec 32 := 0#32
  let v13 : BitVec 32 := Scalar.subi v12 v10
  let c0_i32_6 : BitVec 32 := 0#32
  let v15 : BitVec 1 := Scalar.cmpi .sgt v13 c0_i32_6
  let v16 : BitVec 32 := Scalar.extui v15
  let c0_i32_7 : BitVec 32 := 0#32
  let v17 : BitVec 1 := Scalar.cmpi .slt v13 c0_i32_7
  let v18 : BitVec 32 := Scalar.extui v17
  let v19 : BitVec 32 := Scalar.subi v16 v18
  let c64_i32 : BitVec 32 := 64#32
  let c0_i32_8 : BitVec 32 := 0#32
  let v20 : BitVec 1 := Scalar.cmpi .sgt c64_i32 c0_i32_8
  let v21 : BitVec 32 := Scalar.extui v20
  let c0_i32_9 : BitVec 32 := 0#32
  let v22 : BitVec 1 := Scalar.cmpi .slt c64_i32 c0_i32_9
  let v23 : BitVec 32 := Scalar.extui v22
  let v24 : BitVec 32 := Scalar.subi v21 v23
  let v25 : BitVec 1 := Scalar.cmpi .ne v19 v24
  let v26 : BitVec 32 := Scalar.remsi v13 c64_i32
  let c0_i32_10 : BitVec 32 := 0#32
  let v27 : BitVec 1 := Scalar.cmpi .ne v26 c0_i32_10
  let v28 : BitVec 1 := Scalar.andi v25 v27
  let v14 : BitVec 32 := Scalar.divsi v13 c64_i32
  let c1_i32 : BitVec 32 := 1#32
  let v29 : BitVec 32 := Scalar.subi v14 c1_i32
  let v30 : BitVec 32 := Scalar.select v28 v29 v14
  let c1_i32_11 : BitVec 32 := 1#32
  let v31 : BitVec 32 := Scalar.addi v30 c1_i32_11
  let v53 : BitVec 32 := Scalar.subi v31 c0_i32_24
  let c1_i32_26 : BitVec 32 := 1#32
  let v55 : BitVec 32 := Scalar.divsi v53 c1_i32_26
  let v56 : BitVec 32 := Scalar.muli v55 c1_i32_26
  let v57 : BitVec 32 := Scalar.addi c0_i32_24 v56
  let c1_i32_27 : BitVec 32 := 1#32
  ⟨c0_i32_24, v57, c1_i32_27⟩
def k1_off4 (v10 : BitVec 32) (v12 : BitVec 32) (k1_t3 : Fin (k1_t3_loop v10 v12).trips) : Fin 2 → Nat :=
  let c0_i32_24 : BitVec 32 := 0#32
  let c1_i32_27 : BitVec 32 := 1#32
  let arg14 : BitVec 32 := Scf.iv c0_i32_24 c1_i32_27 k1_t3
  let c64_i32_29 : BitVec 32 := 64#32
  let v60 : BitVec 32 := Scalar.muli arg14 c64_i32_29
  let v61 : BitVec 32 := Scalar.addi v10 v60
  let v71 : Index := Scalar.indexCast v61
  let c0_31 : Index := 0#32
  ![v71.toNat, 0]
@[reducible] def k1_t4_loop (v10 : BitVec 32) (v12 : BitVec 32) : Scf.Loop 32 :=
  let c0_i32_24 : BitVec 32 := 0#32
  let v13 : BitVec 32 := Scalar.subi v12 v10
  let c0_i32_6 : BitVec 32 := 0#32
  let v15 : BitVec 1 := Scalar.cmpi .sgt v13 c0_i32_6
  let v16 : BitVec 32 := Scalar.extui v15
  let c0_i32_7 : BitVec 32 := 0#32
  let v17 : BitVec 1 := Scalar.cmpi .slt v13 c0_i32_7
  let v18 : BitVec 32 := Scalar.extui v17
  let v19 : BitVec 32 := Scalar.subi v16 v18
  let c64_i32 : BitVec 32 := 64#32
  let c0_i32_8 : BitVec 32 := 0#32
  let v20 : BitVec 1 := Scalar.cmpi .sgt c64_i32 c0_i32_8
  let v21 : BitVec 32 := Scalar.extui v20
  let c0_i32_9 : BitVec 32 := 0#32
  let v22 : BitVec 1 := Scalar.cmpi .slt c64_i32 c0_i32_9
  let v23 : BitVec 32 := Scalar.extui v22
  let v24 : BitVec 32 := Scalar.subi v21 v23
  let v25 : BitVec 1 := Scalar.cmpi .ne v19 v24
  let v26 : BitVec 32 := Scalar.remsi v13 c64_i32
  let c0_i32_10 : BitVec 32 := 0#32
  let v27 : BitVec 1 := Scalar.cmpi .ne v26 c0_i32_10
  let v28 : BitVec 1 := Scalar.andi v25 v27
  let v14 : BitVec 32 := Scalar.divsi v13 c64_i32
  let c1_i32 : BitVec 32 := 1#32
  let v29 : BitVec 32 := Scalar.subi v14 c1_i32
  let v30 : BitVec 32 := Scalar.select v28 v29 v14
  let c1_i32_11 : BitVec 32 := 1#32
  let v31 : BitVec 32 := Scalar.addi v30 c1_i32_11
  let v53 : BitVec 32 := Scalar.subi v31 c0_i32_24
  let c1_i32_26 : BitVec 32 := 1#32
  let v55 : BitVec 32 := Scalar.divsi v53 c1_i32_26
  let v56 : BitVec 32 := Scalar.muli v55 c1_i32_26
  let v57 : BitVec 32 := Scalar.addi c0_i32_24 v56
  let v54 : BitVec 32 := Scalar.addi c0_i32_24 v53
  let c1_i32_28 : BitVec 32 := 1#32
  ⟨v57, v54, c1_i32_28⟩
def k1_off5 (v10 : BitVec 32) (v12 : BitVec 32) (k1_t4 : Fin (k1_t4_loop v10 v12).trips) : Fin 2 → Nat :=
  let c0_i32_24 : BitVec 32 := 0#32
  let v13 : BitVec 32 := Scalar.subi v12 v10
  let c0_i32_6 : BitVec 32 := 0#32
  let v15 : BitVec 1 := Scalar.cmpi .sgt v13 c0_i32_6
  let v16 : BitVec 32 := Scalar.extui v15
  let c0_i32_7 : BitVec 32 := 0#32
  let v17 : BitVec 1 := Scalar.cmpi .slt v13 c0_i32_7
  let v18 : BitVec 32 := Scalar.extui v17
  let v19 : BitVec 32 := Scalar.subi v16 v18
  let c64_i32 : BitVec 32 := 64#32
  let c0_i32_8 : BitVec 32 := 0#32
  let v20 : BitVec 1 := Scalar.cmpi .sgt c64_i32 c0_i32_8
  let v21 : BitVec 32 := Scalar.extui v20
  let c0_i32_9 : BitVec 32 := 0#32
  let v22 : BitVec 1 := Scalar.cmpi .slt c64_i32 c0_i32_9
  let v23 : BitVec 32 := Scalar.extui v22
  let v24 : BitVec 32 := Scalar.subi v21 v23
  let v25 : BitVec 1 := Scalar.cmpi .ne v19 v24
  let v26 : BitVec 32 := Scalar.remsi v13 c64_i32
  let c0_i32_10 : BitVec 32 := 0#32
  let v27 : BitVec 1 := Scalar.cmpi .ne v26 c0_i32_10
  let v28 : BitVec 1 := Scalar.andi v25 v27
  let v14 : BitVec 32 := Scalar.divsi v13 c64_i32
  let c1_i32 : BitVec 32 := 1#32
  let v29 : BitVec 32 := Scalar.subi v14 c1_i32
  let v30 : BitVec 32 := Scalar.select v28 v29 v14
  let c1_i32_11 : BitVec 32 := 1#32
  let v31 : BitVec 32 := Scalar.addi v30 c1_i32_11
  let v53 : BitVec 32 := Scalar.subi v31 c0_i32_24
  let c1_i32_26 : BitVec 32 := 1#32
  let v55 : BitVec 32 := Scalar.divsi v53 c1_i32_26
  let v56 : BitVec 32 := Scalar.muli v55 c1_i32_26
  let v57 : BitVec 32 := Scalar.addi c0_i32_24 v56
  let c1_i32_28 : BitVec 32 := 1#32
  let arg14 : BitVec 32 := Scf.iv v57 c1_i32_28 k1_t4
  let c64_i32_29 : BitVec 32 := 64#32
  let v60 : BitVec 32 := Scalar.muli arg14 c64_i32_29
  let v61 : BitVec 32 := Scalar.addi v10 v60
  let v71 : Index := Scalar.indexCast v61
  let c0_31 : Index := 0#32
  ![v71.toNat, 0]

def k1_chk1 (v10 : BitVec 32) (v12 : BitVec 32) : Prop :=
  ((k1_t1_loop v10 v12).OK) ∧
  (∀ k1_t1 : Fin (k1_t1_loop v10 v12).trips, ∀ a, (k1_off2 v10 v12 k1_t1) a + S64x128.size a ≤ S320x128.size a) ∧
  ((k1_t2_loop v10 v12).OK) ∧
  (∀ k1_t2 : Fin (k1_t2_loop v10 v12).trips, ∀ a, (k1_off3 v10 v12 k1_t2) a + S64x128.size a ≤ S320x128.size a) ∧
  ((k1_t3_loop v10 v12).OK) ∧
  (∀ k1_t3 : Fin (k1_t3_loop v10 v12).trips, ∀ a, (k1_off4 v10 v12 k1_t3) a + S64x10.size a ≤ S320x10.size a) ∧
  ((k1_t4_loop v10 v12).OK) ∧
  (∀ k1_t4 : Fin (k1_t4_loop v10 v12).trips, ∀ a, (k1_off5 v10 v12 k1_t4) a + S64x10.size a ≤ S320x10.size a)
theorem k1_t1_ok : ∀ (v10 : BitVec 32) (v12 : BitVec 32) (k1_hw1 : k1_chk1 v10 v12), (k1_t1_loop v10 v12).OK := fun v10 v12 k1_hw1 => k1_hw1.1
theorem k1_off2_inb : ∀ (v10 : BitVec 32) (v12 : BitVec 32) (k1_hw1 : k1_chk1 v10 v12) (k1_t1 : Fin (k1_t1_loop v10 v12).trips), ∀ a, (k1_off2 v10 v12 k1_t1) a + S64x128.size a ≤ S320x128.size a := fun v10 v12 k1_hw1 k1_t1 => k1_hw1.2.1 k1_t1
theorem k1_t2_ok : ∀ (v10 : BitVec 32) (v12 : BitVec 32) (k1_hw1 : k1_chk1 v10 v12), (k1_t2_loop v10 v12).OK := fun v10 v12 k1_hw1 => k1_hw1.2.2.1
theorem k1_off3_inb : ∀ (v10 : BitVec 32) (v12 : BitVec 32) (k1_hw1 : k1_chk1 v10 v12) (k1_t2 : Fin (k1_t2_loop v10 v12).trips), ∀ a, (k1_off3 v10 v12 k1_t2) a + S64x128.size a ≤ S320x128.size a := fun v10 v12 k1_hw1 k1_t2 => k1_hw1.2.2.2.1 k1_t2
theorem k1_t3_ok : ∀ (v10 : BitVec 32) (v12 : BitVec 32) (k1_hw1 : k1_chk1 v10 v12), (k1_t3_loop v10 v12).OK := fun v10 v12 k1_hw1 => k1_hw1.2.2.2.2.1
theorem k1_off4_inb : ∀ (v10 : BitVec 32) (v12 : BitVec 32) (k1_hw1 : k1_chk1 v10 v12) (k1_t3 : Fin (k1_t3_loop v10 v12).trips), ∀ a, (k1_off4 v10 v12 k1_t3) a + S64x10.size a ≤ S320x10.size a := fun v10 v12 k1_hw1 k1_t3 => k1_hw1.2.2.2.2.2.1 k1_t3
theorem k1_t4_ok : ∀ (v10 : BitVec 32) (v12 : BitVec 32) (k1_hw1 : k1_chk1 v10 v12), (k1_t4_loop v10 v12).OK := fun v10 v12 k1_hw1 => k1_hw1.2.2.2.2.2.2.1
theorem k1_off5_inb : ∀ (v10 : BitVec 32) (v12 : BitVec 32) (k1_hw1 : k1_chk1 v10 v12) (k1_t4 : Fin (k1_t4_loop v10 v12).trips), ∀ a, (k1_off5 v10 v12 k1_t4) a + S64x10.size a ≤ S320x10.size a := fun v10 v12 k1_hw1 k1_t4 => k1_hw1.2.2.2.2.2.2.2 k1_t4

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_9 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x1 .i32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S2000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S320x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S128x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S128x10 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S10 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 1 → Memref sig .tc .vmem S320x10 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]
-- ==== ReferenceIdeal.lean ====
abbrev S100000x128 : Shape := ⟨2, ![100000, 128]⟩
abbrev S100000 : Shape := ⟨1, ![100000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S64x1 : Shape := ⟨2, ![64, 1]⟩
abbrev S1 : Shape := ⟨1, ![1]⟩
abbrev S256x128 : Shape := ⟨2, ![256, 128]⟩
abbrev S128x10 : Shape := ⟨2, ![128, 10]⟩
abbrev S10 : Shape := ⟨1, ![10]⟩
abbrev S1x128 : Shape := ⟨2, ![1, 128]⟩
abbrev S_ : Shape := ⟨0, ![]⟩
abbrev S100000x64 : Shape := ⟨2, ![100000, 64]⟩
abbrev S1x64 : Shape := ⟨2, ![1, 64]⟩
abbrev S100000x1 : Shape := ⟨2, ![100000, 1]⟩
abbrev S1x1 : Shape := ⟨2, ![1, 1]⟩
abbrev S100000x256 : Shape := ⟨2, ![100000, 256]⟩
abbrev S100000x10 : Shape := ⟨2, ![100000, 10]⟩
abbrev S1x10 : Shape := ⟨2, ![1, 10]⟩
abbrev S256x10 : Shape := ⟨2, ![256, 10]⟩

abbrev nBuf : Space → Nat
  | .hbm => 61
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S100000, .i32⟩
  | .hbm, ⟨2, _⟩ => ⟨S128x128, .f32⟩
  | .hbm, ⟨3, _⟩ => ⟨S128, .f32⟩
  | .hbm, ⟨4, _⟩ => ⟨S128x64, .f32⟩
  | .hbm, ⟨5, _⟩ => ⟨S64, .f32⟩
  | .hbm, ⟨6, _⟩ => ⟨S64x1, .f32⟩
  | .hbm, ⟨7, _⟩ => ⟨S1, .f32⟩
  | .hbm, ⟨8, _⟩ => ⟨S256x128, .f32⟩
  | .hbm, ⟨9, _⟩ => ⟨S128, .f32⟩
  | .hbm, ⟨10, _⟩ => ⟨S128x10, .f32⟩
  | .hbm, ⟨11, _⟩ => ⟨S10, .f32⟩
  | .hbm, ⟨12, _⟩ => ⟨S100000x128, .f32⟩
  | .hbm, ⟨13, _⟩ => ⟨S1x128, .f32⟩
  | .hbm, ⟨14, _⟩ => ⟨S100000x128, .f32⟩
  | .hbm, ⟨15, _⟩ => ⟨S100000x128, .f32⟩
  | .hbm, ⟨16, _⟩ => ⟨S_, .f32⟩
  | .hbm, ⟨17, _⟩ => ⟨S100000x128, .f32⟩
  | .hbm, ⟨18, _⟩ => ⟨S100000x128, .f32⟩
  | .hbm, ⟨19, _⟩ => ⟨S100000x64, .f32⟩
  | .hbm, ⟨20, _⟩ => ⟨S1x64, .f32⟩
  | .hbm, ⟨21, _⟩ => ⟨S100000x64, .f32⟩
  | .hbm, ⟨22, _⟩ => ⟨S100000x64, .f32⟩
  | .hbm, ⟨23, _⟩ => ⟨S_, .f32⟩
  | .hbm, ⟨24, _⟩ => ⟨S100000x64, .f32⟩
  | .hbm, ⟨25, _⟩ => ⟨S100000x64, .f32⟩
  | .hbm, ⟨26, _⟩ => ⟨S100000x1, .f32⟩
  | .hbm, ⟨27, _⟩ => ⟨S1x1, .f32⟩
  | .hbm, ⟨28, _⟩ => ⟨S100000x1, .f32⟩
  | .hbm, ⟨29, _⟩ => ⟨S100000x1, .f32⟩
  | .hbm, ⟨30, _⟩ => ⟨S_, .f32⟩
  | .hbm, ⟨31, _⟩ => ⟨S256x128, .f32⟩
  | .hbm, ⟨32, _⟩ => ⟨S100000x1, .i32⟩
  | .hbm, ⟨33, _⟩ => ⟨S256x128, .f32⟩
  | .hbm, ⟨34, _⟩ => ⟨S_, .i32⟩
  | .hbm, ⟨35, _⟩ => ⟨S100000, .i32⟩
  | .hbm, ⟨36, _⟩ => ⟨S100000, .i1⟩
  | .hbm, ⟨37, _⟩ => ⟨S_, .i32⟩
  | .hbm, ⟨38, _⟩ => ⟨S100000, .i32⟩
  | .hbm, ⟨39, _⟩ => ⟨S100000, .i32⟩
  | .hbm, ⟨40, _⟩ => ⟨S100000, .i32⟩
  | .hbm, ⟨41, _⟩ => ⟨S100000x1, .i32⟩
  | .hbm, ⟨42, _⟩ => ⟨S100000x128, .f32⟩
  | .hbm, ⟨43, _⟩ => ⟨S100000x256, .f32⟩
  | .hbm, ⟨44, _⟩ => ⟨S100000x128, .f32⟩
  | .hbm, ⟨45, _⟩ => ⟨S1x128, .f32⟩
  | .hbm, ⟨46, _⟩ => ⟨S100000x128, .f32⟩
  | .hbm, ⟨47, _⟩ => ⟨S100000x128, .f32⟩
  | .hbm, ⟨48, _⟩ => ⟨S_, .f32⟩
  | .hbm, ⟨49, _⟩ => ⟨S100000x128, .f32⟩
  | .hbm, ⟨50, _⟩ => ⟨S100000x128, .f32⟩
  | .hbm, ⟨51, _⟩ => ⟨S100000x10, .f32⟩
  | .hbm, ⟨52, _⟩ => ⟨S1x10, .f32⟩
  | .hbm, ⟨53, _⟩ => ⟨S100000x10, .f32⟩
  | .hbm, ⟨54, _⟩ => ⟨S100000x10, .f32⟩
  | .hbm, ⟨55, _⟩ => ⟨S100000x10, .f32⟩
  | .hbm, ⟨56, _⟩ => ⟨S100000x10, .f32⟩
  | .hbm, ⟨57, _⟩ => ⟨S_, .f32⟩
  | .hbm, ⟨58, _⟩ => ⟨S256x10, .f32⟩
  | .hbm, ⟨59, _⟩ => ⟨S100000x1, .i32⟩
  | .hbm, ⟨60, _⟩ => ⟨S256x10, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_call0_cst : Ref sig .tc := ⟨.hbm, 16, rfl⟩
abbrev main_call0_v0 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_call1_cst : Ref sig .tc := ⟨.hbm, 23, rfl⟩
abbrev main_call1_v0 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_cst : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_c : Ref sig .tc := ⟨.hbm, 34, rfl⟩
abbrev main_v17 : Ref sig .tc := ⟨.hbm, 35, rfl⟩
abbrev main_v18 : Ref sig .tc := ⟨.hbm, 36, rfl⟩
abbrev main_c_0 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_call2_cst : Ref sig .tc := ⟨.hbm, 48, rfl⟩
abbrev main_call2_v0 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_cst_1 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩

abbrev nD : Nat := 1
abbrev τ : Topo := Topo.v7x

variable {F : FTy → Type} [FloatOps F]
-- ==== Proof.OneRuns.lean ====
/- The first call: when its windows move, its blocks, and the side condition of the two tables. -/
module

public import proofs.«01_k».proof.Proof.Gen.KernelIdeal.Launch
public import proofs.«01_k».proof.Proof.Gen.KernelIdeal.Skeleton
public import proofs.«01_k».proof.Proof.Gen.KernelIdeal.Loops
public import Idealize.ShloMosaic.Lib.Pipeline.Kit
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.One

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

variable (m : Dev nD → Valuation τ sig (Elt F))

theorem fetch0_0 (a : (pcfg0 (F := F)).Adm) : ∀ t : Fin (cfg0 a).N, ((cfg0 a).win 0).fetch t = true :=
  (fun t => (Pipeline.Window.fetchOf_reads cc0_transform_0 reads0_0 hreads0_0 0 (by decide) (by decide) (Pipeline.Window.sep_of_coord cc0_transform_0 0 0 (fun _ => rfl) (by decide)) (P := 1) (by decide) t).mpr (Nat.mod_one _) : ∀ t : Fin grid0.N, Pipeline.Window.fetchOf grid0 false cc0_transform_0 t = true)

theorem fetch0_1 (a : (pcfg0 (F := F)).Adm) : ∀ t : Fin (cfg0 a).N, ((cfg0 a).win 1).fetch t = true :=
  (fun t => (Pipeline.Window.fetchOf_reads cc0_transform_1 reads0_1 hreads0_1 0 (by decide) (by decide) (Pipeline.Window.sep_of_coord cc0_transform_1 0 0 (fun _ => rfl) (by decide)) (P := 1) (by decide) t).mpr (Nat.mod_one _) : ∀ t : Fin grid0.N, Pipeline.Window.fetchOf grid0 false cc0_transform_1 t = true)

theorem fetch0_2 (a : (pcfg0 (F := F)).Adm) : ∀ t : Fin (cfg0 a).N, ((cfg0 a).win 2).fetch t = true ↔ t.val % 50 = 0 :=
  (fun t => Pipeline.Window.fetchOf_const cc0_transform_2 (fun _ _ => rfl) (n := 50) (by decide) t : ∀ t : Fin grid0.N, Pipeline.Window.fetchOf grid0 false cc0_transform_2 t = true ↔ t.val % 50 = 0)

theorem fetch0_3 (a : (pcfg0 (F := F)).Adm) : ∀ t : Fin (cfg0 a).N, ((cfg0 a).win 3).fetch t = true ↔ t.val % 50 = 0 :=
  (fun t => Pipeline.Window.fetchOf_const cc0_transform_3 (fun _ _ => rfl) (n := 50) (by decide) t : ∀ t : Fin grid0.N, Pipeline.Window.fetchOf grid0 false cc0_transform_3 t = true ↔ t.val % 50 = 0)

theorem fetch0_4 (a : (pcfg0 (F := F)).Adm) : ∀ t : Fin (cfg0 a).N, ((cfg0 a).win 4).fetch t = true ↔ t.val % 50 = 0 :=
  (fun t => Pipeline.Window.fetchOf_const cc0_transform_4 (fun _ _ => rfl) (n := 50) (by decide) t : ∀ t : Fin grid0.N, Pipeline.Window.fetchOf grid0 false cc0_transform_4 t = true ↔ t.val % 50 = 0)

theorem fetch0_5 (a : (pcfg0 (F := F)).Adm) : ∀ t : Fin (cfg0 a).N, ((cfg0 a).win 5).fetch t = true ↔ t.val % 50 = 0 :=
  (fun t => Pipeline.Window.fetchOf_const cc0_transform_5 (fun _ _ => rfl) (n := 50) (by decide) t : ∀ t : Fin grid0.N, Pipeline.Window.fetchOf grid0 false cc0_transform_5 t = true ↔ t.val % 50 = 0)

theorem fetch0_6 (a : (pcfg0 (F := F)).Adm) : ∀ t : Fin (cfg0 a).N, ((cfg0 a).win 6).fetch t = true ↔ t.val % 50 = 0 :=
  (fun t => Pipeline.Window.fetchOf_const cc0_transform_6 (fun _ _ => rfl) (n := 50) (by decide) t : ∀ t : Fin grid0.N, Pipeline.Window.fetchOf grid0 false cc0_transform_6 t = true ↔ t.val % 50 = 0)

theorem fetch0_7 (a : (pcfg0 (F := F)).Adm) : ∀ t : Fin (cfg0 a).N, ((cfg0 a).win 7).fetch t = true ↔ t.val % 50 = 0 :=
  (fun t => Pipeline.Window.fetchOf_const cc0_transform_7 (fun _ _ => rfl) (n := 50) (by decide) t : ∀ t : Fin grid0.N, Pipeline.Window.fetchOf grid0 false cc0_transform_7 t = true ↔ t.val % 50 = 0)

theorem flush0_8 (a : (pcfg0 (F := F)).Adm) : ∀ t : Fin (cfg0 a).N, ((cfg0 a).win 8).flush t = true :=
  (fun t => (Pipeline.Window.flushOf_reads cc0_transform_8 reads0_8 hreads0_8 0 (by decide) (by decide) (Pipeline.Window.sep_of_coord cc0_transform_8 0 0 (fun _ => rfl) (by decide)) (P := 1) (m := 0) (by decide) rfl t).mpr (Nat.mod_one _) : ∀ t : Fin grid0.N, Pipeline.Window.flushOf grid0 true cc0_transform_8 t = true)

theorem flush0_9 (a : (pcfg0 (F := F)).Adm) : ∀ t : Fin (cfg0 a).N, ((cfg0 a).win 9).flush t = true ↔ t.val % 50 = 49 :=
  (fun t => Pipeline.Window.flushOf_const cc0_transform_9 (fun _ _ => rfl) (n := 50) (by decide) rfl t : ∀ t : Fin grid0.N, Pipeline.Window.flushOf grid0 true cc0_transform_9 t = true ↔ t.val % 50 = 49)

abbrev st0_0 (a : (pcfg0 (F := F)).Adm) (t : Fin (cfg0 a).N) := ((cfg0 a).win 0).stage ((cfg0 a).slots t 0)
abbrev st0_1 (a : (pcfg0 (F := F)).Adm) (t : Fin (cfg0 a).N) := ((cfg0 a).win 1).stage ((cfg0 a).slots t 1)
abbrev st0_2 (a : (pcfg0 (F := F)).Adm) (t : Fin (cfg0 a).N) := ((cfg0 a).win 2).stage ((cfg0 a).slots t 2)
abbrev st0_3 (a : (pcfg0 (F := F)).Adm) (t : Fin (cfg0 a).N) := ((cfg0 a).win 3).stage ((cfg0 a).slots t 3)
abbrev st0_4 (a : (pcfg0 (F := F)).Adm) (t : Fin (cfg0 a).N) := ((cfg0 a).win 4).stage ((cfg0 a).slots t 4)
abbrev st0_5 (a : (pcfg0 (F := F)).Adm) (t : Fin (cfg0 a).N) := ((cfg0 a).win 5).stage ((cfg0 a).slots t 5)
abbrev st0_6 (a : (pcfg0 (F := F)).Adm) (t : Fin (cfg0 a).N) := ((cfg0 a).win 6).stage ((cfg0 a).slots t 6)
abbrev st0_7 (a : (pcfg0 (F := F)).Adm) (t : Fin (cfg0 a).N) := ((cfg0 a).win 7).stage ((cfg0 a).slots t 7)
abbrev st0_8 (a : (pcfg0 (F := F)).Adm) (t : Fin (cfg0 a).N) := ((cfg0 a).win 8).stage ((cfg0 a).slots t 8)
abbrev st0_9 (a : (pcfg0 (F := F)).Adm) (t : Fin (cfg0 a).N) := ((cfg0 a).win 9).stage ((cfg0 a).slots t 9)

abbrev bodyAt0 (a : (pcfg0 (F := F)).Adm) (t : Fin (cfg0 a).N) : Prog (TpuEff nD τ sig (Elt F) Λ₀ .tc) PUnit :=
  cc0__p1_body (grid0.coords t) (Memref.whole main_v1) (Memref.isWhole_whole _) (Memref.whole main_v2) (Memref.isWhole_whole _) (spec0_0.stage ((cfg0 a).slots t 0)) (hstage0_0 (((cfg0 a).slots t 0).cast nbuf0_0)) (spec0_1.stage ((cfg0 a).slots t 1)) (hstage0_1 (((cfg0 a).slots t 1).cast nbuf0_1)) (spec0_2.stage ((cfg0 a).slots t 2)) (hstage0_2 (((cfg0 a).slots t 2).cast nbuf0_2)) (spec0_3.stage ((cfg0 a).slots t 3)) (hstage0_3 (((cfg0 a).slots t 3).cast nbuf0_3)) (spec0_4.stage ((cfg0 a).slots t 4)) (hstage0_4 (((cfg0 a).slots t 4).cast nbuf0_4)) (spec0_5.stage ((cfg0 a).slots t 5)) (hstage0_5 (((cfg0 a).slots t 5).cast nbuf0_5)) (spec0_6.stage ((cfg0 a).slots t 6)) (hstage0_6 (((cfg0 a).slots t 6).cast nbuf0_6)) (spec0_7.stage ((cfg0 a).slots t 7)) (hstage0_7 (((cfg0 a).slots t 7).cast nbuf0_7)) (spec0_8.stage ((cfg0 a).slots t 8)) (hstage0_8 (((cfg0 a).slots t 8).cast nbuf0_8)) (spec0_9.stage ((cfg0 a).slots t 9)) (hstage0_9 (((cfg0 a).slots t 9).cast nbuf0_9))

abbrev V (c : Dev nD) (b : Ref sig .tc) : Buf (Elt F) ((c : Thread nD τ).loc b) := m c b

def tbl : pre0.Contents (Elt F) := fun j => V m (0 : Dev nD) (pre0.ref j)

theorem V_pre (c : Dev nD) (j : Fin 2) : V m c (pre0.ref j) = tbl m j := by
  obtain rfl : c = 0 := Subsingleton.elim _ _; rfl

abbrev Ok : Prop := ok0 (F := F) (tbl m)

abbrev adm (hO : Ok m) : (pcfg0 (F := F)).Adm := ⟨tbl m, hO⟩
abbrev cfgM (hO : Ok m) : Pipeline.Cfg sig Λ₀ := cfg0 (adm m hO)

abbrev tbM0_0 : Memref sig .tc .smem S50 .i32 := Memref.whole main_v1
abbrev htbM0_0 : tbM0_0.IsWhole := Memref.isWhole_whole _
abbrev tbM0_1 : Memref sig .tc .smem S50 .i32 := Memref.whole main_v2
abbrev htbM0_1 : tbM0_1.IsWhole := Memref.isWhole_whole _

abbrev TbBuf0 (c : Dev nD) {S : Shape} {e : EltTy} (M : Memref sig .tc .smem S e) : Type := Buf (Elt F) (M.view.loc (c : Thread nD τ))
abbrev tbPt0 (c : Dev nD) {S : Shape} {e : EltTy} (M : Memref sig .tc .smem S e) (f : TbBuf0 (F := F) c M) : sProp (MT nD τ sig Unit (Elt F) ℕ (UR sig nD τ) ℕ) :=
  M.view.loc (c : Thread nD τ) ↦{fullShare.right} f

theorem PhiT0_eq (c : Dev nD) : (Pipeline.ΦT pre0 (tbl m) c : sProp (MT nD τ sig Unit (Elt F) ℕ (UR sig nD τ) ℕ)) = iprop(tbPt0 c tbM0_0 (tbl m 0) ∗ tbPt0 c tbM0_1 (tbl m 1)) := by
  unfold Pipeline.ΦT Pipeline.prefHeld
  rw [show (Finset.univ : Finset (Fin 2)) = insert (0 : Fin 2) {(1 : Fin 2)} from by decide,
    bigSep_insert (by decide), bigSep_singleton]
  rfl

def iblk (hO : Ok m) (c : Dev nD) (w : Fin (cfgM m hO).W) (t : Fin (cfgM m hO).N) : (((cfgM m hO).win w).xblock ((cfgM m hO).grid.coords t)).Idx → Elt F ((cfgM m hO).win w).elt :=
  (((cfgM m hO).win w).blk t).view.read (Elt F) (V m c (Pipeline.arrRef spec0 w))

theorem before0_0_of (hO : Ok m) {c : Dev nD} (dat : Dat τ (Elt F) Unit ℕ (UR sig nD τ) ℕ (cfgM m hO) c) (hA : dat.A 0 = V m c (Pipeline.arrRef spec0 0))
    (hafter : ∀ t, dat.after 0 t = iblk m hO c 0 t) (t : Fin (cfgM m hO).N) (d) : dat.before 0 t d = iblk m hO c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

theorem before0_1_of (hO : Ok m) {c : Dev nD} (dat : Dat τ (Elt F) Unit ℕ (UR sig nD τ) ℕ (cfgM m hO) c) (hA : dat.A 1 = V m c (Pipeline.arrRef spec0 1))
    (hafter : ∀ t, dat.after 1 t = iblk m hO c 1 t) (t : Fin (cfgM m hO).N) (d) : dat.before 1 t d = iblk m hO c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

theorem before0_2_of (hO : Ok m) {c : Dev nD} (dat : Dat τ (Elt F) Unit ℕ (UR sig nD τ) ℕ (cfgM m hO) c) (hA : dat.A 2 = V m c (Pipeline.arrRef spec0 2))
    (hafter : ∀ t, dat.after 2 t = iblk m hO c 2 t) (t : Fin (cfgM m hO).N) (d) : dat.before 2 t d = iblk m hO c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

theorem before0_3_of (hO : Ok m) {c : Dev nD} (dat : Dat τ (Elt F) Unit ℕ (UR sig nD τ) ℕ (cfgM m hO) c) (hA : dat.A 3 = V m c (Pipeline.arrRef spec0 3))
    (hafter : ∀ t, dat.after 3 t = iblk m hO c 3 t) (t : Fin (cfgM m hO).N) (d) : dat.before 3 t d = iblk m hO c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

theorem before0_4_of (hO : Ok m) {c : Dev nD} (dat : Dat τ (Elt F) Unit ℕ (UR sig nD τ) ℕ (cfgM m hO) c) (hA : dat.A 4 = V m c (Pipeline.arrRef spec0 4))
    (hafter : ∀ t, dat.after 4 t = iblk m hO c 4 t) (t : Fin (cfgM m hO).N) (d) : dat.before 4 t d = iblk m hO c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

theorem before0_5_of (hO : Ok m) {c : Dev nD} (dat : Dat τ (Elt F) Unit ℕ (UR sig nD τ) ℕ (cfgM m hO) c) (hA : dat.A 5 = V m c (Pipeline.arrRef spec0 5))
    (hafter : ∀ t, dat.after 5 t = iblk m hO c 5 t) (t : Fin (cfgM m hO).N) (d) : dat.before 5 t d = iblk m hO c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

theorem before0_6_of (hO : Ok m) {c : Dev nD} (dat : Dat τ (Elt F) Unit ℕ (UR sig nD τ) ℕ (cfgM m hO) c) (hA : dat.A 6 = V m c (Pipeline.arrRef spec0 6))
    (hafter : ∀ t, dat.after 6 t = iblk m hO c 6 t) (t : Fin (cfgM m hO).N) (d) : dat.before 6 t d = iblk m hO c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)

theorem before0_7_of (hO : Ok m) {c : Dev nD} (dat : Dat τ (Elt F) Unit ℕ (UR sig nD τ) ℕ (cfgM m hO) c) (hA : dat.A 7 = V m c (Pipeline.arrRef spec0 7))
    (hafter : ∀ t, dat.after 7 t = iblk m hO c 7 t) (t : Fin (cfgM m hO).N) (d) : dat.before 7 t d = iblk m hO c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)

abbrev cond0_0 (i : grid0.Coords) : Prop := (Scalar.cmpi .ne (Scalar.extui (Scalar.cmpi .eq (BitVec.ofNat 32 (i 0).val) 0#32)) 0#32) = 1#1

theorem hcond0_0 : ∀ t : Fin grid0.N, cond0_0 (grid0.coords t) ↔ t.val % 50 = 0 :=
  (fun t => by
    have ht : t.val < 50 := Nat.lt_of_lt_of_eq t.isLt N_0
    have e0 : (grid0.coords t 0).val = t.val / 1 % 50 := Pipeline.Grid.coords_val t 0 (by decide) rfl
    simp only [cond0_0, e0]
    word_cmp
   : ∀ t : Fin grid0.N, cond0_0 (grid0.coords t) ↔ t.val % 50 = 0)

abbrev VO0_8 : View sig .tc .vmem S2000x1 .f32 := (Memref.whole cc0_stg8_0 : Memref sig .tc .vmem S2000x1 .f32).view

abbrev VO0_9 : View sig .tc .vmem S320x128 .f32 := (Memref.whole cc0_stg9_0 : Memref sig .tc .vmem S320x128 .f32).view

abbrev ms0_0 (hO : Ok m) (t : Fin (cfgM m hO).N) : Memref sig .tc .vmem S2000x128 .f32 := spec0_0.stage ((cfgM m hO).slots t 0)
abbrev hs0_0 (hO : Ok m) (t : Fin (cfgM m hO).N) : (ms0_0 m hO t).IsWhole := hstage0_0 (((cfgM m hO).slots t 0).cast nbuf0_0)
abbrev ms0_1 (hO : Ok m) (t : Fin (cfgM m hO).N) : Memref sig .tc .vmem S2000x1 .i32 := spec0_1.stage ((cfgM m hO).slots t 1)
abbrev hs0_1 (hO : Ok m) (t : Fin (cfgM m hO).N) : (ms0_1 m hO t).IsWhole := hstage0_1 (((cfgM m hO).slots t 1).cast nbuf0_1)
abbrev ms0_2 (hO : Ok m) (t : Fin (cfgM m hO).N) : Memref sig .tc .vmem S128x128 .f32 := spec0_2.stage ((cfgM m hO).slots t 2)
abbrev hs0_2 (hO : Ok m) (t : Fin (cfgM m hO).N) : (ms0_2 m hO t).IsWhole := hstage0_2 (((cfgM m hO).slots t 2).cast nbuf0_2)
abbrev ms0_3 (hO : Ok m) (t : Fin (cfgM m hO).N) : Memref sig .tc .vmem S128 .f32 := spec0_3.stage ((cfgM m hO).slots t 3)
abbrev hs0_3 (hO : Ok m) (t : Fin (cfgM m hO).N) : (ms0_3 m hO t).IsWhole := hstage0_3 (((cfgM m hO).slots t 3).cast nbuf0_3)
abbrev ms0_4 (hO : Ok m) (t : Fin (cfgM m hO).N) : Memref sig .tc .vmem S128x64 .f32 := spec0_4.stage ((cfgM m hO).slots t 4)
abbrev hs0_4 (hO : Ok m) (t : Fin (cfgM m hO).N) : (ms0_4 m hO t).IsWhole := hstage0_4 (((cfgM m hO).slots t 4).cast nbuf0_4)
abbrev ms0_5 (hO : Ok m) (t : Fin (cfgM m hO).N) : Memref sig .tc .vmem S64 .f32 := spec0_5.stage ((cfgM m hO).slots t 5)
abbrev hs0_5 (hO : Ok m) (t : Fin (cfgM m hO).N) : (ms0_5 m hO t).IsWhole := hstage0_5 (((cfgM m hO).slots t 5).cast nbuf0_5)
abbrev ms0_6 (hO : Ok m) (t : Fin (cfgM m hO).N) : Memref sig .tc .vmem S64x1 .f32 := spec0_6.stage ((cfgM m hO).slots t 6)
abbrev hs0_6 (hO : Ok m) (t : Fin (cfgM m hO).N) : (ms0_6 m hO t).IsWhole := hstage0_6 (((cfgM m hO).slots t 6).cast nbuf0_6)
abbrev ms0_7 (hO : Ok m) (t : Fin (cfgM m hO).N) : Memref sig .tc .vmem S1 .f32 := spec0_7.stage ((cfgM m hO).slots t 7)
abbrev hs0_7 (hO : Ok m) (t : Fin (cfgM m hO).N) : (ms0_7 m hO t).IsWhole := hstage0_7 (((cfgM m hO).slots t 7).cast nbuf0_7)
abbrev ms0_8 (hO : Ok m) (t : Fin (cfgM m hO).N) : Memref sig .tc .vmem S2000x1 .f32 := spec0_8.stage ((cfgM m hO).slots t 8)
abbrev hs0_8 (hO : Ok m) (t : Fin (cfgM m hO).N) : (ms0_8 m hO t).IsWhole := hstage0_8 (((cfgM m hO).slots t 8).cast nbuf0_8)
abbrev ms0_9 (hO : Ok m) (t : Fin (cfgM m hO).N) : Memref sig .tc .vmem S320x128 .f32 := spec0_9.stage ((cfgM m hO).slots t 9)
abbrev hs0_9 (hO : Ok m) (t : Fin (cfgM m hO).N) : (ms0_9 m hO t).IsWhole := hstage0_9 (((cfgM m hO).slots t 9).cast nbuf0_9)

def Hyps (m : Dev nD → Valuation τ sig (Elt F)) (hO : Ok m) : Prop :=
  ∀ (c : Dev nD) (t : Fin (cfgM m hO).N),
    k0_chk1 (tbM0_0.view.readAt (Elt F) (Rect.unit (s := S50) (k0_off1 (grid0.coords t)) S1.size (k0_off1_inb (grid0.coords t))).toLoadRect (tbl m 0) (Shape.Idx.first (numel1_S1.symm ▸ Nat.one_pos))) (tbM0_1.view.readAt (Elt F) (Rect.unit (s := S50) (k0_off1 (grid0.coords t)) S1.size (k0_off1_inb (grid0.coords t))).toLoadRect (tbl m 1) (Shape.Idx.first (numel1_S1.symm ▸ Nat.one_pos)))

abbrev Hyps.p0 (m : Dev nD → Valuation τ sig (Elt F)) (hO : Ok m) (c : Dev nD) (t : Fin (cfgM m hO).N) : Prop :=
  k0_chk1 (tbM0_0.view.readAt (Elt F) (Rect.unit (s := S50) (k0_off1 (grid0.coords t)) S1.size (k0_off1_inb (grid0.coords t))).toLoadRect (tbl m 0) (Shape.Idx.first (numel1_S1.symm ▸ Nat.one_pos))) (tbM0_1.view.readAt (Elt F) (Rect.unit (s := S50) (k0_off1 (grid0.coords t)) S1.size (k0_off1_inb (grid0.coords t))).toLoadRect (tbl m 1) (Shape.Idx.first (numel1_S1.symm ▸ Nat.one_pos)))
variable {m} in
theorem Hyps.c0 {hO : Ok m} (hH : Hyps m hO) (c : Dev nD) (t : Fin (cfgM m hO).N) :
    k0_chk1 (tbM0_0.view.readAt (Elt F) (Rect.unit (s := S50) (k0_off1 (grid0.coords t)) S1.size (k0_off1_inb (grid0.coords t))).toLoadRect (tbl m 0) (Shape.Idx.first (numel1_S1.symm ▸ Nat.one_pos))) (tbM0_1.view.readAt (Elt F) (Rect.unit (s := S50) (k0_off1 (grid0.coords t)) S1.size (k0_off1_inb (grid0.coords t))).toLoadRect (tbl m 1) (Shape.Idx.first (numel1_S1.symm ▸ Nat.one_pos))) := (hH c t)
variable {m} in
theorem Hyps.of {hO : Ok m}
    (p0 : ∀ (c : Dev nD) (t : Fin (cfgM m hO).N), Hyps.p0 m hO c t) :
    Hyps m hO := fun c t =>
  p0 c t

/-- What rides beside the windows: the other buffers of the core, at any contents, the register of the random numbers and the half of the
    tables that the body does not use. -/
def inv (c : Dev nD) : sProp (MT nD τ sig Unit (Elt F) ℕ (UR sig nD τ) ℕ) :=
  iprop(Pipeline.ΦA spec0 c ∗ Pipeline.prefHeld pre0 c (fun _ => fullShare.left) (tbl m))

end Cert.One
-- ==== Proof.OneA.lean ====
/- The first call at its first point. -/
module

public import proofs.«01_k».proof.Proof.OneRuns

@[expose] public section

set_option maxRecDepth 16384

noncomputable section

namespace Cert.One

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

variable (m : Dev nD → Valuation τ sig (Elt F))

set_option maxHeartbeats 1000000 in

noncomputable def kernelRun0_A (c : Dev nD) (i : grid0.Coords) (arg3 : Memref sig .tc .vmem S2000x128 .f32) (harg3 : arg3.IsWhole) (arg4 : Memref sig .tc .vmem S2000x1 .i32) (harg4 : arg4.IsWhole) (arg5 : Memref sig .tc .vmem S128x128 .f32) (harg5 : arg5.IsWhole) (arg6 : Memref sig .tc .vmem S128 .f32) (harg6 : arg6.IsWhole) (arg7 : Memref sig .tc .vmem S128x64 .f32) (harg7 : arg7.IsWhole) (arg8 : Memref sig .tc .vmem S64 .f32) (harg8 : arg8.IsWhole) (arg9 : Memref sig .tc .vmem S64x1 .f32) (harg9 : arg9.IsWhole) (arg10 : Memref sig .tc .vmem S1 .f32) (harg10 : arg10.IsWhole) (arg11 : Memref sig .tc .vmem S2000x1 .f32) (harg11 : arg11.IsWhole) (arg12 : Memref sig .tc .vmem S320x128 .f32) (harg12 : arg12.IsWhole) (hc0 : cond0_0 i)
    (x0 : Vec F S2000x128 .f32) (x1 : Vec F S2000x1 .i32) (x2 : Vec F S128x128 .f32) (x3 : Vec F S128 .f32) (x4 : Vec F S128x64 .f32) (x5 : Vec F S64 .f32) (x6 : Vec F S64x1 .f32) (x7 : Vec F S1 .f32) (xt0 : TbBuf0 (F := F) c tbM0_0) (xt1 : TbBuf0 (F := F) c tbM0_1) (k0_hw1 : k0_chk1 (tbM0_0.view.readAt (Elt F) (Rect.unit (s := S50) (k0_off1 i) S1.size (k0_off1_inb i)).toLoadRect xt0 (Shape.Idx.first (numel1_S1.symm ▸ Nat.one_pos))) (tbM0_1.view.readAt (Elt F) (Rect.unit (s := S50) (k0_off1 i) S1.size (k0_off1_inb i)).toLoadRect xt1 (Shape.Idx.first (numel1_S1.symm ▸ Nat.one_pos)))) :
    Σ' (L8 : List (View.Piece (Elt F) S2000x1 .f32)), { L9 : List (View.Piece (Elt F) S320x128 .f32) //
      ∀ (E : Set ℕ) (K : PUnit → sProp (MT nD τ sig Unit (Elt F) ℕ (UR sig nD τ) ℕ)),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ (∃ d, owns (c : Thread nD τ) arg11 fullShare d) ∗ (∃ d, owns (c : Thread nD τ) arg12 fullShare d) ∗ tbPt0 c tbM0_0 xt0 ∗ tbPt0 c tbM0_1 xt1
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ (∃ f, arg11.view.loc (c : Thread nD τ) ↦[arg11.view.set]{fullShare} arg11.view.writes (Elt F) f L8) ∗ (∃ f, arg12.view.loc (c : Thread nD τ) ↦[arg12.view.set]{fullShare} arg12.view.writes (Elt F) f L9) ∗ tbPt0 c tbM0_0 xt0 ∗ tbPt0 c tbM0_1 xt1) -∗ K ⟨⟩))
          ⊢ wp frame (wpE (defs₀ (F := F)) Variants.none c none) E (cc0__p1_body i tbM0_0 htbM0_0 tbM0_1 htbM0_1 arg3 harg3 arg4 harg4 arg5 harg5 arg6 harg6 arg7 harg7 arg8 harg8 arg9 harg9 arg10 harg10 arg11 harg11 arg12 harg12) K } := by
  refine ⟨?_, ?_, fun E K => ?run⟩
  case run =>
    simp only [cc0__p1_body_eq_skeleton]; unfold cc0__p1_body_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, HT0, HT1, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6; obtain rfl := harg10.eq_unread hf7
    sl_exec (disch := first | sl_exact hc0 | sl_exact k0_hw1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _; isplitr; · ipureintro; exact harg9.read_unread _
      iexact H6
    isplitl [H7]
    · iexists _; isplitr; · ipureintro; exact harg10.read_unread _
      iexact H7
    isplitl [H8]; · iexists _; iexact H8
    isplitl [H9]; · iexists _; iexact H9
    isplitl [HT0]; · iexact HT0
    iexact HT1

end Cert.One
-- ==== Proof.OneB.lean ====
/- The first call at a later point. -/
module

public import proofs.«01_k».proof.Proof.OneA

@[expose] public section

set_option maxRecDepth 16384

noncomputable section

namespace Cert.One

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

variable (m : Dev nD → Valuation τ sig (Elt F))

set_option maxHeartbeats 1000000 in

noncomputable def kernelRun0_B (c : Dev nD) (i : grid0.Coords) (arg3 : Memref sig .tc .vmem S2000x128 .f32) (harg3 : arg3.IsWhole) (arg4 : Memref sig .tc .vmem S2000x1 .i32) (harg4 : arg4.IsWhole) (arg5 : Memref sig .tc .vmem S128x128 .f32) (harg5 : arg5.IsWhole) (arg6 : Memref sig .tc .vmem S128 .f32) (harg6 : arg6.IsWhole) (arg7 : Memref sig .tc .vmem S128x64 .f32) (harg7 : arg7.IsWhole) (arg8 : Memref sig .tc .vmem S64 .f32) (harg8 : arg8.IsWhole) (arg9 : Memref sig .tc .vmem S64x1 .f32) (harg9 : arg9.IsWhole) (arg10 : Memref sig .tc .vmem S1 .f32) (harg10 : arg10.IsWhole) (arg11 : Memref sig .tc .vmem S2000x1 .f32) (harg11 : arg11.IsWhole) (arg12 : Memref sig .tc .vmem S320x128 .f32) (harg12 : arg12.IsWhole) (hc0 : ¬cond0_0 i)
    (x0 : Vec F S2000x128 .f32) (x1 : Vec F S2000x1 .i32) (x2 : Vec F S128x128 .f32) (x3 : Vec F S128 .f32) (x4 : Vec F S128x64 .f32) (x5 : Vec F S64 .f32) (x6 : Vec F S64x1 .f32) (x7 : Vec F S1 .f32) (xt0 : TbBuf0 (F := F) c tbM0_0) (xt1 : TbBuf0 (F := F) c tbM0_1) (xo9 : Vec F S320x128 .f32) (k0_hw1 : k0_chk1 (tbM0_0.view.readAt (Elt F) (Rect.unit (s := S50) (k0_off1 i) S1.size (k0_off1_inb i)).toLoadRect xt0 (Shape.Idx.first (numel1_S1.symm ▸ Nat.one_pos))) (tbM0_1.view.readAt (Elt F) (Rect.unit (s := S50) (k0_off1 i) S1.size (k0_off1_inb i)).toLoadRect xt1 (Shape.Idx.first (numel1_S1.symm ▸ Nat.one_pos)))) :
    Σ' (L8 : List (View.Piece (Elt F) S2000x1 .f32)), { L9 : List (View.Piece (Elt F) S320x128 .f32) //
      ∀ (E : Set ℕ) (K : PUnit → sProp (MT nD τ sig Unit (Elt F) ℕ (UR sig nD τ) ℕ)),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ (∃ d, owns (c : Thread nD τ) arg11 fullShare d) ∗ owns (c : Thread nD τ) arg12 fullShare xo9 ∗ tbPt0 c tbM0_0 xt0 ∗ tbPt0 c tbM0_1 xt1
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ (∃ f, arg11.view.loc (c : Thread nD τ) ↦[arg11.view.set]{fullShare} arg11.view.writes (Elt F) f L8) ∗ (arg12.view.loc (c : Thread nD τ) ↦[arg12.view.set]{fullShare} arg12.view.writes (Elt F) (harg12.unread xo9) L9) ∗ tbPt0 c tbM0_0 xt0 ∗ tbPt0 c tbM0_1 xt1) -∗ K ⟨⟩))
          ⊢ wp frame (wpE (defs₀ (F := F)) Variants.none c none) E (cc0__p1_body i tbM0_0 htbM0_0 tbM0_1 htbM0_1 arg3 harg3 arg4 harg4 arg5 harg5 arg6 harg6 arg7 harg7 arg8 harg8 arg9 harg9 arg10 harg10 arg11 harg11 arg12 harg12) K } := by
  refine ⟨?_, ?_, fun E K => ?run⟩
  case run =>
    simp only [cc0__p1_body_eq_skeleton]; unfold cc0__p1_body_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%f9, %hf9, H9⟩, HT0, HT1, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6; obtain rfl := harg10.eq_unread hf7; obtain rfl := harg12.eq_unread hf9
    sl_exec (disch := first | sl_exact hc0 | sl_exact k0_hw1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _; isplitr; · ipureintro; exact harg9.read_unread _
      iexact H6
    isplitl [H7]
    · iexists _; isplitr; · ipureintro; exact harg10.read_unread _
      iexact H7
    isplitl [H8]; · iexists _; iexact H8
    isplitl [H9]; · iexact H9
    isplitl [HT0]; · iexact HT0
    iexact HT1

end Cert.One
-- ==== Proof.OneBody.lean ====
/- The first call: what its buffers hold after each point, and that the body keeps to it. -/
module

public import proofs.«01_k».proof.Proof.OneB
public import Idealize.ShloMosaic.Lib.Claim

@[expose] public section

set_option maxRecDepth 16384

noncomputable section

namespace Cert.One

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

variable (m : Dev nD → Valuation τ sig (Elt F))

theorem cover0_A_8 (c : Dev nD) (i : grid0.Coords) (arg3 : Memref sig .tc .vmem S2000x128 .f32) (harg3 : arg3.IsWhole) (arg4 : Memref sig .tc .vmem S2000x1 .i32) (harg4 : arg4.IsWhole) (arg5 : Memref sig .tc .vmem S128x128 .f32) (harg5 : arg5.IsWhole) (arg6 : Memref sig .tc .vmem S128 .f32) (harg6 : arg6.IsWhole) (arg7 : Memref sig .tc .vmem S128x64 .f32) (harg7 : arg7.IsWhole) (arg8 : Memref sig .tc .vmem S64 .f32) (harg8 : arg8.IsWhole) (arg9 : Memref sig .tc .vmem S64x1 .f32) (harg9 : arg9.IsWhole) (arg10 : Memref sig .tc .vmem S1 .f32) (harg10 : arg10.IsWhole) (arg11 : Memref sig .tc .vmem S2000x1 .f32) (harg11 : arg11.IsWhole) (arg12 : Memref sig .tc .vmem S320x128 .f32) (harg12 : arg12.IsWhole) (hc0 : cond0_0 i)
    (x0 : Vec F S2000x128 .f32) (x1 : Vec F S2000x1 .i32) (x2 : Vec F S128x128 .f32) (x3 : Vec F S128 .f32) (x4 : Vec F S128x64 .f32) (x5 : Vec F S64 .f32) (x6 : Vec F S64x1 .f32) (x7 : Vec F S1 .f32) (xt0 : TbBuf0 (F := F) c tbM0_0) (xt1 : TbBuf0 (F := F) c tbM0_1) (k0_hw1 : k0_chk1 (tbM0_0.view.readAt (Elt F) (Rect.unit (s := S50) (k0_off1 i) S1.size (k0_off1_inb i)).toLoadRect xt0 (Shape.Idx.first (numel1_S1.symm ▸ Nat.one_pos))) (tbM0_1.view.readAt (Elt F) (Rect.unit (s := S50) (k0_off1 i) S1.size (k0_off1_inb i)).toLoadRect xt1 (Shape.Idx.first (numel1_S1.symm ▸ Nat.one_pos)))) (y : S2000x1.Idx) :
    ∃ pc ∈ (kernelRun0_A c i arg3 harg3 arg4 harg4 arg5 harg5 arg6 harg6 arg7 harg7 arg8 harg8 arg9 harg9 arg10 harg10 arg11 harg11 arg12 harg12 hc0 x0 x1 x2 x3 x4 x5 x6 x7 xt0 xt1 k0_hw1).1, y ∈ pc.1.set :=
  View.cover_of_tiledL (kernelRun0_A c i arg3 harg3 arg4 harg4 arg5 harg5 arg6 harg6 arg7 harg7 arg8 harg8 arg9 harg9 arg10 harg10 arg11 harg11 arg12 harg12 hc0 x0 x1 x2 x3 x4 x5 x6 x7 xt0 xt1 k0_hw1).1 S2000x1.size (by sl_kernel_rfl) y

def out0_A_8 (c : Dev nD) (i : grid0.Coords) (arg3 : Memref sig .tc .vmem S2000x128 .f32) (harg3 : arg3.IsWhole) (arg4 : Memref sig .tc .vmem S2000x1 .i32) (harg4 : arg4.IsWhole) (arg5 : Memref sig .tc .vmem S128x128 .f32) (harg5 : arg5.IsWhole) (arg6 : Memref sig .tc .vmem S128 .f32) (harg6 : arg6.IsWhole) (arg7 : Memref sig .tc .vmem S128x64 .f32) (harg7 : arg7.IsWhole) (arg8 : Memref sig .tc .vmem S64 .f32) (harg8 : arg8.IsWhole) (arg9 : Memref sig .tc .vmem S64x1 .f32) (harg9 : arg9.IsWhole) (arg10 : Memref sig .tc .vmem S1 .f32) (harg10 : arg10.IsWhole) (arg11 : Memref sig .tc .vmem S2000x1 .f32) (harg11 : arg11.IsWhole) (arg12 : Memref sig .tc .vmem S320x128 .f32) (harg12 : arg12.IsWhole) (hc0 : cond0_0 i)
    (x0 : Vec F S2000x128 .f32) (x1 : Vec F S2000x1 .i32) (x2 : Vec F S128x128 .f32) (x3 : Vec F S128 .f32) (x4 : Vec F S128x64 .f32) (x5 : Vec F S64 .f32) (x6 : Vec F S64x1 .f32) (x7 : Vec F S1 .f32) (xt0 : TbBuf0 (F := F) c tbM0_0) (xt1 : TbBuf0 (F := F) c tbM0_1) (k0_hw1 : k0_chk1 (tbM0_0.view.readAt (Elt F) (Rect.unit (s := S50) (k0_off1 i) S1.size (k0_off1_inb i)).toLoadRect xt0 (Shape.Idx.first (numel1_S1.symm ▸ Nat.one_pos))) (tbM0_1.view.readAt (Elt F) (Rect.unit (s := S50) (k0_off1 i) S1.size (k0_off1_inb i)).toLoadRect xt1 (Shape.Idx.first (numel1_S1.symm ▸ Nat.one_pos)))) : Vec F S2000x1 .f32 :=
  VO0_8.read (Elt F) (VO0_8.writes (Elt F) VO0_8.junk (kernelRun0_A c i arg3 harg3 arg4 harg4 arg5 harg5 arg6 harg6 arg7 harg7 arg8 harg8 arg9 harg9 arg10 harg10 arg11 harg11 arg12 harg12 hc0 x0 x1 x2 x3 x4 x5 x6 x7 xt0 xt1 k0_hw1).1)

theorem cover0_A_9 (c : Dev nD) (i : grid0.Coords) (arg3 : Memref sig .tc .vmem S2000x128 .f32) (harg3 : arg3.IsWhole) (arg4 : Memref sig .tc .vmem S2000x1 .i32) (harg4 : arg4.IsWhole) (arg5 : Memref sig .tc .vmem S128x128 .f32) (harg5 : arg5.IsWhole) (arg6 : Memref sig .tc .vmem S128 .f32) (harg6 : arg6.IsWhole) (arg7 : Memref sig .tc .vmem S128x64 .f32) (harg7 : arg7.IsWhole) (arg8 : Memref sig .tc .vmem S64 .f32) (harg8 : arg8.IsWhole) (arg9 : Memref sig .tc .vmem S64x1 .f32) (harg9 : arg9.IsWhole) (arg10 : Memref sig .tc .vmem S1 .f32) (harg10 : arg10.IsWhole) (arg11 : Memref sig .tc .vmem S2000x1 .f32) (harg11 : arg11.IsWhole) (arg12 : Memref sig .tc .vmem S320x128 .f32) (harg12 : arg12.IsWhole) (hc0 : cond0_0 i)
    (x0 : Vec F S2000x128 .f32) (x1 : Vec F S2000x1 .i32) (x2 : Vec F S128x128 .f32) (x3 : Vec F S128 .f32) (x4 : Vec F S128x64 .f32) (x5 : Vec F S64 .f32) (x6 : Vec F S64x1 .f32) (x7 : Vec F S1 .f32) (xt0 : TbBuf0 (F := F) c tbM0_0) (xt1 : TbBuf0 (F := F) c tbM0_1) (k0_hw1 : k0_chk1 (tbM0_0.view.readAt (Elt F) (Rect.unit (s := S50) (k0_off1 i) S1.size (k0_off1_inb i)).toLoadRect xt0 (Shape.Idx.first (numel1_S1.symm ▸ Nat.one_pos))) (tbM0_1.view.readAt (Elt F) (Rect.unit (s := S50) (k0_off1 i) S1.size (k0_off1_inb i)).toLoadRect xt1 (Shape.Idx.first (numel1_S1.symm ▸ Nat.one_pos)))) (y : S320x128.Idx) :
    ∃ pc ∈ (kernelRun0_A c i arg3 harg3 arg4 harg4 arg5 harg5 arg6 harg6 arg7 harg7 arg8 harg8 arg9 harg9 arg10 harg10 arg11 harg11 arg12 harg12 hc0 x0 x1 x2 x3 x4 x5 x6 x7 xt0 xt1 k0_hw1).2.1, y ∈ pc.1.set :=
  View.cover_of_wholeMem (kernelRun0_A c i arg3 harg3 arg4 harg4 arg5 harg5 arg6 harg6 arg7 harg7 arg8 harg8 arg9 harg9 arg10 harg10 arg11 harg11 arg12 harg12 hc0 x0 x1 x2 x3 x4 x5 x6 x7 xt0 xt1 k0_hw1).2.1 (by sl_whole_mem) y

def out0_A_9 (c : Dev nD) (i : grid0.Coords) (arg3 : Memref sig .tc .vmem S2000x128 .f32) (harg3 : arg3.IsWhole) (arg4 : Memref sig .tc .vmem S2000x1 .i32) (harg4 : arg4.IsWhole) (arg5 : Memref sig .tc .vmem S128x128 .f32) (harg5 : arg5.IsWhole) (arg6 : Memref sig .tc .vmem S128 .f32) (harg6 : arg6.IsWhole) (arg7 : Memref sig .tc .vmem S128x64 .f32) (harg7 : arg7.IsWhole) (arg8 : Memref sig .tc .vmem S64 .f32) (harg8 : arg8.IsWhole) (arg9 : Memref sig .tc .vmem S64x1 .f32) (harg9 : arg9.IsWhole) (arg10 : Memref sig .tc .vmem S1 .f32) (harg10 : arg10.IsWhole) (arg11 : Memref sig .tc .vmem S2000x1 .f32) (harg11 : arg11.IsWhole) (arg12 : Memref sig .tc .vmem S320x128 .f32) (harg12 : arg12.IsWhole) (hc0 : cond0_0 i)
    (x0 : Vec F S2000x128 .f32) (x1 : Vec F S2000x1 .i32) (x2 : Vec F S128x128 .f32) (x3 : Vec F S128 .f32) (x4 : Vec F S128x64 .f32) (x5 : Vec F S64 .f32) (x6 : Vec F S64x1 .f32) (x7 : Vec F S1 .f32) (xt0 : TbBuf0 (F := F) c tbM0_0) (xt1 : TbBuf0 (F := F) c tbM0_1) (k0_hw1 : k0_chk1 (tbM0_0.view.readAt (Elt F) (Rect.unit (s := S50) (k0_off1 i) S1.size (k0_off1_inb i)).toLoadRect xt0 (Shape.Idx.first (numel1_S1.symm ▸ Nat.one_pos))) (tbM0_1.view.readAt (Elt F) (Rect.unit (s := S50) (k0_off1 i) S1.size (k0_off1_inb i)).toLoadRect xt1 (Shape.Idx.first (numel1_S1.symm ▸ Nat.one_pos)))) : Vec F S320x128 .f32 :=
  VO0_9.read (Elt F) (VO0_9.writes (Elt F) VO0_9.junk (kernelRun0_A c i arg3 harg3 arg4 harg4 arg5 harg5 arg6 harg6 arg7 harg7 arg8 harg8 arg9 harg9 arg10 harg10 arg11 harg11 arg12 harg12 hc0 x0 x1 x2 x3 x4 x5 x6 x7 xt0 xt1 k0_hw1).2.1)

theorem cover0_B_8 (c : Dev nD) (i : grid0.Coords) (arg3 : Memref sig .tc .vmem S2000x128 .f32) (harg3 : arg3.IsWhole) (arg4 : Memref sig .tc .vmem S2000x1 .i32) (harg4 : arg4.IsWhole) (arg5 : Memref sig .tc .vmem S128x128 .f32) (harg5 : arg5.IsWhole) (arg6 : Memref sig .tc .vmem S128 .f32) (harg6 : arg6.IsWhole) (arg7 : Memref sig .tc .vmem S128x64 .f32) (harg7 : arg7.IsWhole) (arg8 : Memref sig .tc .vmem S64 .f32) (harg8 : arg8.IsWhole) (arg9 : Memref sig .tc .vmem S64x1 .f32) (harg9 : arg9.IsWhole) (arg10 : Memref sig .tc .vmem S1 .f32) (harg10 : arg10.IsWhole) (arg11 : Memref sig .tc .vmem S2000x1 .f32) (harg11 : arg11.IsWhole) (arg12 : Memref sig .tc .vmem S320x128 .f32) (harg12 : arg12.IsWhole) (hc0 : ¬cond0_0 i)
    (x0 : Vec F S2000x128 .f32) (x1 : Vec F S2000x1 .i32) (x2 : Vec F S128x128 .f32) (x3 : Vec F S128 .f32) (x4 : Vec F S128x64 .f32) (x5 : Vec F S64 .f32) (x6 : Vec F S64x1 .f32) (x7 : Vec F S1 .f32) (xt0 : TbBuf0 (F := F) c tbM0_0) (xt1 : TbBuf0 (F := F) c tbM0_1) (xo9 : Vec F S320x128 .f32) (k0_hw1 : k0_chk1 (tbM0_0.view.readAt (Elt F) (Rect.unit (s := S50) (k0_off1 i) S1.size (k0_off1_inb i)).toLoadRect xt0 (Shape.Idx.first (numel1_S1.symm ▸ Nat.one_pos))) (tbM0_1.view.readAt (Elt F) (Rect.unit (s := S50) (k0_off1 i) S1.size (k0_off1_inb i)).toLoadRect xt1 (Shape.Idx.first (numel1_S1.symm ▸ Nat.one_pos)))) (y : S2000x1.Idx) :
    ∃ pc ∈ (kernelRun0_B c i arg3 harg3 arg4 harg4 arg5 harg5 arg6 harg6 arg7 harg7 arg8 harg8 arg9 harg9 arg10 harg10 arg11 harg11 arg12 harg12 hc0 x0 x1 x2 x3 x4 x5 x6 x7 xt0 xt1 xo9 k0_hw1).1, y ∈ pc.1.set :=
  View.cover_of_tiledL (kernelRun0_B c i arg3 harg3 arg4 harg4 arg5 harg5 arg6 harg6 arg7 harg7 arg8 harg8 arg9 harg9 arg10 harg10 arg11 harg11 arg12 harg12 hc0 x0 x1 x2 x3 x4 x5 x6 x7 xt0 xt1 xo9 k0_hw1).1 S2000x1.size (by sl_kernel_rfl) y

def out0_B_8 (c : Dev nD) (i : grid0.Coords) (arg3 : Memref sig .tc .vmem S2000x128 .f32) (harg3 : arg3.IsWhole) (arg4 : Memref sig .tc .vmem S2000x1 .i32) (harg4 : arg4.IsWhole) (arg5 : Memref sig .tc .vmem S128x128 .f32) (harg5 : arg5.IsWhole) (arg6 : Memref sig .tc .vmem S128 .f32) (harg6 : arg6.IsWhole) (arg7 : Memref sig .tc .vmem S128x64 .f32) (harg7 : arg7.IsWhole) (arg8 : Memref sig .tc .vmem S64 .f32) (harg8 : arg8.IsWhole) (arg9 : Memref sig .tc .vmem S64x1 .f32) (harg9 : arg9.IsWhole) (arg10 : Memref sig .tc .vmem S1 .f32) (harg10 : arg10.IsWhole) (arg11 : Memref sig .tc .vmem S2000x1 .f32) (harg11 : arg11.IsWhole) (arg12 : Memref sig .tc .vmem S320x128 .f32) (harg12 : arg12.IsWhole) (hc0 : ¬cond0_0 i)
    (x0 : Vec F S2000x128 .f32) (x1 : Vec F S2000x1 .i32) (x2 : Vec F S128x128 .f32) (x3 : Vec F S128 .f32) (x4 : Vec F S128x64 .f32) (x5 : Vec F S64 .f32) (x6 : Vec F S64x1 .f32) (x7 : Vec F S1 .f32) (xt0 : TbBuf0 (F := F) c tbM0_0) (xt1 : TbBuf0 (F := F) c tbM0_1) (xo9 : Vec F S320x128 .f32) (k0_hw1 : k0_chk1 (tbM0_0.view.readAt (Elt F) (Rect.unit (s := S50) (k0_off1 i) S1.size (k0_off1_inb i)).toLoadRect xt0 (Shape.Idx.first (numel1_S1.symm ▸ Nat.one_pos))) (tbM0_1.view.readAt (Elt F) (Rect.unit (s := S50) (k0_off1 i) S1.size (k0_off1_inb i)).toLoadRect xt1 (Shape.Idx.first (numel1_S1.symm ▸ Nat.one_pos)))) : Vec F S2000x1 .f32 :=
  VO0_8.read (Elt F) (VO0_8.writes (Elt F) VO0_8.junk (kernelRun0_B c i arg3 harg3 arg4 harg4 arg5 harg5 arg6 harg6 arg7 harg7 arg8 harg8 arg9 harg9 arg10 harg10 arg11 harg11 arg12 harg12 hc0 x0 x1 x2 x3 x4 x5 x6 x7 xt0 xt1 xo9 k0_hw1).1)

def out0_B_9 (c : Dev nD) (i : grid0.Coords) (arg3 : Memref sig .tc .vmem S2000x128 .f32) (harg3 : arg3.IsWhole) (arg4 : Memref sig .tc .vmem S2000x1 .i32) (harg4 : arg4.IsWhole) (arg5 : Memref sig .tc .vmem S128x128 .f32) (harg5 : arg5.IsWhole) (arg6 : Memref sig .tc .vmem S128 .f32) (harg6 : arg6.IsWhole) (arg7 : Memref sig .tc .vmem S128x64 .f32) (harg7 : arg7.IsWhole) (arg8 : Memref sig .tc .vmem S64 .f32) (harg8 : arg8.IsWhole) (arg9 : Memref sig .tc .vmem S64x1 .f32) (harg9 : arg9.IsWhole) (arg10 : Memref sig .tc .vmem S1 .f32) (harg10 : arg10.IsWhole) (arg11 : Memref sig .tc .vmem S2000x1 .f32) (harg11 : arg11.IsWhole) (arg12 : Memref sig .tc .vmem S320x128 .f32) (harg12 : arg12.IsWhole) (hc0 : ¬cond0_0 i)
    (x0 : Vec F S2000x128 .f32) (x1 : Vec F S2000x1 .i32) (x2 : Vec F S128x128 .f32) (x3 : Vec F S128 .f32) (x4 : Vec F S128x64 .f32) (x5 : Vec F S64 .f32) (x6 : Vec F S64x1 .f32) (x7 : Vec F S1 .f32) (xt0 : TbBuf0 (F := F) c tbM0_0) (xt1 : TbBuf0 (F := F) c tbM0_1) (xo9 : Vec F S320x128 .f32) (k0_hw1 : k0_chk1 (tbM0_0.view.readAt (Elt F) (Rect.unit (s := S50) (k0_off1 i) S1.size (k0_off1_inb i)).toLoadRect xt0 (Shape.Idx.first (numel1_S1.symm ▸ Nat.one_pos))) (tbM0_1.view.readAt (Elt F) (Rect.unit (s := S50) (k0_off1 i) S1.size (k0_off1_inb i)).toLoadRect xt1 (Shape.Idx.first (numel1_S1.symm ▸ Nat.one_pos)))) : Vec F S320x128 .f32 :=
  arg12.view.read (Elt F) (arg12.view.writes (Elt F) (harg12.unread xo9) (kernelRun0_B c i arg3 harg3 arg4 harg4 arg5 harg5 arg6 harg6 arg7 harg7 arg8 harg8 arg9 harg9 arg10 harg10 arg11 harg11 arg12 harg12 hc0 x0 x1 x2 x3 x4 x5 x6 x7 xt0 xt1 xo9 k0_hw1).2.1)

def outsAt0 (hO : Ok m) (hH : Hyps m hO) (c : Dev nD) : (n : ℕ) → n < (cfgM m hO).N → Vec F S2000x1 .f32 × Vec F S320x128 .f32
  | 0, hn => (out0_A_8 c (grid0.coords ⟨0, hn⟩) (ms0_0 m hO ⟨0, hn⟩) (hs0_0 m hO ⟨0, hn⟩) (ms0_1 m hO ⟨0, hn⟩) (hs0_1 m hO ⟨0, hn⟩) (ms0_2 m hO ⟨0, hn⟩) (hs0_2 m hO ⟨0, hn⟩) (ms0_3 m hO ⟨0, hn⟩) (hs0_3 m hO ⟨0, hn⟩) (ms0_4 m hO ⟨0, hn⟩) (hs0_4 m hO ⟨0, hn⟩) (ms0_5 m hO ⟨0, hn⟩) (hs0_5 m hO ⟨0, hn⟩) (ms0_6 m hO ⟨0, hn⟩) (hs0_6 m hO ⟨0, hn⟩) (ms0_7 m hO ⟨0, hn⟩) (hs0_7 m hO ⟨0, hn⟩) (ms0_8 m hO ⟨0, hn⟩) (hs0_8 m hO ⟨0, hn⟩) (ms0_9 m hO ⟨0, hn⟩) (hs0_9 m hO ⟨0, hn⟩) ((hcond0_0 ⟨0, hn⟩).mpr (Nat.zero_mod _)) (iblk m hO c 0 ⟨0, hn⟩) (iblk m hO c 1 ⟨0, hn⟩) (iblk m hO c 2 ⟨0, hn⟩) (iblk m hO c 3 ⟨0, hn⟩) (iblk m hO c 4 ⟨0, hn⟩) (iblk m hO c 5 ⟨0, hn⟩) (iblk m hO c 6 ⟨0, hn⟩) (iblk m hO c 7 ⟨0, hn⟩) (tbl m 0) (tbl m 1) (Hyps.c0 hH c ⟨0, hn⟩), out0_A_9 c (grid0.coords ⟨0, hn⟩) (ms0_0 m hO ⟨0, hn⟩) (hs0_0 m hO ⟨0, hn⟩) (ms0_1 m hO ⟨0, hn⟩) (hs0_1 m hO ⟨0, hn⟩) (ms0_2 m hO ⟨0, hn⟩) (hs0_2 m hO ⟨0, hn⟩) (ms0_3 m hO ⟨0, hn⟩) (hs0_3 m hO ⟨0, hn⟩) (ms0_4 m hO ⟨0, hn⟩) (hs0_4 m hO ⟨0, hn⟩) (ms0_5 m hO ⟨0, hn⟩) (hs0_5 m hO ⟨0, hn⟩) (ms0_6 m hO ⟨0, hn⟩) (hs0_6 m hO ⟨0, hn⟩) (ms0_7 m hO ⟨0, hn⟩) (hs0_7 m hO ⟨0, hn⟩) (ms0_8 m hO ⟨0, hn⟩) (hs0_8 m hO ⟨0, hn⟩) (ms0_9 m hO ⟨0, hn⟩) (hs0_9 m hO ⟨0, hn⟩) ((hcond0_0 ⟨0, hn⟩).mpr (Nat.zero_mod _)) (iblk m hO c 0 ⟨0, hn⟩) (iblk m hO c 1 ⟨0, hn⟩) (iblk m hO c 2 ⟨0, hn⟩) (iblk m hO c 3 ⟨0, hn⟩) (iblk m hO c 4 ⟨0, hn⟩) (iblk m hO c 5 ⟨0, hn⟩) (iblk m hO c 6 ⟨0, hn⟩) (iblk m hO c 7 ⟨0, hn⟩) (tbl m 0) (tbl m 1) (Hyps.c0 hH c ⟨0, hn⟩))
  | n + 1, hn =>
    if h0 : (n + 1) % 50 = 0 then
      (out0_A_8 c (grid0.coords ⟨n + 1, hn⟩) (ms0_0 m hO ⟨n + 1, hn⟩) (hs0_0 m hO ⟨n + 1, hn⟩) (ms0_1 m hO ⟨n + 1, hn⟩) (hs0_1 m hO ⟨n + 1, hn⟩) (ms0_2 m hO ⟨n + 1, hn⟩) (hs0_2 m hO ⟨n + 1, hn⟩) (ms0_3 m hO ⟨n + 1, hn⟩) (hs0_3 m hO ⟨n + 1, hn⟩) (ms0_4 m hO ⟨n + 1, hn⟩) (hs0_4 m hO ⟨n + 1, hn⟩) (ms0_5 m hO ⟨n + 1, hn⟩) (hs0_5 m hO ⟨n + 1, hn⟩) (ms0_6 m hO ⟨n + 1, hn⟩) (hs0_6 m hO ⟨n + 1, hn⟩) (ms0_7 m hO ⟨n + 1, hn⟩) (hs0_7 m hO ⟨n + 1, hn⟩) (ms0_8 m hO ⟨n + 1, hn⟩) (hs0_8 m hO ⟨n + 1, hn⟩) (ms0_9 m hO ⟨n + 1, hn⟩) (hs0_9 m hO ⟨n + 1, hn⟩) ((hcond0_0 ⟨n + 1, hn⟩).mpr h0) (iblk m hO c 0 ⟨n + 1, hn⟩) (iblk m hO c 1 ⟨n + 1, hn⟩) (iblk m hO c 2 ⟨n + 1, hn⟩) (iblk m hO c 3 ⟨n + 1, hn⟩) (iblk m hO c 4 ⟨n + 1, hn⟩) (iblk m hO c 5 ⟨n + 1, hn⟩) (iblk m hO c 6 ⟨n + 1, hn⟩) (iblk m hO c 7 ⟨n + 1, hn⟩) (tbl m 0) (tbl m 1) (Hyps.c0 hH c ⟨n + 1, hn⟩), out0_A_9 c (grid0.coords ⟨n + 1, hn⟩) (ms0_0 m hO ⟨n + 1, hn⟩) (hs0_0 m hO ⟨n + 1, hn⟩) (ms0_1 m hO ⟨n + 1, hn⟩) (hs0_1 m hO ⟨n + 1, hn⟩) (ms0_2 m hO ⟨n + 1, hn⟩) (hs0_2 m hO ⟨n + 1, hn⟩) (ms0_3 m hO ⟨n + 1, hn⟩) (hs0_3 m hO ⟨n + 1, hn⟩) (ms0_4 m hO ⟨n + 1, hn⟩) (hs0_4 m hO ⟨n + 1, hn⟩) (ms0_5 m hO ⟨n + 1, hn⟩) (hs0_5 m hO ⟨n + 1, hn⟩) (ms0_6 m hO ⟨n + 1, hn⟩) (hs0_6 m hO ⟨n + 1, hn⟩) (ms0_7 m hO ⟨n + 1, hn⟩) (hs0_7 m hO ⟨n + 1, hn⟩) (ms0_8 m hO ⟨n + 1, hn⟩) (hs0_8 m hO ⟨n + 1, hn⟩) (ms0_9 m hO ⟨n + 1, hn⟩) (hs0_9 m hO ⟨n + 1, hn⟩) ((hcond0_0 ⟨n + 1, hn⟩).mpr h0) (iblk m hO c 0 ⟨n + 1, hn⟩) (iblk m hO c 1 ⟨n + 1, hn⟩) (iblk m hO c 2 ⟨n + 1, hn⟩) (iblk m hO c 3 ⟨n + 1, hn⟩) (iblk m hO c 4 ⟨n + 1, hn⟩) (iblk m hO c 5 ⟨n + 1, hn⟩) (iblk m hO c 6 ⟨n + 1, hn⟩) (iblk m hO c 7 ⟨n + 1, hn⟩) (tbl m 0) (tbl m 1) (Hyps.c0 hH c ⟨n + 1, hn⟩))
    else
      (out0_B_8 c (grid0.coords ⟨n + 1, hn⟩) (ms0_0 m hO ⟨n + 1, hn⟩) (hs0_0 m hO ⟨n + 1, hn⟩) (ms0_1 m hO ⟨n + 1, hn⟩) (hs0_1 m hO ⟨n + 1, hn⟩) (ms0_2 m hO ⟨n + 1, hn⟩) (hs0_2 m hO ⟨n + 1, hn⟩) (ms0_3 m hO ⟨n + 1, hn⟩) (hs0_3 m hO ⟨n + 1, hn⟩) (ms0_4 m hO ⟨n + 1, hn⟩) (hs0_4 m hO ⟨n + 1, hn⟩) (ms0_5 m hO ⟨n + 1, hn⟩) (hs0_5 m hO ⟨n + 1, hn⟩) (ms0_6 m hO ⟨n + 1, hn⟩) (hs0_6 m hO ⟨n + 1, hn⟩) (ms0_7 m hO ⟨n + 1, hn⟩) (hs0_7 m hO ⟨n + 1, hn⟩) (ms0_8 m hO ⟨n + 1, hn⟩) (hs0_8 m hO ⟨n + 1, hn⟩) (ms0_9 m hO ⟨n + 1, hn⟩) (hs0_9 m hO ⟨n + 1, hn⟩) (fun h => h0 ((hcond0_0 ⟨n + 1, hn⟩).mp h)) (iblk m hO c 0 ⟨n + 1, hn⟩) (iblk m hO c 1 ⟨n + 1, hn⟩) (iblk m hO c 2 ⟨n + 1, hn⟩) (iblk m hO c 3 ⟨n + 1, hn⟩) (iblk m hO c 4 ⟨n + 1, hn⟩) (iblk m hO c 5 ⟨n + 1, hn⟩) (iblk m hO c 6 ⟨n + 1, hn⟩) (iblk m hO c 7 ⟨n + 1, hn⟩) (tbl m 0) (tbl m 1) (outsAt0 hO hH c n (Nat.lt_of_succ_lt hn)).2 (Hyps.c0 hH c ⟨n + 1, hn⟩), out0_B_9 c (grid0.coords ⟨n + 1, hn⟩) (ms0_0 m hO ⟨n + 1, hn⟩) (hs0_0 m hO ⟨n + 1, hn⟩) (ms0_1 m hO ⟨n + 1, hn⟩) (hs0_1 m hO ⟨n + 1, hn⟩) (ms0_2 m hO ⟨n + 1, hn⟩) (hs0_2 m hO ⟨n + 1, hn⟩) (ms0_3 m hO ⟨n + 1, hn⟩) (hs0_3 m hO ⟨n + 1, hn⟩) (ms0_4 m hO ⟨n + 1, hn⟩) (hs0_4 m hO ⟨n + 1, hn⟩) (ms0_5 m hO ⟨n + 1, hn⟩) (hs0_5 m hO ⟨n + 1, hn⟩) (ms0_6 m hO ⟨n + 1, hn⟩) (hs0_6 m hO ⟨n + 1, hn⟩) (ms0_7 m hO ⟨n + 1, hn⟩) (hs0_7 m hO ⟨n + 1, hn⟩) (ms0_8 m hO ⟨n + 1, hn⟩) (hs0_8 m hO ⟨n + 1, hn⟩) (ms0_9 m hO ⟨n + 1, hn⟩) (hs0_9 m hO ⟨n + 1, hn⟩) (fun h => h0 ((hcond0_0 ⟨n + 1, hn⟩).mp h)) (iblk m hO c 0 ⟨n + 1, hn⟩) (iblk m hO c 1 ⟨n + 1, hn⟩) (iblk m hO c 2 ⟨n + 1, hn⟩) (iblk m hO c 3 ⟨n + 1, hn⟩) (iblk m hO c 4 ⟨n + 1, hn⟩) (iblk m hO c 5 ⟨n + 1, hn⟩) (iblk m hO c 6 ⟨n + 1, hn⟩) (iblk m hO c 7 ⟨n + 1, hn⟩) (tbl m 0) (tbl m 1) (outsAt0 hO hH c n (Nat.lt_of_succ_lt hn)).2 (Hyps.c0 hH c ⟨n + 1, hn⟩))

theorem outsAt0_A (hO : Ok m) (hH : Hyps m hO) (c : Dev nD) (t : Fin (cfgM m hO).N) (h0 : t.val % 50 = 0) :
    outsAt0 m hO hH c t.val t.isLt = (out0_A_8 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (ms0_9 m hO t) (hs0_9 m hO t) ((hcond0_0 t).mpr h0) (iblk m hO c 0 t) (iblk m hO c 1 t) (iblk m hO c 2 t) (iblk m hO c 3 t) (iblk m hO c 4 t) (iblk m hO c 5 t) (iblk m hO c 6 t) (iblk m hO c 7 t) (tbl m 0) (tbl m 1) (Hyps.c0 hH c t), out0_A_9 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (ms0_9 m hO t) (hs0_9 m hO t) ((hcond0_0 t).mpr h0) (iblk m hO c 0 t) (iblk m hO c 1 t) (iblk m hO c 2 t) (iblk m hO c 3 t) (iblk m hO c 4 t) (iblk m hO c 5 t) (iblk m hO c 6 t) (iblk m hO c 7 t) (tbl m 0) (tbl m 1) (Hyps.c0 hH c t)) := by
  obtain ⟨n, hn⟩ := t
  cases n with
  | zero => exact rfl
  | succ n => exact (dif_pos h0).trans rfl

theorem outsAt0_B (hO : Ok m) (hH : Hyps m hO) (c : Dev nD) (t : Fin (cfgM m hO).N) (h0 : ¬t.val % 50 = 0) :
    outsAt0 m hO hH c t.val t.isLt = (out0_B_8 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (ms0_9 m hO t) (hs0_9 m hO t) (fun h => h0 ((hcond0_0 t).mp h)) (iblk m hO c 0 t) (iblk m hO c 1 t) (iblk m hO c 2 t) (iblk m hO c 3 t) (iblk m hO c 4 t) (iblk m hO c 5 t) (iblk m hO c 6 t) (iblk m hO c 7 t) (tbl m 0) (tbl m 1) (outsAt0 m hO hH c (t.val - 1) (Nat.lt_of_le_of_lt (Nat.sub_le _ _) t.isLt)).2 (Hyps.c0 hH c t), out0_B_9 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (ms0_9 m hO t) (hs0_9 m hO t) (fun h => h0 ((hcond0_0 t).mp h)) (iblk m hO c 0 t) (iblk m hO c 1 t) (iblk m hO c 2 t) (iblk m hO c 3 t) (iblk m hO c 4 t) (iblk m hO c 5 t) (iblk m hO c 6 t) (iblk m hO c 7 t) (tbl m 0) (tbl m 1) (outsAt0 m hO hH c (t.val - 1) (Nat.lt_of_le_of_lt (Nat.sub_le _ _) t.isLt)).2 (Hyps.c0 hH c t)) := by
  obtain ⟨n, hn⟩ := t
  cases n with
  | zero => exact (by exfalso; (try dsimp only at h0); exact absurd (Nat.zero_mod _) h0)
  | succ n => exact (dif_neg h0).trans rfl

def dats (hO : Ok m) (hH : Hyps m hO) (_ : Fin 1) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => iblk m hO c 3 t
    | ⟨4, _⟩ => iblk m hO c 4 t
    | ⟨5, _⟩ => iblk m hO c 5 t
    | ⟨6, _⟩ => iblk m hO c 6 t
    | ⟨7, _⟩ => iblk m hO c 7 t
    | ⟨8, _⟩ => (outsAt0 m hO hH c t.val t.isLt).1
    | ⟨9, _⟩ => (outsAt0 m hO hH c t.val t.isLt).2
  Φ _ := iprop(inv m c ∗ Pipeline.ΦT pre0 (tbl m) c)
  q _ := fullShare
  owed _ := 0

theorem A_eq (hO : Ok m) (hH : Hyps m hO) (c : Dev nD) (w : Fin (cfgM m hO).W) : (dats m hO hH 0 c).A w = V m c (Pipeline.arrRef spec0 w) := by
  dsimp only [dats]

theorem after0_0 (hO : Ok m) (hH : Hyps m hO) (c : Dev nD) (t : Fin (cfgM m hO).N) : (dats m hO hH 0 c).after 0 t = iblk m hO c 0 t := by dsimp only [dats]; try rfl
theorem after0_1 (hO : Ok m) (hH : Hyps m hO) (c : Dev nD) (t : Fin (cfgM m hO).N) : (dats m hO hH 0 c).after 1 t = iblk m hO c 1 t := by dsimp only [dats]; try rfl
theorem after0_2 (hO : Ok m) (hH : Hyps m hO) (c : Dev nD) (t : Fin (cfgM m hO).N) : (dats m hO hH 0 c).after 2 t = iblk m hO c 2 t := by dsimp only [dats]; try rfl
theorem after0_3 (hO : Ok m) (hH : Hyps m hO) (c : Dev nD) (t : Fin (cfgM m hO).N) : (dats m hO hH 0 c).after 3 t = iblk m hO c 3 t := by dsimp only [dats]; try rfl
theorem after0_4 (hO : Ok m) (hH : Hyps m hO) (c : Dev nD) (t : Fin (cfgM m hO).N) : (dats m hO hH 0 c).after 4 t = iblk m hO c 4 t := by dsimp only [dats]; try rfl
theorem after0_5 (hO : Ok m) (hH : Hyps m hO) (c : Dev nD) (t : Fin (cfgM m hO).N) : (dats m hO hH 0 c).after 5 t = iblk m hO c 5 t := by dsimp only [dats]; try rfl
theorem after0_6 (hO : Ok m) (hH : Hyps m hO) (c : Dev nD) (t : Fin (cfgM m hO).N) : (dats m hO hH 0 c).after 6 t = iblk m hO c 6 t := by dsimp only [dats]; try rfl
theorem after0_7 (hO : Ok m) (hH : Hyps m hO) (c : Dev nD) (t : Fin (cfgM m hO).N) : (dats m hO hH 0 c).after 7 t = iblk m hO c 7 t := by dsimp only [dats]; try rfl
theorem after0_8 (hO : Ok m) (hH : Hyps m hO) (c : Dev nD) (t : Fin (cfgM m hO).N) : (dats m hO hH 0 c).after 8 t = (outsAt0 m hO hH c t.val t.isLt).1 := by dsimp only [dats]; try rfl
theorem after0_9 (hO : Ok m) (hH : Hyps m hO) (c : Dev nD) (t : Fin (cfgM m hO).N) : (dats m hO hH 0 c).after 9 t = (outsAt0 m hO hH c t.val t.isLt).2 := by dsimp only [dats]; try rfl

theorem before0_0 (hO : Ok m) (hH : Hyps m hO) (c : Dev nD) (t : Fin (cfgM m hO).N) (d) : (dats m hO hH 0 c).before 0 t d = iblk m hO c 0 t :=
  before0_0_of m hO (dats m hO hH 0 c) (A_eq m hO hH c 0) (after0_0 m hO hH c) t d
theorem before0_1 (hO : Ok m) (hH : Hyps m hO) (c : Dev nD) (t : Fin (cfgM m hO).N) (d) : (dats m hO hH 0 c).before 1 t d = iblk m hO c 1 t :=
  before0_1_of m hO (dats m hO hH 0 c) (A_eq m hO hH c 1) (after0_1 m hO hH c) t d
theorem before0_2 (hO : Ok m) (hH : Hyps m hO) (c : Dev nD) (t : Fin (cfgM m hO).N) (d) : (dats m hO hH 0 c).before 2 t d = iblk m hO c 2 t :=
  before0_2_of m hO (dats m hO hH 0 c) (A_eq m hO hH c 2) (after0_2 m hO hH c) t d
theorem before0_3 (hO : Ok m) (hH : Hyps m hO) (c : Dev nD) (t : Fin (cfgM m hO).N) (d) : (dats m hO hH 0 c).before 3 t d = iblk m hO c 3 t :=
  before0_3_of m hO (dats m hO hH 0 c) (A_eq m hO hH c 3) (after0_3 m hO hH c) t d
theorem before0_4 (hO : Ok m) (hH : Hyps m hO) (c : Dev nD) (t : Fin (cfgM m hO).N) (d) : (dats m hO hH 0 c).before 4 t d = iblk m hO c 4 t :=
  before0_4_of m hO (dats m hO hH 0 c) (A_eq m hO hH c 4) (after0_4 m hO hH c) t d
theorem before0_5 (hO : Ok m) (hH : Hyps m hO) (c : Dev nD) (t : Fin (cfgM m hO).N) (d) : (dats m hO hH 0 c).before 5 t d = iblk m hO c 5 t :=
  before0_5_of m hO (dats m hO hH 0 c) (A_eq m hO hH c 5) (after0_5 m hO hH c) t d
theorem before0_6 (hO : Ok m) (hH : Hyps m hO) (c : Dev nD) (t : Fin (cfgM m hO).N) (d) : (dats m hO hH 0 c).before 6 t d = iblk m hO c 6 t :=
  before0_6_of m hO (dats m hO hH 0 c) (A_eq m hO hH c 6) (after0_6 m hO hH c) t d
theorem before0_7 (hO : Ok m) (hH : Hyps m hO) (c : Dev nD) (t : Fin (cfgM m hO).N) (d) : (dats m hO hH 0 c).before 7 t d = iblk m hO c 7 t :=
  before0_7_of m hO (dats m hO hH 0 c) (A_eq m hO hH c 7) (after0_7 m hO hH c) t d

theorem before0_9_B (hO : Ok m) (hH : Hyps m hO) (c : Dev nD) (t : Fin (cfgM m hO).N) (h0 : ¬t.val % 50 = 0) (d) :
    (dats m hO hH 0 c).before 9 t d = (outsAt0 m hO hH c (t.val - 1) (Nat.lt_of_le_of_lt (Nat.sub_le _ _) t.isLt)).2 := by
  have hN : t.val < 50 := lt_of_lt_of_eq t.isLt (show (cfgM m hO).N = 50 from N_0)
  rw [Dat.before_out_kept _ 9 rfl t (by omega) (Bool.eq_false_iff.mpr fun h => by have := (flush0_9 (adm m hO) _).mp h; dsimp only at this; omega)
    (fun _ => rfl) (fun _ _ => rfl)]
  dsimp only [dats]
  try rfl

def bodyPre (hO : Ok m) (hH : Hyps m hO) (c : Dev nD) (t : Fin (cfgM m hO).N) : sProp (MT nD τ sig Unit (Elt F) ℕ (UR sig nD τ) ℕ) :=
  iprop((dats m hO hH 0 c).Φ t.castSucc ∗ (dats m hO hH 0 c).owesAt () t.castSucc
    ∗ (∃ d, owns (c : Thread nD τ) (ms0_0 m hO t) fullShare ((dats m hO hH 0 c).before 0 t d))
    ∗ (∃ d, owns (c : Thread nD τ) (ms0_1 m hO t) fullShare ((dats m hO hH 0 c).before 1 t d))
    ∗ (∃ d, owns (c : Thread nD τ) (ms0_2 m hO t) fullShare ((dats m hO hH 0 c).before 2 t d))
    ∗ (∃ d, owns (c : Thread nD τ) (ms0_3 m hO t) fullShare ((dats m hO hH 0 c).before 3 t d))
    ∗ (∃ d, owns (c : Thread nD τ) (ms0_4 m hO t) fullShare ((dats m hO hH 0 c).before 4 t d))
    ∗ (∃ d, owns (c : Thread nD τ) (ms0_5 m hO t) fullShare ((dats m hO hH 0 c).before 5 t d))
    ∗ (∃ d, owns (c : Thread nD τ) (ms0_6 m hO t) fullShare ((dats m hO hH 0 c).before 6 t d))
    ∗ (∃ d, owns (c : Thread nD τ) (ms0_7 m hO t) fullShare ((dats m hO hH 0 c).before 7 t d))
    ∗ (∃ d, owns (c : Thread nD τ) (ms0_8 m hO t) fullShare ((dats m hO hH 0 c).before 8 t d))
    ∗ (∃ d, owns (c : Thread nD τ) (ms0_9 m hO t) fullShare ((dats m hO hH 0 c).before 9 t d)))

def bodyPost (hO : Ok m) (hH : Hyps m hO) (c : Dev nD) (t : Fin (cfgM m hO).N) : sProp (MT nD τ sig Unit (Elt F) ℕ (UR sig nD τ) ℕ) :=
  iprop((dats m hO hH 0 c).Φ t.succ ∗ (dats m hO hH 0 c).owesAt () t.succ
    ∗ owns (c : Thread nD τ) (ms0_0 m hO t) fullShare ((dats m hO hH 0 c).after 0 t)
    ∗ owns (c : Thread nD τ) (ms0_1 m hO t) fullShare ((dats m hO hH 0 c).after 1 t)
    ∗ owns (c : Thread nD τ) (ms0_2 m hO t) fullShare ((dats m hO hH 0 c).after 2 t)
    ∗ owns (c : Thread nD τ) (ms0_3 m hO t) fullShare ((dats m hO hH 0 c).after 3 t)
    ∗ owns (c : Thread nD τ) (ms0_4 m hO t) fullShare ((dats m hO hH 0 c).after 4 t)
    ∗ owns (c : Thread nD τ) (ms0_5 m hO t) fullShare ((dats m hO hH 0 c).after 5 t)
    ∗ owns (c : Thread nD τ) (ms0_6 m hO t) fullShare ((dats m hO hH 0 c).after 6 t)
    ∗ owns (c : Thread nD τ) (ms0_7 m hO t) fullShare ((dats m hO hH 0 c).after 7 t)
    ∗ owns (c : Thread nD τ) (ms0_8 m hO t) fullShare ((dats m hO hH 0 c).after 8 t)
    ∗ owns (c : Thread nD τ) (ms0_9 m hO t) fullShare ((dats m hO hH 0 c).after 9 t))

set_option maxHeartbeats 1600000 in

theorem sound_body (hO : Ok m) (hH : Hyps m hO) (c : Dev nD) (t : Fin (cfgM m hO).N) :
    bodyPre m hO hH c t ⊢ wp frame (wpE (defs₀ (F := F)) Variants.none c none) Set.univ (bodyAt0 (adm m hO) t) (fun _ => bodyPost m hO hH c t) := by
  unfold bodyPre bodyPost bodyAt0
  simp only [before0_0, before0_1, before0_2, before0_3, before0_4, before0_5, before0_6, before0_7]
  rw [show (dats m hO hH 0 c).Φ t.succ = (dats m hO hH 0 c).Φ t.castSucc from rfl,
    show (dats m hO hH 0 c).owesAt () t.succ = (dats m hO hH 0 c).owesAt () t.castSucc from rfl,
    after0_0, after0_1, after0_2, after0_3, after0_4, after0_5, after0_6, after0_7, after0_8, after0_9]
  rw [show (dats m hO hH 0 c).Φ t.castSucc = iprop(inv m c ∗ Pipeline.ΦT pre0 (tbl m) c) from rfl, PhiT0_eq]
  have hN : t.val < 50 := lt_of_lt_of_eq t.isLt (show (cfgM m hO).N = 50 from N_0)
  by_cases h0 : t.val % 50 = 0
  · rw [outsAt0_A m hO hH c t h0]
    unfold out0_A_8 out0_A_9; (try dsimp only)
    iintro ⟨⟨HΦ, ⟨HT0, HT1⟩⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
    iapply ((kernelRun0_A c (grid0.coords t) _ _ _ _ _ _ _ _ _ _ _ _ _ _ _ _ _ _ _ _ ((hcond0_0 t).mpr h0) (iblk m hO c 0 t) (iblk m hO c 1 t) (iblk m hO c 2 t) (iblk m hO c 3 t) (iblk m hO c 4 t) (iblk m hO c 5 t) (iblk m hO c 6 t) (iblk m hO c 7 t) (tbl m 0) (tbl m 1) (Hyps.c0 hH c t)).2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexists _; iexact H8
    isplitl [H9]; · iexists _; iexact H9
    isplitl [HT0]; · iexact HT0
    isplitl [HT1]; · iexact HT1
    iintro ⟨H0, H1, H2, H3, H4, H5, H6, H7, ⟨%e8, H8⟩, ⟨%e9, H9⟩, HT0, HT1⟩
    isplitl [HΦ HT0 HT1]
    · isplitl [HΦ]
      · iexact HΦ
      isplitl [HT0]; · iexact HT0
      iexact HT1
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]
    · unfold owns; iexists _; isplitr
      swap; · iexact H8
      ipureintro; exact View.read_writes_of_cover _ _ _ _ _ (cover0_A_8 c _ _ _ _ _ _ _ _ _ _ _ _ _ _ _ _ _ _ _ _ _ _ _ _ _ _ _ _ _ _ _ _ _)
    unfold owns; iexists _; isplitr
    swap; · iexact H9
    ipureintro; exact View.read_writes_of_cover _ _ _ _ _ (cover0_A_9 c _ _ _ _ _ _ _ _ _ _ _ _ _ _ _ _ _ _ _ _ _ _ _ _ _ _ _ _ _ _ _ _ _)
  · rw [outsAt0_B m hO hH c t h0]
    simp only [before0_9_B m hO hH c t h0]
    unfold out0_B_8 out0_B_9; (try dsimp only)
    iintro ⟨⟨HΦ, ⟨HT0, HT1⟩⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
    iapply ((kernelRun0_B c (grid0.coords t) _ _ _ _ _ _ _ _ _ _ _ _ _ _ _ _ _ _ _ _ (fun h => h0 ((hcond0_0 t).mp h)) (iblk m hO c 0 t) (iblk m hO c 1 t) (iblk m hO c 2 t) (iblk m hO c 3 t) (iblk m hO c 4 t) (iblk m hO c 5 t) (iblk m hO c 6 t) (iblk m hO c 7 t) (tbl m 0) (tbl m 1) _ (Hyps.c0 hH c t)).2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexists _; iexact H8
    isplitl [H9]; · iexact H9
    isplitl [HT0]; · iexact HT0
    isplitl [HT1]; · iexact HT1
    iintro ⟨H0, H1, H2, H3, H4, H5, H6, H7, ⟨%e8, H8⟩, H9, HT0, HT1⟩
    isplitl [HΦ HT0 HT1]
    · isplitl [HΦ]
      · iexact HΦ
      isplitl [HT0]; · iexact HT0
      iexact HT1
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]
    · unfold owns; iexists _; isplitr
      swap; · iexact H8
      ipureintro; exact View.read_writes_of_cover _ _ _ _ _ (cover0_B_8 c _ _ _ _ _ _ _ _ _ _ _ _ _ _ _ _ _ _ _ _ _ _ _ _ _ _ _ _ _ _ _ _ _ _)
    unfold owns; iexists _; isplitr
    swap; · iexact H9
    ipureintro; rfl

theorem defs₀_row (hO : Ok m) (t : Fin (cfgM m hO).N) :
    defs₀ (F := F) .tc (cfgM m hO).body ((cfgM m hO).bodyArgs t ((cfgM m hO).slots t)) = bodyAt0 (adm m hO) t := by
  unfold defs₀; rw [Defs.onTc_tc]

theorem body_obligation (hO : Ok m) (hH : Hyps m hO) (c : Dev nD) : BodyObligation (dats (F := F) m hO hH 0 c) (defs₀ (F := F)) Variants.none () Set.univ := fun t => by
  rw [bigSep_W0, bigSep_W0, defs₀_row m hO]
  exact triple_restated (sound_body m hO hH c t) rfl .rfl fun _ => .rfl

end Cert.One
-- ==== Proof.TwoRuns.lean ====
/- The second call: when its windows move, its blocks, and the side condition of the two tables. -/
module

public import proofs.«01_k».proof.Proof.Gen.KernelIdeal.Launch
public import proofs.«01_k».proof.Proof.Gen.KernelIdeal.Skeleton
public import proofs.«01_k».proof.Proof.Gen.KernelIdeal.Loops
public import Idealize.ShloMosaic.Lib.Pipeline.Kit
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.Two

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

variable (m : Dev nD → Valuation τ sig (Elt F))

theorem fetch0_0 (a : (pcfg1 (F := F)).Adm) : ∀ t : Fin (cfg1 a).N, ((cfg1 a).win 0).fetch t = true :=
  (fun t => (Pipeline.Window.fetchOf_reads cc1_transform_0 reads1_0 hreads1_0 0 (by decide) (by decide) (Pipeline.Window.sep_of_coord cc1_transform_0 0 0 (fun _ => rfl) (by decide)) (P := 1) (by decide) t).mpr (Nat.mod_one _) : ∀ t : Fin grid1.N, Pipeline.Window.fetchOf grid1 false cc1_transform_0 t = true)

theorem fetch0_1 (a : (pcfg1 (F := F)).Adm) : ∀ t : Fin (cfg1 a).N, ((cfg1 a).win 1).fetch t = true :=
  (fun t => (Pipeline.Window.fetchOf_reads cc1_transform_1 reads1_1 hreads1_1 0 (by decide) (by decide) (Pipeline.Window.sep_of_coord cc1_transform_1 0 0 (fun _ => rfl) (by decide)) (P := 1) (by decide) t).mpr (Nat.mod_one _) : ∀ t : Fin grid1.N, Pipeline.Window.fetchOf grid1 false cc1_transform_1 t = true)

theorem fetch0_2 (a : (pcfg1 (F := F)).Adm) : ∀ t : Fin (cfg1 a).N, ((cfg1 a).win 2).fetch t = true :=
  (fun t => (Pipeline.Window.fetchOf_reads cc1_transform_2 reads1_2 hreads1_2 0 (by decide) (by decide) (Pipeline.Window.sep_of_coord cc1_transform_2 0 0 (fun _ => rfl) (by decide)) (P := 1) (by decide) t).mpr (Nat.mod_one _) : ∀ t : Fin grid1.N, Pipeline.Window.fetchOf grid1 false cc1_transform_2 t = true)

theorem fetch0_3 (a : (pcfg1 (F := F)).Adm) : ∀ t : Fin (cfg1 a).N, ((cfg1 a).win 3).fetch t = true ↔ t.val % 50 = 0 :=
  (fun t => Pipeline.Window.fetchOf_const cc1_transform_3 (fun _ _ => rfl) (n := 50) (by decide) t : ∀ t : Fin grid1.N, Pipeline.Window.fetchOf grid1 false cc1_transform_3 t = true ↔ t.val % 50 = 0)

theorem fetch0_4 (a : (pcfg1 (F := F)).Adm) : ∀ t : Fin (cfg1 a).N, ((cfg1 a).win 4).fetch t = true ↔ t.val % 50 = 0 :=
  (fun t => Pipeline.Window.fetchOf_const cc1_transform_4 (fun _ _ => rfl) (n := 50) (by decide) t : ∀ t : Fin grid1.N, Pipeline.Window.fetchOf grid1 false cc1_transform_4 t = true ↔ t.val % 50 = 0)

theorem fetch0_5 (a : (pcfg1 (F := F)).Adm) : ∀ t : Fin (cfg1 a).N, ((cfg1 a).win 5).fetch t = true ↔ t.val % 50 = 0 :=
  (fun t => Pipeline.Window.fetchOf_const cc1_transform_5 (fun _ _ => rfl) (n := 50) (by decide) t : ∀ t : Fin grid1.N, Pipeline.Window.fetchOf grid1 false cc1_transform_5 t = true ↔ t.val % 50 = 0)

theorem fetch0_6 (a : (pcfg1 (F := F)).Adm) : ∀ t : Fin (cfg1 a).N, ((cfg1 a).win 6).fetch t = true ↔ t.val % 50 = 0 :=
  (fun t => Pipeline.Window.fetchOf_const cc1_transform_6 (fun _ _ => rfl) (n := 50) (by decide) t : ∀ t : Fin grid1.N, Pipeline.Window.fetchOf grid1 false cc1_transform_6 t = true ↔ t.val % 50 = 0)

theorem fetch0_7 (a : (pcfg1 (F := F)).Adm) : ∀ t : Fin (cfg1 a).N, ((cfg1 a).win 7).fetch t = true ↔ t.val % 50 = 0 :=
  (fun t => Pipeline.Window.fetchOf_const cc1_transform_7 (fun _ _ => rfl) (n := 50) (by decide) t : ∀ t : Fin grid1.N, Pipeline.Window.fetchOf grid1 false cc1_transform_7 t = true ↔ t.val % 50 = 0)

theorem fetch0_8 (a : (pcfg1 (F := F)).Adm) : ∀ t : Fin (cfg1 a).N, ((cfg1 a).win 8).fetch t = true ↔ t.val % 50 = 0 :=
  (fun t => Pipeline.Window.fetchOf_const cc1_transform_8 (fun _ _ => rfl) (n := 50) (by decide) t : ∀ t : Fin grid1.N, Pipeline.Window.fetchOf grid1 false cc1_transform_8 t = true ↔ t.val % 50 = 0)

theorem flush0_9 (a : (pcfg1 (F := F)).Adm) : ∀ t : Fin (cfg1 a).N, ((cfg1 a).win 9).flush t = true ↔ t.val % 50 = 49 :=
  (fun t => Pipeline.Window.flushOf_const cc1_transform_9 (fun _ _ => rfl) (n := 50) (by decide) rfl t : ∀ t : Fin grid1.N, Pipeline.Window.flushOf grid1 true cc1_transform_9 t = true ↔ t.val % 50 = 49)

abbrev st0_0 (a : (pcfg1 (F := F)).Adm) (t : Fin (cfg1 a).N) := ((cfg1 a).win 0).stage ((cfg1 a).slots t 0)
abbrev st0_1 (a : (pcfg1 (F := F)).Adm) (t : Fin (cfg1 a).N) := ((cfg1 a).win 1).stage ((cfg1 a).slots t 1)
abbrev st0_2 (a : (pcfg1 (F := F)).Adm) (t : Fin (cfg1 a).N) := ((cfg1 a).win 2).stage ((cfg1 a).slots t 2)
abbrev st0_3 (a : (pcfg1 (F := F)).Adm) (t : Fin (cfg1 a).N) := ((cfg1 a).win 3).stage ((cfg1 a).slots t 3)
abbrev st0_4 (a : (pcfg1 (F := F)).Adm) (t : Fin (cfg1 a).N) := ((cfg1 a).win 4).stage ((cfg1 a).slots t 4)
abbrev st0_5 (a : (pcfg1 (F := F)).Adm) (t : Fin (cfg1 a).N) := ((cfg1 a).win 5).stage ((cfg1 a).slots t 5)
abbrev st0_6 (a : (pcfg1 (F := F)).Adm) (t : Fin (cfg1 a).N) := ((cfg1 a).win 6).stage ((cfg1 a).slots t 6)
abbrev st0_7 (a : (pcfg1 (F := F)).Adm) (t : Fin (cfg1 a).N) := ((cfg1 a).win 7).stage ((cfg1 a).slots t 7)
abbrev st0_8 (a : (pcfg1 (F := F)).Adm) (t : Fin (cfg1 a).N) := ((cfg1 a).win 8).stage ((cfg1 a).slots t 8)
abbrev st0_9 (a : (pcfg1 (F := F)).Adm) (t : Fin (cfg1 a).N) := ((cfg1 a).win 9).stage ((cfg1 a).slots t 9)

abbrev bodyAt0 (a : (pcfg1 (F := F)).Adm) (t : Fin (cfg1 a).N) : Prog (TpuEff nD τ sig (Elt F) Λ₀ .tc) PUnit :=
  cc1__p2_body (grid1.coords t) (Memref.whole main_v1) (Memref.isWhole_whole _) (Memref.whole main_v2) (Memref.isWhole_whole _) (spec1_0.stage ((cfg1 a).slots t 0)) (hstage1_0 (((cfg1 a).slots t 0).cast nbuf1_0)) (spec1_1.stage ((cfg1 a).slots t 1)) (hstage1_1 (((cfg1 a).slots t 1).cast nbuf1_1)) (spec1_2.stage ((cfg1 a).slots t 2)) (hstage1_2 (((cfg1 a).slots t 2).cast nbuf1_2)) (spec1_3.stage ((cfg1 a).slots t 3)) (hstage1_3 (((cfg1 a).slots t 3).cast nbuf1_3)) (spec1_4.stage ((cfg1 a).slots t 4)) (hstage1_4 (((cfg1 a).slots t 4).cast nbuf1_4)) (spec1_5.stage ((cfg1 a).slots t 5)) (hstage1_5 (((cfg1 a).slots t 5).cast nbuf1_5)) (spec1_6.stage ((cfg1 a).slots t 6)) (hstage1_6 (((cfg1 a).slots t 6).cast nbuf1_6)) (spec1_7.stage ((cfg1 a).slots t 7)) (hstage1_7 (((cfg1 a).slots t 7).cast nbuf1_7)) (spec1_8.stage ((cfg1 a).slots t 8)) (hstage1_8 (((cfg1 a).slots t 8).cast nbuf1_8)) (spec1_9.stage ((cfg1 a).slots t 9)) (hstage1_9 (((cfg1 a).slots t 9).cast nbuf1_9)) (Memref.whole cc1_scratch0) (Memref.isWhole_whole _)

abbrev V (c : Dev nD) (b : Ref sig .tc) : Buf (Elt F) ((c : Thread nD τ).loc b) := m c b

def tbl : pre1.Contents (Elt F) := fun j => V m (0 : Dev nD) (pre1.ref j)

theorem V_pre (c : Dev nD) (j : Fin 2) : V m c (pre1.ref j) = tbl m j := by
  obtain rfl : c = 0 := Subsingleton.elim _ _; rfl

abbrev Ok : Prop := ok1 (F := F) (tbl m)

abbrev adm (hO : Ok m) : (pcfg1 (F := F)).Adm := ⟨tbl m, hO⟩
abbrev cfgM (hO : Ok m) : Pipeline.Cfg sig Λ₀ := cfg1 (adm m hO)

abbrev tbM0_0 : Memref sig .tc .smem S50 .i32 := Memref.whole main_v1
abbrev htbM0_0 : tbM0_0.IsWhole := Memref.isWhole_whole _
abbrev tbM0_1 : Memref sig .tc .smem S50 .i32 := Memref.whole main_v2
abbrev htbM0_1 : tbM0_1.IsWhole := Memref.isWhole_whole _

abbrev TbBuf0 (c : Dev nD) {S : Shape} {e : EltTy} (M : Memref sig .tc .smem S e) : Type := Buf (Elt F) (M.view.loc (c : Thread nD τ))
abbrev tbPt0 (c : Dev nD) {S : Shape} {e : EltTy} (M : Memref sig .tc .smem S e) (f : TbBuf0 (F := F) c M) : sProp (MT nD τ sig Unit (Elt F) ℕ (UR sig nD τ) ℕ) :=
  M.view.loc (c : Thread nD τ) ↦{fullShare.right} f

theorem PhiT0_eq (c : Dev nD) : (Pipeline.ΦT pre1 (tbl m) c : sProp (MT nD τ sig Unit (Elt F) ℕ (UR sig nD τ) ℕ)) = iprop(tbPt0 c tbM0_0 (tbl m 0) ∗ tbPt0 c tbM0_1 (tbl m 1)) := by
  unfold Pipeline.ΦT Pipeline.prefHeld
  rw [show (Finset.univ : Finset (Fin 2)) = insert (0 : Fin 2) {(1 : Fin 2)} from by decide,
    bigSep_insert (by decide), bigSep_singleton]
  rfl

def iblk (hO : Ok m) (c : Dev nD) (w : Fin (cfgM m hO).W) (t : Fin (cfgM m hO).N) : (((cfgM m hO).win w).xblock ((cfgM m hO).grid.coords t)).Idx → Elt F ((cfgM m hO).win w).elt :=
  (((cfgM m hO).win w).blk t).view.read (Elt F) (V m c (Pipeline.arrRef spec1 w))

theorem before0_0_of (hO : Ok m) {c : Dev nD} (dat : Dat τ (Elt F) Unit ℕ (UR sig nD τ) ℕ (cfgM m hO) c) (hA : dat.A 0 = V m c (Pipeline.arrRef spec1 0))
    (hafter : ∀ t, dat.after 0 t = iblk m hO c 0 t) (t : Fin (cfgM m hO).N) (d) : dat.before 0 t d = iblk m hO c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

theorem before0_1_of (hO : Ok m) {c : Dev nD} (dat : Dat τ (Elt F) Unit ℕ (UR sig nD τ) ℕ (cfgM m hO) c) (hA : dat.A 1 = V m c (Pipeline.arrRef spec1 1))
    (hafter : ∀ t, dat.after 1 t = iblk m hO c 1 t) (t : Fin (cfgM m hO).N) (d) : dat.before 1 t d = iblk m hO c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

theorem before0_2_of (hO : Ok m) {c : Dev nD} (dat : Dat τ (Elt F) Unit ℕ (UR sig nD τ) ℕ (cfgM m hO) c) (hA : dat.A 2 = V m c (Pipeline.arrRef spec1 2))
    (hafter : ∀ t, dat.after 2 t = iblk m hO c 2 t) (t : Fin (cfgM m hO).N) (d) : dat.before 2 t d = iblk m hO c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

theorem before0_3_of (hO : Ok m) {c : Dev nD} (dat : Dat τ (Elt F) Unit ℕ (UR sig nD τ) ℕ (cfgM m hO) c) (hA : dat.A 3 = V m c (Pipeline.arrRef spec1 3))
    (hafter : ∀ t, dat.after 3 t = iblk m hO c 3 t) (t : Fin (cfgM m hO).N) (d) : dat.before 3 t d = iblk m hO c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

theorem before0_4_of (hO : Ok m) {c : Dev nD} (dat : Dat τ (Elt F) Unit ℕ (UR sig nD τ) ℕ (cfgM m hO) c) (hA : dat.A 4 = V m c (Pipeline.arrRef spec1 4))
    (hafter : ∀ t, dat.after 4 t = iblk m hO c 4 t) (t : Fin (cfgM m hO).N) (d) : dat.before 4 t d = iblk m hO c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

theorem before0_5_of (hO : Ok m) {c : Dev nD} (dat : Dat τ (Elt F) Unit ℕ (UR sig nD τ) ℕ (cfgM m hO) c) (hA : dat.A 5 = V m c (Pipeline.arrRef spec1 5))
    (hafter : ∀ t, dat.after 5 t = iblk m hO c 5 t) (t : Fin (cfgM m hO).N) (d) : dat.before 5 t d = iblk m hO c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

theorem before0_6_of (hO : Ok m) {c : Dev nD} (dat : Dat τ (Elt F) Unit ℕ (UR sig nD τ) ℕ (cfgM m hO) c) (hA : dat.A 6 = V m c (Pipeline.arrRef spec1 6))
    (hafter : ∀ t, dat.after 6 t = iblk m hO c 6 t) (t : Fin (cfgM m hO).N) (d) : dat.before 6 t d = iblk m hO c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)

theorem before0_7_of (hO : Ok m) {c : Dev nD} (dat : Dat τ (Elt F) Unit ℕ (UR sig nD τ) ℕ (cfgM m hO) c) (hA : dat.A 7 = V m c (Pipeline.arrRef spec1 7))
    (hafter : ∀ t, dat.after 7 t = iblk m hO c 7 t) (t : Fin (cfgM m hO).N) (d) : dat.before 7 t d = iblk m hO c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)

theorem before0_8_of (hO : Ok m) {c : Dev nD} (dat : Dat τ (Elt F) Unit ℕ (UR sig nD τ) ℕ (cfgM m hO) c) (hA : dat.A 8 = V m c (Pipeline.arrRef spec1 8))
    (hafter : ∀ t, dat.after 8 t = iblk m hO c 8 t) (t : Fin (cfgM m hO).N) (d) : dat.before 8 t d = iblk m hO c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)

abbrev cond0_0 (i : grid1.Coords) : Prop := (Scalar.cmpi .ne (Scalar.extui (Scalar.cmpi .eq (BitVec.ofNat 32 (i 0).val) 0#32)) 0#32) = 1#1

theorem hcond0_0 : ∀ t : Fin grid1.N, cond0_0 (grid1.coords t) ↔ t.val % 50 = 0 :=
  (fun t => by
    have ht : t.val < 50 := Nat.lt_of_lt_of_eq t.isLt N_1
    have e0 : (grid1.coords t 0).val = t.val / 1 % 50 := Pipeline.Grid.coords_val t 0 (by decide) rfl
    simp only [cond0_0, e0]
    word_cmp
   : ∀ t : Fin grid1.N, cond0_0 (grid1.coords t) ↔ t.val % 50 = 0)

abbrev VO0_9 : View sig .tc .vmem S320x10 .f32 := (Memref.whole cc1_stg9_0 : Memref sig .tc .vmem S320x10 .f32).view

abbrev ms0_0 (hO : Ok m) (t : Fin (cfgM m hO).N) : Memref sig .tc .vmem S2000x128 .f32 := spec1_0.stage ((cfgM m hO).slots t 0)
abbrev hs0_0 (hO : Ok m) (t : Fin (cfgM m hO).N) : (ms0_0 m hO t).IsWhole := hstage1_0 (((cfgM m hO).slots t 0).cast nbuf1_0)
abbrev ms0_1 (hO : Ok m) (t : Fin (cfgM m hO).N) : Memref sig .tc .vmem S2000x1 .i32 := spec1_1.stage ((cfgM m hO).slots t 1)
abbrev hs0_1 (hO : Ok m) (t : Fin (cfgM m hO).N) : (ms0_1 m hO t).IsWhole := hstage1_1 (((cfgM m hO).slots t 1).cast nbuf1_1)
abbrev ms0_2 (hO : Ok m) (t : Fin (cfgM m hO).N) : Memref sig .tc .vmem S2000x1 .f32 := spec1_2.stage ((cfgM m hO).slots t 2)
abbrev hs0_2 (hO : Ok m) (t : Fin (cfgM m hO).N) : (ms0_2 m hO t).IsWhole := hstage1_2 (((cfgM m hO).slots t 2).cast nbuf1_2)
abbrev ms0_3 (hO : Ok m) (t : Fin (cfgM m hO).N) : Memref sig .tc .vmem S320x128 .f32 := spec1_3.stage ((cfgM m hO).slots t 3)
abbrev hs0_3 (hO : Ok m) (t : Fin (cfgM m hO).N) : (ms0_3 m hO t).IsWhole := hstage1_3 (((cfgM m hO).slots t 3).cast nbuf1_3)
abbrev ms0_4 (hO : Ok m) (t : Fin (cfgM m hO).N) : Memref sig .tc .vmem S128x128 .f32 := spec1_4.stage ((cfgM m hO).slots t 4)
abbrev hs0_4 (hO : Ok m) (t : Fin (cfgM m hO).N) : (ms0_4 m hO t).IsWhole := hstage1_4 (((cfgM m hO).slots t 4).cast nbuf1_4)
abbrev ms0_5 (hO : Ok m) (t : Fin (cfgM m hO).N) : Memref sig .tc .vmem S128x128 .f32 := spec1_5.stage ((cfgM m hO).slots t 5)
abbrev hs0_5 (hO : Ok m) (t : Fin (cfgM m hO).N) : (ms0_5 m hO t).IsWhole := hstage1_5 (((cfgM m hO).slots t 5).cast nbuf1_5)
abbrev ms0_6 (hO : Ok m) (t : Fin (cfgM m hO).N) : Memref sig .tc .vmem S128 .f32 := spec1_6.stage ((cfgM m hO).slots t 6)
abbrev hs0_6 (hO : Ok m) (t : Fin (cfgM m hO).N) : (ms0_6 m hO t).IsWhole := hstage1_6 (((cfgM m hO).slots t 6).cast nbuf1_6)
abbrev ms0_7 (hO : Ok m) (t : Fin (cfgM m hO).N) : Memref sig .tc .vmem S128x10 .f32 := spec1_7.stage ((cfgM m hO).slots t 7)
abbrev hs0_7 (hO : Ok m) (t : Fin (cfgM m hO).N) : (ms0_7 m hO t).IsWhole := hstage1_7 (((cfgM m hO).slots t 7).cast nbuf1_7)
abbrev ms0_8 (hO : Ok m) (t : Fin (cfgM m hO).N) : Memref sig .tc .vmem S10 .f32 := spec1_8.stage ((cfgM m hO).slots t 8)
abbrev hs0_8 (hO : Ok m) (t : Fin (cfgM m hO).N) : (ms0_8 m hO t).IsWhole := hstage1_8 (((cfgM m hO).slots t 8).cast nbuf1_8)
abbrev ms0_9 (hO : Ok m) (t : Fin (cfgM m hO).N) : Memref sig .tc .vmem S320x10 .f32 := spec1_9.stage ((cfgM m hO).slots t 9)
abbrev hs0_9 (hO : Ok m) (t : Fin (cfgM m hO).N) : (ms0_9 m hO t).IsWhole := hstage1_9 (((cfgM m hO).slots t 9).cast nbuf1_9)

def Hyps (m : Dev nD → Valuation τ sig (Elt F)) (hO : Ok m) : Prop :=
  ∀ (c : Dev nD) (t : Fin (cfgM m hO).N),
    k1_chk1 (tbM0_0.view.readAt (Elt F) (Rect.unit (s := S50) (k1_off1 (grid1.coords t)) S1.size (k1_off1_inb (grid1.coords t))).toLoadRect (tbl m 0) (Shape.Idx.first (numel1_S1.symm ▸ Nat.one_pos))) (tbM0_1.view.readAt (Elt F) (Rect.unit (s := S50) (k1_off1 (grid1.coords t)) S1.size (k1_off1_inb (grid1.coords t))).toLoadRect (tbl m 1) (Shape.Idx.first (numel1_S1.symm ▸ Nat.one_pos)))

abbrev Hyps.p0 (m : Dev nD → Valuation τ sig (Elt F)) (hO : Ok m) (c : Dev nD) (t : Fin (cfgM m hO).N) : Prop :=
  k1_chk1 (tbM0_0.view.readAt (Elt F) (Rect.unit (s := S50) (k1_off1 (grid1.coords t)) S1.size (k1_off1_inb (grid1.coords t))).toLoadRect (tbl m 0) (Shape.Idx.first (numel1_S1.symm ▸ Nat.one_pos))) (tbM0_1.view.readAt (Elt F) (Rect.unit (s := S50) (k1_off1 (grid1.coords t)) S1.size (k1_off1_inb (grid1.coords t))).toLoadRect (tbl m 1) (Shape.Idx.first (numel1_S1.symm ▸ Nat.one_pos)))
variable {m} in
theorem Hyps.c0 {hO : Ok m} (hH : Hyps m hO) (c : Dev nD) (t : Fin (cfgM m hO).N) :
    k1_chk1 (tbM0_0.view.readAt (Elt F) (Rect.unit (s := S50) (k1_off1 (grid1.coords t)) S1.size (k1_off1_inb (grid1.coords t))).toLoadRect (tbl m 0) (Shape.Idx.first (numel1_S1.symm ▸ Nat.one_pos))) (tbM0_1.view.readAt (Elt F) (Rect.unit (s := S50) (k1_off1 (grid1.coords t)) S1.size (k1_off1_inb (grid1.coords t))).toLoadRect (tbl m 1) (Shape.Idx.first (numel1_S1.symm ▸ Nat.one_pos))) := (hH c t)
variable {m} in
theorem Hyps.of {hO : Ok m}
    (p0 : ∀ (c : Dev nD) (t : Fin (cfgM m hO).N), Hyps.p0 m hO c t) :
    Hyps m hO := fun c t =>
  p0 c t

abbrev scM0_0 : Memref sig .tc .vmem S320x128 .f32 := Memref.whole cc1_scratch0

abbrev VS0_0 : View sig .tc .vmem S320x128 .f32 := scM0_0.view

abbrev others : List (Ref sig .tc) :=
  [cc0_stg0_0, cc0_stg0_1, cc0_stg1_0, cc0_stg1_1, cc0_stg2_0, cc0_stg3_0, cc0_stg4_0, cc0_stg5_0, cc0_stg6_0, cc0_stg7_0, cc0_stg8_0, cc0_stg8_1, cc0_stg9_0]

/-- The tables' half that the body does not use. -/
abbrev left (c : Dev nD) : sProp (MT nD τ sig Unit (Elt F) ℕ (UR sig nD τ) ℕ) :=
  Pipeline.prefHeld pre1 c (fun _ => fullShare.left) (tbl m)

/-- What this call leaves alone: the first call's buffers, at any contents, the register of the random numbers and the unused half of
    the tables. -/
def rest (c : Dev nD) : sProp (MT nD τ sig Unit (Elt F) ℕ (UR sig nD τ) ℕ) :=
  iprop(((bigSepL others fun b => iprop(∃ f : Buf (Elt F) ((c : Thread nD τ).loc b), ((c : Thread nD τ).loc b) ↦{fullShare} f)) ∗ ∃ r, prngReg c r) ∗ left m c)

/-- What rides beside the windows. -/
def inv (c : Dev nD) : sProp (MT nD τ sig Unit (Elt F) ℕ (UR sig nD τ) ℕ) := iprop(Pipeline.ΦA spec1 c ∗ left m c)

theorem regroup {M : Type _} [URA M] (P Q R S : sProp M) : iprop(((P ∗ Q) ∗ R) ∗ S) = iprop(P ∗ ((Q ∗ R) ∗ S)) :=
  (congrArg (fun X => iprop(X ∗ S)) (BI.Entails.antisymm BI.sep_assoc BI.sep_assoc')).trans (BI.Entails.antisymm BI.sep_assoc BI.sep_assoc')

theorem PhiA0_eq (c : Dev nD) : inv m c = iprop((∃ d, owns (c : Thread nD τ) scM0_0 fullShare d) ∗ rest m c) := by
  unfold inv Pipeline.ΦA rest
  rw [Pipeline.scopedRest_eq_of_list spec1 c (cc1_scratch0 :: others) (by decide) (by decide)]
  simp only [scM0_0, owns_whole]
  exact regroup _ _ _ _

end Cert.Two
-- ==== Proof.TwoA.lean ====
/- The second call at its first point. -/
module

public import proofs.«01_k».proof.Proof.TwoRuns

@[expose] public section

set_option maxRecDepth 16384

noncomputable section

namespace Cert.Two

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

variable (m : Dev nD → Valuation τ sig (Elt F))

set_option maxHeartbeats 1000000 in

noncomputable def kernelRun0_A (c : Dev nD) (i : grid1.Coords) (arg3 : Memref sig .tc .vmem S2000x128 .f32) (harg3 : arg3.IsWhole) (arg4 : Memref sig .tc .vmem S2000x1 .i32) (harg4 : arg4.IsWhole) (arg5 : Memref sig .tc .vmem S2000x1 .f32) (harg5 : arg5.IsWhole) (arg6 : Memref sig .tc .vmem S320x128 .f32) (harg6 : arg6.IsWhole) (arg7 : Memref sig .tc .vmem S128x128 .f32) (harg7 : arg7.IsWhole) (arg8 : Memref sig .tc .vmem S128x128 .f32) (harg8 : arg8.IsWhole) (arg9 : Memref sig .tc .vmem S128 .f32) (harg9 : arg9.IsWhole) (arg10 : Memref sig .tc .vmem S128x10 .f32) (harg10 : arg10.IsWhole) (arg11 : Memref sig .tc .vmem S10 .f32) (harg11 : arg11.IsWhole) (arg12 : Memref sig .tc .vmem S320x10 .f32) (harg12 : arg12.IsWhole) (arg13 : Memref sig .tc .vmem S320x128 .f32) (harg13 : arg13.IsWhole) (hc0 : cond0_0 i)
    (x0 : Vec F S2000x128 .f32) (x1 : Vec F S2000x1 .i32) (x2 : Vec F S2000x1 .f32) (x3 : Vec F S320x128 .f32) (x4 : Vec F S128x128 .f32) (x5 : Vec F S128x128 .f32) (x6 : Vec F S128 .f32) (x7 : Vec F S128x10 .f32) (x8 : Vec F S10 .f32) (xt0 : TbBuf0 (F := F) c tbM0_0) (xt1 : TbBuf0 (F := F) c tbM0_1) (k1_hw1 : k1_chk1 (tbM0_0.view.readAt (Elt F) (Rect.unit (s := S50) (k1_off1 i) S1.size (k1_off1_inb i)).toLoadRect xt0 (Shape.Idx.first (numel1_S1.symm ▸ Nat.one_pos))) (tbM0_1.view.readAt (Elt F) (Rect.unit (s := S50) (k1_off1 i) S1.size (k1_off1_inb i)).toLoadRect xt1 (Shape.Idx.first (numel1_S1.symm ▸ Nat.one_pos)))) :
    Σ' (L9 : List (View.Piece (Elt F) S320x10 .f32)), { LS0 : List (View.Piece (Elt F) S320x128 .f32) //
      ∀ (E : Set ℕ) (K : PUnit → sProp (MT nD τ sig Unit (Elt F) ℕ (UR sig nD τ) ℕ)),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare x8 ∗ (∃ d, owns (c : Thread nD τ) arg12 fullShare d) ∗ (∃ d, owns (c : Thread nD τ) arg13 fullShare d) ∗ tbPt0 c tbM0_0 xt0 ∗ tbPt0 c tbM0_1 xt1
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare x8 ∗ (∃ f, arg12.view.loc (c : Thread nD τ) ↦[arg12.view.set]{fullShare} arg12.view.writes (Elt F) f L9) ∗ (∃ f, arg13.view.loc (c : Thread nD τ) ↦[arg13.view.set]{fullShare} arg13.view.writes (Elt F) f LS0) ∗ tbPt0 c tbM0_0 xt0 ∗ tbPt0 c tbM0_1 xt1) -∗ K ⟨⟩))
          ⊢ wp frame (wpE (defs₀ (F := F)) Variants.none c none) E (cc1__p2_body i tbM0_0 htbM0_0 tbM0_1 htbM0_1 arg3 harg3 arg4 harg4 arg5 harg5 arg6 harg6 arg7 harg7 arg8 harg8 arg9 harg9 arg10 harg10 arg11 harg11 arg12 harg12 arg13 harg13) K } := by
  refine ⟨?_, ?_, fun E K => ?run⟩
  case run =>
    simp only [cc1__p2_body_eq_skeleton]; unfold cc1__p2_body_skel
    simp only [k1_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%ds0, %fs0, -, HS0⟩, HT0, HT1, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6; obtain rfl := harg10.eq_unread hf7; obtain rfl := harg11.eq_unread hf8
    sl_exec (disch := first | sl_exact hc0 | sl_exact k1_hw1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _; isplitr; · ipureintro; exact harg9.read_unread _
      iexact H6
    isplitl [H7]
    · iexists _; isplitr; · ipureintro; exact harg10.read_unread _
      iexact H7
    isplitl [H8]
    · iexists _; isplitr; · ipureintro; exact harg11.read_unread _
      iexact H8
    isplitl [H9]; · iexists _; iexact H9
    isplitl [HS0]; · iexists _; iexact HS0
    isplitl [HT0]; · iexact HT0
    iexact HT1

end Cert.Two
-- ==== Proof.TwoB.lean ====
/- The second call at a later point. -/
module

public import proofs.«01_k».proof.Proof.TwoA

@[expose] public section

set_option maxRecDepth 16384

noncomputable section

namespace Cert.Two

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

variable (m : Dev nD → Valuation τ sig (Elt F))

set_option maxHeartbeats 1000000 in

noncomputable def kernelRun0_B (c : Dev nD) (i : grid1.Coords) (arg3 : Memref sig .tc .vmem S2000x128 .f32) (harg3 : arg3.IsWhole) (arg4 : Memref sig .tc .vmem S2000x1 .i32) (harg4 : arg4.IsWhole) (arg5 : Memref sig .tc .vmem S2000x1 .f32) (harg5 : arg5.IsWhole) (arg6 : Memref sig .tc .vmem S320x128 .f32) (harg6 : arg6.IsWhole) (arg7 : Memref sig .tc .vmem S128x128 .f32) (harg7 : arg7.IsWhole) (arg8 : Memref sig .tc .vmem S128x128 .f32) (harg8 : arg8.IsWhole) (arg9 : Memref sig .tc .vmem S128 .f32) (harg9 : arg9.IsWhole) (arg10 : Memref sig .tc .vmem S128x10 .f32) (harg10 : arg10.IsWhole) (arg11 : Memref sig .tc .vmem S10 .f32) (harg11 : arg11.IsWhole) (arg12 : Memref sig .tc .vmem S320x10 .f32) (harg12 : arg12.IsWhole) (arg13 : Memref sig .tc .vmem S320x128 .f32) (harg13 : arg13.IsWhole) (hc0 : ¬cond0_0 i)
    (x0 : Vec F S2000x128 .f32) (x1 : Vec F S2000x1 .i32) (x2 : Vec F S2000x1 .f32) (x3 : Vec F S320x128 .f32) (x4 : Vec F S128x128 .f32) (x5 : Vec F S128x128 .f32) (x6 : Vec F S128 .f32) (x7 : Vec F S128x10 .f32) (x8 : Vec F S10 .f32) (xt0 : TbBuf0 (F := F) c tbM0_0) (xt1 : TbBuf0 (F := F) c tbM0_1) (xo9 : Vec F S320x10 .f32) (xs0 : Vec F S320x128 .f32) (k1_hw1 : k1_chk1 (tbM0_0.view.readAt (Elt F) (Rect.unit (s := S50) (k1_off1 i) S1.size (k1_off1_inb i)).toLoadRect xt0 (Shape.Idx.first (numel1_S1.symm ▸ Nat.one_pos))) (tbM0_1.view.readAt (Elt F) (Rect.unit (s := S50) (k1_off1 i) S1.size (k1_off1_inb i)).toLoadRect xt1 (Shape.Idx.first (numel1_S1.symm ▸ Nat.one_pos)))) :
    Σ' (L9 : List (View.Piece (Elt F) S320x10 .f32)), { LS0 : List (View.Piece (Elt F) S320x128 .f32) //
      ∀ (E : Set ℕ) (K : PUnit → sProp (MT nD τ sig Unit (Elt F) ℕ (UR sig nD τ) ℕ)),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare x8 ∗ owns (c : Thread nD τ) arg12 fullShare xo9 ∗ owns (c : Thread nD τ) arg13 fullShare xs0 ∗ tbPt0 c tbM0_0 xt0 ∗ tbPt0 c tbM0_1 xt1
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare x8 ∗ (arg12.view.loc (c : Thread nD τ) ↦[arg12.view.set]{fullShare} arg12.view.writes (Elt F) (harg12.unread xo9) L9) ∗ owns (c : Thread nD τ) arg13 fullShare xs0 ∗ tbPt0 c tbM0_0 xt0 ∗ tbPt0 c tbM0_1 xt1) -∗ K ⟨⟩))
          ⊢ wp frame (wpE (defs₀ (F := F)) Variants.none c none) E (cc1__p2_body i tbM0_0 htbM0_0 tbM0_1 htbM0_1 arg3 harg3 arg4 harg4 arg5 harg5 arg6 harg6 arg7 harg7 arg8 harg8 arg9 harg9 arg10 harg10 arg11 harg11 arg12 harg12 arg13 harg13) K } := by
  refine ⟨?_, [], fun E K => ?run⟩
  case run =>
    simp only [cc1__p2_body_eq_skeleton]; unfold cc1__p2_body_skel
    simp only [k1_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%fs0, %hfs0, HS0⟩, HT0, HT1, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6; obtain rfl := harg10.eq_unread hf7; obtain rfl := harg11.eq_unread hf8; obtain rfl := harg12.eq_unread hf9; obtain rfl := harg13.eq_unread hfs0
    sl_exec (disch := first | sl_exact hc0 | sl_exact k1_hw1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _; isplitr; · ipureintro; exact harg9.read_unread _
      iexact H6
    isplitl [H7]
    · iexists _; isplitr; · ipureintro; exact harg10.read_unread _
      iexact H7
    isplitl [H8]
    · iexists _; isplitr; · ipureintro; exact harg11.read_unread _
      iexact H8
    isplitl [H9]; · iexact H9
    isplitl [HS0]
    · iexists _; isplitr; · ipureintro; exact harg13.read_unread _
      iexact HS0
    isplitl [HT0]; · iexact HT0
    iexact HT1

end Cert.Two
-- ==== Proof.TwoBody.lean ====
/- The second call: what its buffers hold after each point, and that the body keeps to it. -/
module

public import proofs.«01_k».proof.Proof.TwoB
public import Idealize.ShloMosaic.Lib.Claim

@[expose] public section

set_option maxRecDepth 16384

noncomputable section

namespace Cert.Two

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

variable (m : Dev nD → Valuation τ sig (Elt F))

theorem cover0_A_9 (c : Dev nD) (i : grid1.Coords) (arg3 : Memref sig .tc .vmem S2000x128 .f32) (harg3 : arg3.IsWhole) (arg4 : Memref sig .tc .vmem S2000x1 .i32) (harg4 : arg4.IsWhole) (arg5 : Memref sig .tc .vmem S2000x1 .f32) (harg5 : arg5.IsWhole) (arg6 : Memref sig .tc .vmem S320x128 .f32) (harg6 : arg6.IsWhole) (arg7 : Memref sig .tc .vmem S128x128 .f32) (harg7 : arg7.IsWhole) (arg8 : Memref sig .tc .vmem S128x128 .f32) (harg8 : arg8.IsWhole) (arg9 : Memref sig .tc .vmem S128 .f32) (harg9 : arg9.IsWhole) (arg10 : Memref sig .tc .vmem S128x10 .f32) (harg10 : arg10.IsWhole) (arg11 : Memref sig .tc .vmem S10 .f32) (harg11 : arg11.IsWhole) (arg12 : Memref sig .tc .vmem S320x10 .f32) (harg12 : arg12.IsWhole) (arg13 : Memref sig .tc .vmem S320x128 .f32) (harg13 : arg13.IsWhole) (hc0 : cond0_0 i)
    (x0 : Vec F S2000x128 .f32) (x1 : Vec F S2000x1 .i32) (x2 : Vec F S2000x1 .f32) (x3 : Vec F S320x128 .f32) (x4 : Vec F S128x128 .f32) (x5 : Vec F S128x128 .f32) (x6 : Vec F S128 .f32) (x7 : Vec F S128x10 .f32) (x8 : Vec F S10 .f32) (xt0 : TbBuf0 (F := F) c tbM0_0) (xt1 : TbBuf0 (F := F) c tbM0_1) (k1_hw1 : k1_chk1 (tbM0_0.view.readAt (Elt F) (Rect.unit (s := S50) (k1_off1 i) S1.size (k1_off1_inb i)).toLoadRect xt0 (Shape.Idx.first (numel1_S1.symm ▸ Nat.one_pos))) (tbM0_1.view.readAt (Elt F) (Rect.unit (s := S50) (k1_off1 i) S1.size (k1_off1_inb i)).toLoadRect xt1 (Shape.Idx.first (numel1_S1.symm ▸ Nat.one_pos)))) (y : S320x10.Idx) :
    ∃ pc ∈ (kernelRun0_A c i arg3 harg3 arg4 harg4 arg5 harg5 arg6 harg6 arg7 harg7 arg8 harg8 arg9 harg9 arg10 harg10 arg11 harg11 arg12 harg12 arg13 harg13 hc0 x0 x1 x2 x3 x4 x5 x6 x7 x8 xt0 xt1 k1_hw1).1, y ∈ pc.1.set :=
  View.cover_of_wholeMem (kernelRun0_A c i arg3 harg3 arg4 harg4 arg5 harg5 arg6 harg6 arg7 harg7 arg8 harg8 arg9 harg9 arg10 harg10 arg11 harg11 arg12 harg12 arg13 harg13 hc0 x0 x1 x2 x3 x4 x5 x6 x7 x8 xt0 xt1 k1_hw1).1 (by sl_whole_mem) y

def out0_A_9 (c : Dev nD) (i : grid1.Coords) (arg3 : Memref sig .tc .vmem S2000x128 .f32) (harg3 : arg3.IsWhole) (arg4 : Memref sig .tc .vmem S2000x1 .i32) (harg4 : arg4.IsWhole) (arg5 : Memref sig .tc .vmem S2000x1 .f32) (harg5 : arg5.IsWhole) (arg6 : Memref sig .tc .vmem S320x128 .f32) (harg6 : arg6.IsWhole) (arg7 : Memref sig .tc .vmem S128x128 .f32) (harg7 : arg7.IsWhole) (arg8 : Memref sig .tc .vmem S128x128 .f32) (harg8 : arg8.IsWhole) (arg9 : Memref sig .tc .vmem S128 .f32) (harg9 : arg9.IsWhole) (arg10 : Memref sig .tc .vmem S128x10 .f32) (harg10 : arg10.IsWhole) (arg11 : Memref sig .tc .vmem S10 .f32) (harg11 : arg11.IsWhole) (arg12 : Memref sig .tc .vmem S320x10 .f32) (harg12 : arg12.IsWhole) (arg13 : Memref sig .tc .vmem S320x128 .f32) (harg13 : arg13.IsWhole) (hc0 : cond0_0 i)
    (x0 : Vec F S2000x128 .f32) (x1 : Vec F S2000x1 .i32) (x2 : Vec F S2000x1 .f32) (x3 : Vec F S320x128 .f32) (x4 : Vec F S128x128 .f32) (x5 : Vec F S128x128 .f32) (x6 : Vec F S128 .f32) (x7 : Vec F S128x10 .f32) (x8 : Vec F S10 .f32) (xt0 : TbBuf0 (F := F) c tbM0_0) (xt1 : TbBuf0 (F := F) c tbM0_1) (k1_hw1 : k1_chk1 (tbM0_0.view.readAt (Elt F) (Rect.unit (s := S50) (k1_off1 i) S1.size (k1_off1_inb i)).toLoadRect xt0 (Shape.Idx.first (numel1_S1.symm ▸ Nat.one_pos))) (tbM0_1.view.readAt (Elt F) (Rect.unit (s := S50) (k1_off1 i) S1.size (k1_off1_inb i)).toLoadRect xt1 (Shape.Idx.first (numel1_S1.symm ▸ Nat.one_pos)))) : Vec F S320x10 .f32 :=
  VO0_9.read (Elt F) (VO0_9.writes (Elt F) VO0_9.junk (kernelRun0_A c i arg3 harg3 arg4 harg4 arg5 harg5 arg6 harg6 arg7 harg7 arg8 harg8 arg9 harg9 arg10 harg10 arg11 harg11 arg12 harg12 arg13 harg13 hc0 x0 x1 x2 x3 x4 x5 x6 x7 x8 xt0 xt1 k1_hw1).1)

theorem scover0_A_0 (c : Dev nD) (i : grid1.Coords) (arg3 : Memref sig .tc .vmem S2000x128 .f32) (harg3 : arg3.IsWhole) (arg4 : Memref sig .tc .vmem S2000x1 .i32) (harg4 : arg4.IsWhole) (arg5 : Memref sig .tc .vmem S2000x1 .f32) (harg5 : arg5.IsWhole) (arg6 : Memref sig .tc .vmem S320x128 .f32) (harg6 : arg6.IsWhole) (arg7 : Memref sig .tc .vmem S128x128 .f32) (harg7 : arg7.IsWhole) (arg8 : Memref sig .tc .vmem S128x128 .f32) (harg8 : arg8.IsWhole) (arg9 : Memref sig .tc .vmem S128 .f32) (harg9 : arg9.IsWhole) (arg10 : Memref sig .tc .vmem S128x10 .f32) (harg10 : arg10.IsWhole) (arg11 : Memref sig .tc .vmem S10 .f32) (harg11 : arg11.IsWhole) (arg12 : Memref sig .tc .vmem S320x10 .f32) (harg12 : arg12.IsWhole) (arg13 : Memref sig .tc .vmem S320x128 .f32) (harg13 : arg13.IsWhole) (hc0 : cond0_0 i)
    (x0 : Vec F S2000x128 .f32) (x1 : Vec F S2000x1 .i32) (x2 : Vec F S2000x1 .f32) (x3 : Vec F S320x128 .f32) (x4 : Vec F S128x128 .f32) (x5 : Vec F S128x128 .f32) (x6 : Vec F S128 .f32) (x7 : Vec F S128x10 .f32) (x8 : Vec F S10 .f32) (xt0 : TbBuf0 (F := F) c tbM0_0) (xt1 : TbBuf0 (F := F) c tbM0_1) (k1_hw1 : k1_chk1 (tbM0_0.view.readAt (Elt F) (Rect.unit (s := S50) (k1_off1 i) S1.size (k1_off1_inb i)).toLoadRect xt0 (Shape.Idx.first (numel1_S1.symm ▸ Nat.one_pos))) (tbM0_1.view.readAt (Elt F) (Rect.unit (s := S50) (k1_off1 i) S1.size (k1_off1_inb i)).toLoadRect xt1 (Shape.Idx.first (numel1_S1.symm ▸ Nat.one_pos)))) (y : S320x128.Idx) :
    ∃ pc ∈ (kernelRun0_A c i arg3 harg3 arg4 harg4 arg5 harg5 arg6 harg6 arg7 harg7 arg8 harg8 arg9 harg9 arg10 harg10 arg11 harg11 arg12 harg12 arg13 harg13 hc0 x0 x1 x2 x3 x4 x5 x6 x7 x8 xt0 xt1 k1_hw1).2.1, y ∈ pc.1.set :=
  View.cover_of_tiledL (kernelRun0_A c i arg3 harg3 arg4 harg4 arg5 harg5 arg6 harg6 arg7 harg7 arg8 harg8 arg9 harg9 arg10 harg10 arg11 harg11 arg12 harg12 arg13 harg13 hc0 x0 x1 x2 x3 x4 x5 x6 x7 x8 xt0 xt1 k1_hw1).2.1 S320x128.size (by sl_kernel_rfl) y

def sout0_A_0 (c : Dev nD) (i : grid1.Coords) (arg3 : Memref sig .tc .vmem S2000x128 .f32) (harg3 : arg3.IsWhole) (arg4 : Memref sig .tc .vmem S2000x1 .i32) (harg4 : arg4.IsWhole) (arg5 : Memref sig .tc .vmem S2000x1 .f32) (harg5 : arg5.IsWhole) (arg6 : Memref sig .tc .vmem S320x128 .f32) (harg6 : arg6.IsWhole) (arg7 : Memref sig .tc .vmem S128x128 .f32) (harg7 : arg7.IsWhole) (arg8 : Memref sig .tc .vmem S128x128 .f32) (harg8 : arg8.IsWhole) (arg9 : Memref sig .tc .vmem S128 .f32) (harg9 : arg9.IsWhole) (arg10 : Memref sig .tc .vmem S128x10 .f32) (harg10 : arg10.IsWhole) (arg11 : Memref sig .tc .vmem S10 .f32) (harg11 : arg11.IsWhole) (arg12 : Memref sig .tc .vmem S320x10 .f32) (harg12 : arg12.IsWhole) (arg13 : Memref sig .tc .vmem S320x128 .f32) (harg13 : arg13.IsWhole) (hc0 : cond0_0 i)
    (x0 : Vec F S2000x128 .f32) (x1 : Vec F S2000x1 .i32) (x2 : Vec F S2000x1 .f32) (x3 : Vec F S320x128 .f32) (x4 : Vec F S128x128 .f32) (x5 : Vec F S128x128 .f32) (x6 : Vec F S128 .f32) (x7 : Vec F S128x10 .f32) (x8 : Vec F S10 .f32) (xt0 : TbBuf0 (F := F) c tbM0_0) (xt1 : TbBuf0 (F := F) c tbM0_1) (k1_hw1 : k1_chk1 (tbM0_0.view.readAt (Elt F) (Rect.unit (s := S50) (k1_off1 i) S1.size (k1_off1_inb i)).toLoadRect xt0 (Shape.Idx.first (numel1_S1.symm ▸ Nat.one_pos))) (tbM0_1.view.readAt (Elt F) (Rect.unit (s := S50) (k1_off1 i) S1.size (k1_off1_inb i)).toLoadRect xt1 (Shape.Idx.first (numel1_S1.symm ▸ Nat.one_pos)))) : Vec F S320x128 .f32 :=
  VS0_0.read (Elt F) (VS0_0.writes (Elt F) VS0_0.junk (kernelRun0_A c i arg3 harg3 arg4 harg4 arg5 harg5 arg6 harg6 arg7 harg7 arg8 harg8 arg9 harg9 arg10 harg10 arg11 harg11 arg12 harg12 arg13 harg13 hc0 x0 x1 x2 x3 x4 x5 x6 x7 x8 xt0 xt1 k1_hw1).2.1)

def out0_B_9 (c : Dev nD) (i : grid1.Coords) (arg3 : Memref sig .tc .vmem S2000x128 .f32) (harg3 : arg3.IsWhole) (arg4 : Memref sig .tc .vmem S2000x1 .i32) (harg4 : arg4.IsWhole) (arg5 : Memref sig .tc .vmem S2000x1 .f32) (harg5 : arg5.IsWhole) (arg6 : Memref sig .tc .vmem S320x128 .f32) (harg6 : arg6.IsWhole) (arg7 : Memref sig .tc .vmem S128x128 .f32) (harg7 : arg7.IsWhole) (arg8 : Memref sig .tc .vmem S128x128 .f32) (harg8 : arg8.IsWhole) (arg9 : Memref sig .tc .vmem S128 .f32) (harg9 : arg9.IsWhole) (arg10 : Memref sig .tc .vmem S128x10 .f32) (harg10 : arg10.IsWhole) (arg11 : Memref sig .tc .vmem S10 .f32) (harg11 : arg11.IsWhole) (arg12 : Memref sig .tc .vmem S320x10 .f32) (harg12 : arg12.IsWhole) (arg13 : Memref sig .tc .vmem S320x128 .f32) (harg13 : arg13.IsWhole) (hc0 : ¬cond0_0 i)
    (x0 : Vec F S2000x128 .f32) (x1 : Vec F S2000x1 .i32) (x2 : Vec F S2000x1 .f32) (x3 : Vec F S320x128 .f32) (x4 : Vec F S128x128 .f32) (x5 : Vec F S128x128 .f32) (x6 : Vec F S128 .f32) (x7 : Vec F S128x10 .f32) (x8 : Vec F S10 .f32) (xt0 : TbBuf0 (F := F) c tbM0_0) (xt1 : TbBuf0 (F := F) c tbM0_1) (xo9 : Vec F S320x10 .f32) (xs0 : Vec F S320x128 .f32) (k1_hw1 : k1_chk1 (tbM0_0.view.readAt (Elt F) (Rect.unit (s := S50) (k1_off1 i) S1.size (k1_off1_inb i)).toLoadRect xt0 (Shape.Idx.first (numel1_S1.symm ▸ Nat.one_pos))) (tbM0_1.view.readAt (Elt F) (Rect.unit (s := S50) (k1_off1 i) S1.size (k1_off1_inb i)).toLoadRect xt1 (Shape.Idx.first (numel1_S1.symm ▸ Nat.one_pos)))) : Vec F S320x10 .f32 :=
  arg12.view.read (Elt F) (arg12.view.writes (Elt F) (harg12.unread xo9) (kernelRun0_B c i arg3 harg3 arg4 harg4 arg5 harg5 arg6 harg6 arg7 harg7 arg8 harg8 arg9 harg9 arg10 harg10 arg11 harg11 arg12 harg12 arg13 harg13 hc0 x0 x1 x2 x3 x4 x5 x6 x7 x8 xt0 xt1 xo9 xs0 k1_hw1).1)

def sout0_B_0 (c : Dev nD) (i : grid1.Coords) (arg3 : Memref sig .tc .vmem S2000x128 .f32) (harg3 : arg3.IsWhole) (arg4 : Memref sig .tc .vmem S2000x1 .i32) (harg4 : arg4.IsWhole) (arg5 : Memref sig .tc .vmem S2000x1 .f32) (harg5 : arg5.IsWhole) (arg6 : Memref sig .tc .vmem S320x128 .f32) (harg6 : arg6.IsWhole) (arg7 : Memref sig .tc .vmem S128x128 .f32) (harg7 : arg7.IsWhole) (arg8 : Memref sig .tc .vmem S128x128 .f32) (harg8 : arg8.IsWhole) (arg9 : Memref sig .tc .vmem S128 .f32) (harg9 : arg9.IsWhole) (arg10 : Memref sig .tc .vmem S128x10 .f32) (harg10 : arg10.IsWhole) (arg11 : Memref sig .tc .vmem S10 .f32) (harg11 : arg11.IsWhole) (arg12 : Memref sig .tc .vmem S320x10 .f32) (harg12 : arg12.IsWhole) (arg13 : Memref sig .tc .vmem S320x128 .f32) (harg13 : arg13.IsWhole) (hc0 : ¬cond0_0 i)
    (x0 : Vec F S2000x128 .f32) (x1 : Vec F S2000x1 .i32) (x2 : Vec F S2000x1 .f32) (x3 : Vec F S320x128 .f32) (x4 : Vec F S128x128 .f32) (x5 : Vec F S128x128 .f32) (x6 : Vec F S128 .f32) (x7 : Vec F S128x10 .f32) (x8 : Vec F S10 .f32) (xt0 : TbBuf0 (F := F) c tbM0_0) (xt1 : TbBuf0 (F := F) c tbM0_1) (xo9 : Vec F S320x10 .f32) (xs0 : Vec F S320x128 .f32) (k1_hw1 : k1_chk1 (tbM0_0.view.readAt (Elt F) (Rect.unit (s := S50) (k1_off1 i) S1.size (k1_off1_inb i)).toLoadRect xt0 (Shape.Idx.first (numel1_S1.symm ▸ Nat.one_pos))) (tbM0_1.view.readAt (Elt F) (Rect.unit (s := S50) (k1_off1 i) S1.size (k1_off1_inb i)).toLoadRect xt1 (Shape.Idx.first (numel1_S1.symm ▸ Nat.one_pos)))) : Vec F S320x128 .f32 := xs0

def outsAt0 (hO : Ok m) (hH : Hyps m hO) (c : Dev nD) : (n : ℕ) → n < (cfgM m hO).N → Vec F S320x10 .f32 × Vec F S320x128 .f32
  | 0, hn => (out0_A_9 c (grid1.coords ⟨0, hn⟩) (ms0_0 m hO ⟨0, hn⟩) (hs0_0 m hO ⟨0, hn⟩) (ms0_1 m hO ⟨0, hn⟩) (hs0_1 m hO ⟨0, hn⟩) (ms0_2 m hO ⟨0, hn⟩) (hs0_2 m hO ⟨0, hn⟩) (ms0_3 m hO ⟨0, hn⟩) (hs0_3 m hO ⟨0, hn⟩) (ms0_4 m hO ⟨0, hn⟩) (hs0_4 m hO ⟨0, hn⟩) (ms0_5 m hO ⟨0, hn⟩) (hs0_5 m hO ⟨0, hn⟩) (ms0_6 m hO ⟨0, hn⟩) (hs0_6 m hO ⟨0, hn⟩) (ms0_7 m hO ⟨0, hn⟩) (hs0_7 m hO ⟨0, hn⟩) (ms0_8 m hO ⟨0, hn⟩) (hs0_8 m hO ⟨0, hn⟩) (ms0_9 m hO ⟨0, hn⟩) (hs0_9 m hO ⟨0, hn⟩) scM0_0 (Memref.isWhole_whole _) ((hcond0_0 ⟨0, hn⟩).mpr (Nat.zero_mod _)) (iblk m hO c 0 ⟨0, hn⟩) (iblk m hO c 1 ⟨0, hn⟩) (iblk m hO c 2 ⟨0, hn⟩) (iblk m hO c 3 ⟨0, hn⟩) (iblk m hO c 4 ⟨0, hn⟩) (iblk m hO c 5 ⟨0, hn⟩) (iblk m hO c 6 ⟨0, hn⟩) (iblk m hO c 7 ⟨0, hn⟩) (iblk m hO c 8 ⟨0, hn⟩) (tbl m 0) (tbl m 1) (Hyps.c0 hH c ⟨0, hn⟩), sout0_A_0 c (grid1.coords ⟨0, hn⟩) (ms0_0 m hO ⟨0, hn⟩) (hs0_0 m hO ⟨0, hn⟩) (ms0_1 m hO ⟨0, hn⟩) (hs0_1 m hO ⟨0, hn⟩) (ms0_2 m hO ⟨0, hn⟩) (hs0_2 m hO ⟨0, hn⟩) (ms0_3 m hO ⟨0, hn⟩) (hs0_3 m hO ⟨0, hn⟩) (ms0_4 m hO ⟨0, hn⟩) (hs0_4 m hO ⟨0, hn⟩) (ms0_5 m hO ⟨0, hn⟩) (hs0_5 m hO ⟨0, hn⟩) (ms0_6 m hO ⟨0, hn⟩) (hs0_6 m hO ⟨0, hn⟩) (ms0_7 m hO ⟨0, hn⟩) (hs0_7 m hO ⟨0, hn⟩) (ms0_8 m hO ⟨0, hn⟩) (hs0_8 m hO ⟨0, hn⟩) (ms0_9 m hO ⟨0, hn⟩) (hs0_9 m hO ⟨0, hn⟩) scM0_0 (Memref.isWhole_whole _) ((hcond0_0 ⟨0, hn⟩).mpr (Nat.zero_mod _)) (iblk m hO c 0 ⟨0, hn⟩) (iblk m hO c 1 ⟨0, hn⟩) (iblk m hO c 2 ⟨0, hn⟩) (iblk m hO c 3 ⟨0, hn⟩) (iblk m hO c 4 ⟨0, hn⟩) (iblk m hO c 5 ⟨0, hn⟩) (iblk m hO c 6 ⟨0, hn⟩) (iblk m hO c 7 ⟨0, hn⟩) (iblk m hO c 8 ⟨0, hn⟩) (tbl m 0) (tbl m 1) (Hyps.c0 hH c ⟨0, hn⟩))
  | n + 1, hn =>
    if h0 : (n + 1) % 50 = 0 then
      (out0_A_9 c (grid1.coords ⟨n + 1, hn⟩) (ms0_0 m hO ⟨n + 1, hn⟩) (hs0_0 m hO ⟨n + 1, hn⟩) (ms0_1 m hO ⟨n + 1, hn⟩) (hs0_1 m hO ⟨n + 1, hn⟩) (ms0_2 m hO ⟨n + 1, hn⟩) (hs0_2 m hO ⟨n + 1, hn⟩) (ms0_3 m hO ⟨n + 1, hn⟩) (hs0_3 m hO ⟨n + 1, hn⟩) (ms0_4 m hO ⟨n + 1, hn⟩) (hs0_4 m hO ⟨n + 1, hn⟩) (ms0_5 m hO ⟨n + 1, hn⟩) (hs0_5 m hO ⟨n + 1, hn⟩) (ms0_6 m hO ⟨n + 1, hn⟩) (hs0_6 m hO ⟨n + 1, hn⟩) (ms0_7 m hO ⟨n + 1, hn⟩) (hs0_7 m hO ⟨n + 1, hn⟩) (ms0_8 m hO ⟨n + 1, hn⟩) (hs0_8 m hO ⟨n + 1, hn⟩) (ms0_9 m hO ⟨n + 1, hn⟩) (hs0_9 m hO ⟨n + 1, hn⟩) scM0_0 (Memref.isWhole_whole _) ((hcond0_0 ⟨n + 1, hn⟩).mpr h0) (iblk m hO c 0 ⟨n + 1, hn⟩) (iblk m hO c 1 ⟨n + 1, hn⟩) (iblk m hO c 2 ⟨n + 1, hn⟩) (iblk m hO c 3 ⟨n + 1, hn⟩) (iblk m hO c 4 ⟨n + 1, hn⟩) (iblk m hO c 5 ⟨n + 1, hn⟩) (iblk m hO c 6 ⟨n + 1, hn⟩) (iblk m hO c 7 ⟨n + 1, hn⟩) (iblk m hO c 8 ⟨n + 1, hn⟩) (tbl m 0) (tbl m 1) (Hyps.c0 hH c ⟨n + 1, hn⟩), sout0_A_0 c (grid1.coords ⟨n + 1, hn⟩) (ms0_0 m hO ⟨n + 1, hn⟩) (hs0_0 m hO ⟨n + 1, hn⟩) (ms0_1 m hO ⟨n + 1, hn⟩) (hs0_1 m hO ⟨n + 1, hn⟩) (ms0_2 m hO ⟨n + 1, hn⟩) (hs0_2 m hO ⟨n + 1, hn⟩) (ms0_3 m hO ⟨n + 1, hn⟩) (hs0_3 m hO ⟨n + 1, hn⟩) (ms0_4 m hO ⟨n + 1, hn⟩) (hs0_4 m hO ⟨n + 1, hn⟩) (ms0_5 m hO ⟨n + 1, hn⟩) (hs0_5 m hO ⟨n + 1, hn⟩) (ms0_6 m hO ⟨n + 1, hn⟩) (hs0_6 m hO ⟨n + 1, hn⟩) (ms0_7 m hO ⟨n + 1, hn⟩) (hs0_7 m hO ⟨n + 1, hn⟩) (ms0_8 m hO ⟨n + 1, hn⟩) (hs0_8 m hO ⟨n + 1, hn⟩) (ms0_9 m hO ⟨n + 1, hn⟩) (hs0_9 m hO ⟨n + 1, hn⟩) scM0_0 (Memref.isWhole_whole _) ((hcond0_0 ⟨n + 1, hn⟩).mpr h0) (iblk m hO c 0 ⟨n + 1, hn⟩) (iblk m hO c 1 ⟨n + 1, hn⟩) (iblk m hO c 2 ⟨n + 1, hn⟩) (iblk m hO c 3 ⟨n + 1, hn⟩) (iblk m hO c 4 ⟨n + 1, hn⟩) (iblk m hO c 5 ⟨n + 1, hn⟩) (iblk m hO c 6 ⟨n + 1, hn⟩) (iblk m hO c 7 ⟨n + 1, hn⟩) (iblk m hO c 8 ⟨n + 1, hn⟩) (tbl m 0) (tbl m 1) (Hyps.c0 hH c ⟨n + 1, hn⟩))
    else
      (out0_B_9 c (grid1.coords ⟨n + 1, hn⟩) (ms0_0 m hO ⟨n + 1, hn⟩) (hs0_0 m hO ⟨n + 1, hn⟩) (ms0_1 m hO ⟨n + 1, hn⟩) (hs0_1 m hO ⟨n + 1, hn⟩) (ms0_2 m hO ⟨n + 1, hn⟩) (hs0_2 m hO ⟨n + 1, hn⟩) (ms0_3 m hO ⟨n + 1, hn⟩) (hs0_3 m hO ⟨n + 1, hn⟩) (ms0_4 m hO ⟨n + 1, hn⟩) (hs0_4 m hO ⟨n + 1, hn⟩) (ms0_5 m hO ⟨n + 1, hn⟩) (hs0_5 m hO ⟨n + 1, hn⟩) (ms0_6 m hO ⟨n + 1, hn⟩) (hs0_6 m hO ⟨n + 1, hn⟩) (ms0_7 m hO ⟨n + 1, hn⟩) (hs0_7 m hO ⟨n + 1, hn⟩) (ms0_8 m hO ⟨n + 1, hn⟩) (hs0_8 m hO ⟨n + 1, hn⟩) (ms0_9 m hO ⟨n + 1, hn⟩) (hs0_9 m hO ⟨n + 1, hn⟩) scM0_0 (Memref.isWhole_whole _) (fun h => h0 ((hcond0_0 ⟨n + 1, hn⟩).mp h)) (iblk m hO c 0 ⟨n + 1, hn⟩) (iblk m hO c 1 ⟨n + 1, hn⟩) (iblk m hO c 2 ⟨n + 1, hn⟩) (iblk m hO c 3 ⟨n + 1, hn⟩) (iblk m hO c 4 ⟨n + 1, hn⟩) (iblk m hO c 5 ⟨n + 1, hn⟩) (iblk m hO c 6 ⟨n + 1, hn⟩) (iblk m hO c 7 ⟨n + 1, hn⟩) (iblk m hO c 8 ⟨n + 1, hn⟩) (tbl m 0) (tbl m 1) (outsAt0 hO hH c n (Nat.lt_of_succ_lt hn)).1 (outsAt0 hO hH c n (Nat.lt_of_succ_lt hn)).2 (Hyps.c0 hH c ⟨n + 1, hn⟩), sout0_B_0 c (grid1.coords ⟨n + 1, hn⟩) (ms0_0 m hO ⟨n + 1, hn⟩) (hs0_0 m hO ⟨n + 1, hn⟩) (ms0_1 m hO ⟨n + 1, hn⟩) (hs0_1 m hO ⟨n + 1, hn⟩) (ms0_2 m hO ⟨n + 1, hn⟩) (hs0_2 m hO ⟨n + 1, hn⟩) (ms0_3 m hO ⟨n + 1, hn⟩) (hs0_3 m hO ⟨n + 1, hn⟩) (ms0_4 m hO ⟨n + 1, hn⟩) (hs0_4 m hO ⟨n + 1, hn⟩) (ms0_5 m hO ⟨n + 1, hn⟩) (hs0_5 m hO ⟨n + 1, hn⟩) (ms0_6 m hO ⟨n + 1, hn⟩) (hs0_6 m hO ⟨n + 1, hn⟩) (ms0_7 m hO ⟨n + 1, hn⟩) (hs0_7 m hO ⟨n + 1, hn⟩) (ms0_8 m hO ⟨n + 1, hn⟩) (hs0_8 m hO ⟨n + 1, hn⟩) (ms0_9 m hO ⟨n + 1, hn⟩) (hs0_9 m hO ⟨n + 1, hn⟩) scM0_0 (Memref.isWhole_whole _) (fun h => h0 ((hcond0_0 ⟨n + 1, hn⟩).mp h)) (iblk m hO c 0 ⟨n + 1, hn⟩) (iblk m hO c 1 ⟨n + 1, hn⟩) (iblk m hO c 2 ⟨n + 1, hn⟩) (iblk m hO c 3 ⟨n + 1, hn⟩) (iblk m hO c 4 ⟨n + 1, hn⟩) (iblk m hO c 5 ⟨n + 1, hn⟩) (iblk m hO c 6 ⟨n + 1, hn⟩) (iblk m hO c 7 ⟨n + 1, hn⟩) (iblk m hO c 8 ⟨n + 1, hn⟩) (tbl m 0) (tbl m 1) (outsAt0 hO hH c n (Nat.lt_of_succ_lt hn)).1 (outsAt0 hO hH c n (Nat.lt_of_succ_lt hn)).2 (Hyps.c0 hH c ⟨n + 1, hn⟩))

theorem outsAt0_A (hO : Ok m) (hH : Hyps m hO) (c : Dev nD) (t : Fin (cfgM m hO).N) (h0 : t.val % 50 = 0) :
    outsAt0 m hO hH c t.val t.isLt = (out0_A_9 c (grid1.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (ms0_9 m hO t) (hs0_9 m hO t) scM0_0 (Memref.isWhole_whole _) ((hcond0_0 t).mpr h0) (iblk m hO c 0 t) (iblk m hO c 1 t) (iblk m hO c 2 t) (iblk m hO c 3 t) (iblk m hO c 4 t) (iblk m hO c 5 t) (iblk m hO c 6 t) (iblk m hO c 7 t) (iblk m hO c 8 t) (tbl m 0) (tbl m 1) (Hyps.c0 hH c t), sout0_A_0 c (grid1.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (ms0_9 m hO t) (hs0_9 m hO t) scM0_0 (Memref.isWhole_whole _) ((hcond0_0 t).mpr h0) (iblk m hO c 0 t) (iblk m hO c 1 t) (iblk m hO c 2 t) (iblk m hO c 3 t) (iblk m hO c 4 t) (iblk m hO c 5 t) (iblk m hO c 6 t) (iblk m hO c 7 t) (iblk m hO c 8 t) (tbl m 0) (tbl m 1) (Hyps.c0 hH c t)) := by
  obtain ⟨n, hn⟩ := t
  cases n with
  | zero => exact rfl
  | succ n => exact (dif_pos h0).trans rfl

theorem outsAt0_B (hO : Ok m) (hH : Hyps m hO) (c : Dev nD) (t : Fin (cfgM m hO).N) (h0 : ¬t.val % 50 = 0) :
    outsAt0 m hO hH c t.val t.isLt = (out0_B_9 c (grid1.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (ms0_9 m hO t) (hs0_9 m hO t) scM0_0 (Memref.isWhole_whole _) (fun h => h0 ((hcond0_0 t).mp h)) (iblk m hO c 0 t) (iblk m hO c 1 t) (iblk m hO c 2 t) (iblk m hO c 3 t) (iblk m hO c 4 t) (iblk m hO c 5 t) (iblk m hO c 6 t) (iblk m hO c 7 t) (iblk m hO c 8 t) (tbl m 0) (tbl m 1) (outsAt0 m hO hH c (t.val - 1) (Nat.lt_of_le_of_lt (Nat.sub_le _ _) t.isLt)).1 (outsAt0 m hO hH c (t.val - 1) (Nat.lt_of_le_of_lt (Nat.sub_le _ _) t.isLt)).2 (Hyps.c0 hH c t), sout0_B_0 c (grid1.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (ms0_9 m hO t) (hs0_9 m hO t) scM0_0 (Memref.isWhole_whole _) (fun h => h0 ((hcond0_0 t).mp h)) (iblk m hO c 0 t) (iblk m hO c 1 t) (iblk m hO c 2 t) (iblk m hO c 3 t) (iblk m hO c 4 t) (iblk m hO c 5 t) (iblk m hO c 6 t) (iblk m hO c 7 t) (iblk m hO c 8 t) (tbl m 0) (tbl m 1) (outsAt0 m hO hH c (t.val - 1) (Nat.lt_of_le_of_lt (Nat.sub_le _ _) t.isLt)).1 (outsAt0 m hO hH c (t.val - 1) (Nat.lt_of_le_of_lt (Nat.sub_le _ _) t.isLt)).2 (Hyps.c0 hH c t)) := by
  obtain ⟨n, hn⟩ := t
  cases n with
  | zero => exact (by exfalso; (try dsimp only at h0); exact absurd (Nat.zero_mod _) h0)
  | succ n => exact (dif_neg h0).trans rfl

def PhiS (hO : Ok m) (hH : Hyps m hO) (c : Dev nD) : (n : ℕ) → n ≤ (cfgM m hO).N → sProp (MT nD τ sig Unit (Elt F) ℕ (UR sig nD τ) ℕ)
  | 0, _ => iprop(inv m c ∗ Pipeline.ΦT pre1 (tbl m) c)
  | n + 1, hn => iprop(iprop(iprop(owns (c : Thread nD τ) scM0_0 fullShare ((outsAt0 m hO hH c n hn).2)) ∗ rest m c) ∗ Pipeline.ΦT pre1 (tbl m) c)

theorem PhiS_zero (hO : Ok m) (hH : Hyps m hO) (c : Dev nD) (n : ℕ) (h : n ≤ (cfgM m hO).N) (hz : n = 0) : PhiS m hO hH c n h = iprop(inv m c ∗ Pipeline.ΦT pre1 (tbl m) c) := by
  subst hz; rfl

theorem PhiS_succ (hO : Ok m) (hH : Hyps m hO) (c : Dev nD) (n : ℕ) (hn : n < (cfgM m hO).N) :
    PhiS m hO hH c (n + 1) hn = iprop(iprop(iprop(owns (c : Thread nD τ) scM0_0 fullShare ((outsAt0 m hO hH c n hn).2)) ∗ rest m c) ∗ Pipeline.ΦT pre1 (tbl m) c) := rfl

theorem PhiS_pos (hO : Ok m) (hH : Hyps m hO) (c : Dev nD) (n : ℕ) (h : n ≤ (cfgM m hO).N) (hz : n ≠ 0) :
    PhiS m hO hH c n h = iprop(iprop(iprop(owns (c : Thread nD τ) scM0_0 fullShare ((outsAt0 m hO hH c (n - 1) (by omega)).2)) ∗ rest m c) ∗ Pipeline.ΦT pre1 (tbl m) c) := by
  cases n with
  | zero => exact absurd rfl hz
  | succ n => rfl

def dats (hO : Ok m) (hH : Hyps m hO) (_ : Fin 1) (c : Dev nD) : Dat τ (Elt F) Unit ℕ (UR sig nD τ) ℕ (cfgM m hO) c where
  A w := V m c (Pipeline.arrRef spec1 w)
  after w t := match w with
    | ⟨0, _⟩ => iblk m hO c 0 t
    | ⟨1, _⟩ => iblk m hO c 1 t
    | ⟨2, _⟩ => iblk m hO c 2 t
    | ⟨3, _⟩ => iblk m hO c 3 t
    | ⟨4, _⟩ => iblk m hO c 4 t
    | ⟨5, _⟩ => iblk m hO c 5 t
    | ⟨6, _⟩ => iblk m hO c 6 t
    | ⟨7, _⟩ => iblk m hO c 7 t
    | ⟨8, _⟩ => iblk m hO c 8 t
    | ⟨9, _⟩ => (outsAt0 m hO hH c t.val t.isLt).1
  Φ t := PhiS m hO hH c t.val (Nat.le_of_lt_succ t.isLt)
  q _ := fullShare
  owed _ := 0

theorem A_eq (hO : Ok m) (hH : Hyps m hO) (c : Dev nD) (w : Fin (cfgM m hO).W) : (dats m hO hH 0 c).A w = V m c (Pipeline.arrRef spec1 w) := by
  dsimp only [dats]

theorem PhiS_castSucc (hO : Ok m) (hH : Hyps m hO) (c : Dev nD) (t : Fin (cfgM m hO).N) :
    (dats m hO hH 0 c).Φ t.castSucc = PhiS m hO hH c t.val (Nat.le_of_lt t.isLt) := by
  dsimp only [dats]; exact Pipeline.Dat.Φ_castSucc (PhiS m hO hH c) t

theorem after0_0 (hO : Ok m) (hH : Hyps m hO) (c : Dev nD) (t : Fin (cfgM m hO).N) : (dats m hO hH 0 c).after 0 t = iblk m hO c 0 t := by dsimp only [dats]; try rfl
theorem after0_1 (hO : Ok m) (hH : Hyps m hO) (c : Dev nD) (t : Fin (cfgM m hO).N) : (dats m hO hH 0 c).after 1 t = iblk m hO c 1 t := by dsimp only [dats]; try rfl
theorem after0_2 (hO : Ok m) (hH : Hyps m hO) (c : Dev nD) (t : Fin (cfgM m hO).N) : (dats m hO hH 0 c).after 2 t = iblk m hO c 2 t := by dsimp only [dats]; try rfl
theorem after0_3 (hO : Ok m) (hH : Hyps m hO) (c : Dev nD) (t : Fin (cfgM m hO).N) : (dats m hO hH 0 c).after 3 t = iblk m hO c 3 t := by dsimp only [dats]; try rfl
theorem after0_4 (hO : Ok m) (hH : Hyps m hO) (c : Dev nD) (t : Fin (cfgM m hO).N) : (dats m hO hH 0 c).after 4 t = iblk m hO c 4 t := by dsimp only [dats]; try rfl
theorem after0_5 (hO : Ok m) (hH : Hyps m hO) (c : Dev nD) (t : Fin (cfgM m hO).N) : (dats m hO hH 0 c).after 5 t = iblk m hO c 5 t := by dsimp only [dats]; try rfl
theorem after0_6 (hO : Ok m) (hH : Hyps m hO) (c : Dev nD) (t : Fin (cfgM m hO).N) : (dats m hO hH 0 c).after 6 t = iblk m hO c 6 t := by dsimp only [dats]; try rfl
theorem after0_7 (hO : Ok m) (hH : Hyps m hO) (c : Dev nD) (t : Fin (cfgM m hO).N) : (dats m hO hH 0 c).after 7 t = iblk m hO c 7 t := by dsimp only [dats]; try rfl
theorem after0_8 (hO : Ok m) (hH : Hyps m hO) (c : Dev nD) (t : Fin (cfgM m hO).N) : (dats m hO hH 0 c).after 8 t = iblk m hO c 8 t := by dsimp only [dats]; try rfl
theorem after0_9 (hO : Ok m) (hH : Hyps m hO) (c : Dev nD) (t : Fin (cfgM m hO).N) : (dats m hO hH 0 c).after 9 t = (outsAt0 m hO hH c t.val t.isLt).1 := by dsimp only [dats]; try rfl

theorem before0_0 (hO : Ok m) (hH : Hyps m hO) (c : Dev nD) (t : Fin (cfgM m hO).N) (d) : (dats m hO hH 0 c).before 0 t d = iblk m hO c 0 t :=
  before0_0_of m hO (dats m hO hH 0 c) (A_eq m hO hH c 0) (after0_0 m hO hH c) t d
theorem before0_1 (hO : Ok m) (hH : Hyps m hO) (c : Dev nD) (t : Fin (cfgM m hO).N) (d) : (dats m hO hH 0 c).before 1 t d = iblk m hO c 1 t :=
  before0_1_of m hO (dats m hO hH 0 c) (A_eq m hO hH c 1) (after0_1 m hO hH c) t d
theorem before0_2 (hO : Ok m) (hH : Hyps m hO) (c : Dev nD) (t : Fin (cfgM m hO).N) (d) : (dats m hO hH 0 c).before 2 t d = iblk m hO c 2 t :=
  before0_2_of m hO (dats m hO hH 0 c) (A_eq m hO hH c 2) (after0_2 m hO hH c) t d
theorem before0_3 (hO : Ok m) (hH : Hyps m hO) (c : Dev nD) (t : Fin (cfgM m hO).N) (d) : (dats m hO hH 0 c).before 3 t d = iblk m hO c 3 t :=
  before0_3_of m hO (dats m hO hH 0 c) (A_eq m hO hH c 3) (after0_3 m hO hH c) t d
theorem before0_4 (hO : Ok m) (hH : Hyps m hO) (c : Dev nD) (t : Fin (cfgM m hO).N) (d) : (dats m hO hH 0 c).before 4 t d = iblk m hO c 4 t :=
  before0_4_of m hO (dats m hO hH 0 c) (A_eq m hO hH c 4) (after0_4 m hO hH c) t d
theorem before0_5 (hO : Ok m) (hH : Hyps m hO) (c : Dev nD) (t : Fin (cfgM m hO).N) (d) : (dats m hO hH 0 c).before 5 t d = iblk m hO c 5 t :=
  before0_5_of m hO (dats m hO hH 0 c) (A_eq m hO hH c 5) (after0_5 m hO hH c) t d
theorem before0_6 (hO : Ok m) (hH : Hyps m hO) (c : Dev nD) (t : Fin (cfgM m hO).N) (d) : (dats m hO hH 0 c).before 6 t d = iblk m hO c 6 t :=
  before0_6_of m hO (dats m hO hH 0 c) (A_eq m hO hH c 6) (after0_6 m hO hH c) t d
theorem before0_7 (hO : Ok m) (hH : Hyps m hO) (c : Dev nD) (t : Fin (cfgM m hO).N) (d) : (dats m hO hH 0 c).before 7 t d = iblk m hO c 7 t :=
  before0_7_of m hO (dats m hO hH 0 c) (A_eq m hO hH c 7) (after0_7 m hO hH c) t d
theorem before0_8 (hO : Ok m) (hH : Hyps m hO) (c : Dev nD) (t : Fin (cfgM m hO).N) (d) : (dats m hO hH 0 c).before 8 t d = iblk m hO c 8 t :=
  before0_8_of m hO (dats m hO hH 0 c) (A_eq m hO hH c 8) (after0_8 m hO hH c) t d

theorem before0_9_B (hO : Ok m) (hH : Hyps m hO) (c : Dev nD) (t : Fin (cfgM m hO).N) (h0 : ¬t.val % 50 = 0) (d) :
    (dats m hO hH 0 c).before 9 t d = (outsAt0 m hO hH c (t.val - 1) (Nat.lt_of_le_of_lt (Nat.sub_le _ _) t.isLt)).1 := by
  have hN : t.val < 50 := lt_of_lt_of_eq t.isLt (show (cfgM m hO).N = 50 from N_1)
  rw [Dat.before_out_kept _ 9 rfl t (by omega) (Bool.eq_false_iff.mpr fun h => by have := (flush0_9 (adm m hO) _).mp h; dsimp only at this; omega)
    (fun _ => rfl) (fun _ _ => rfl)]
  dsimp only [dats]
  try rfl

def bodyPre (hO : Ok m) (hH : Hyps m hO) (c : Dev nD) (t : Fin (cfgM m hO).N) : sProp (MT nD τ sig Unit (Elt F) ℕ (UR sig nD τ) ℕ) :=
  iprop((dats m hO hH 0 c).Φ t.castSucc ∗ (dats m hO hH 0 c).owesAt () t.castSucc
    ∗ (∃ d, owns (c : Thread nD τ) (ms0_0 m hO t) fullShare ((dats m hO hH 0 c).before 0 t d))
    ∗ (∃ d, owns (c : Thread nD τ) (ms0_1 m hO t) fullShare ((dats m hO hH 0 c).before 1 t d))
    ∗ (∃ d, owns (c : Thread nD τ) (ms0_2 m hO t) fullShare ((dats m hO hH 0 c).before 2 t d))
    ∗ (∃ d, owns (c : Thread nD τ) (ms0_3 m hO t) fullShare ((dats m hO hH 0 c).before 3 t d))
    ∗ (∃ d, owns (c : Thread nD τ) (ms0_4 m hO t) fullShare ((dats m hO hH 0 c).before 4 t d))
    ∗ (∃ d, owns (c : Thread nD τ) (ms0_5 m hO t) fullShare ((dats m hO hH 0 c).before 5 t d))
    ∗ (∃ d, owns (c : Thread nD τ) (ms0_6 m hO t) fullShare ((dats m hO hH 0 c).before 6 t d))
    ∗ (∃ d, owns (c : Thread nD τ) (ms0_7 m hO t) fullShare ((dats m hO hH 0 c).before 7 t d))
    ∗ (∃ d, owns (c : Thread nD τ) (ms0_8 m hO t) fullShare ((dats m hO hH 0 c).before 8 t d))
    ∗ (∃ d, owns (c : Thread nD τ) (ms0_9 m hO t) fullShare ((dats m hO hH 0 c).before 9 t d)))

def bodyPost (hO : Ok m) (hH : Hyps m hO) (c : Dev nD) (t : Fin (cfgM m hO).N) : sProp (MT nD τ sig Unit (Elt F) ℕ (UR sig nD τ) ℕ) :=
  iprop((dats m hO hH 0 c).Φ t.succ ∗ (dats m hO hH 0 c).owesAt () t.succ
    ∗ owns (c : Thread nD τ) (ms0_0 m hO t) fullShare ((dats m hO hH 0 c).after 0 t)
    ∗ owns (c : Thread nD τ) (ms0_1 m hO t) fullShare ((dats m hO hH 0 c).after 1 t)
    ∗ owns (c : Thread nD τ) (ms0_2 m hO t) fullShare ((dats m hO hH 0 c).after 2 t)
    ∗ owns (c : Thread nD τ) (ms0_3 m hO t) fullShare ((dats m hO hH 0 c).after 3 t)
    ∗ owns (c : Thread nD τ) (ms0_4 m hO t) fullShare ((dats m hO hH 0 c).after 4 t)
    ∗ owns (c : Thread nD τ) (ms0_5 m hO t) fullShare ((dats m hO hH 0 c).after 5 t)
    ∗ owns (c : Thread nD τ) (ms0_6 m hO t) fullShare ((dats m hO hH 0 c).after 6 t)
    ∗ owns (c : Thread nD τ) (ms0_7 m hO t) fullShare ((dats m hO hH 0 c).after 7 t)
    ∗ owns (c : Thread nD τ) (ms0_8 m hO t) fullShare ((dats m hO hH 0 c).after 8 t)
    ∗ owns (c : Thread nD τ) (ms0_9 m hO t) fullShare ((dats m hO hH 0 c).after 9 t))

set_option maxHeartbeats 6400000 in

theorem sound_body (hO : Ok m) (hH : Hyps m hO) (c : Dev nD) (t : Fin (cfgM m hO).N) :
    bodyPre m hO hH c t ⊢ wp frame (wpE (defs₀ (F := F)) Variants.none c none) Set.univ (bodyAt0 (adm m hO) t) (fun _ => bodyPost m hO hH c t) := by
  unfold bodyPre bodyPost bodyAt0
  simp only [before0_0, before0_1, before0_2, before0_3, before0_4, before0_5, before0_6, before0_7, before0_8]
  rw [show (dats m hO hH 0 c).owesAt () t.succ = (dats m hO hH 0 c).owesAt () t.castSucc from rfl,
    after0_0, after0_1, after0_2, after0_3, after0_4, after0_5, after0_6, after0_7, after0_8, after0_9]
  rw [show (dats m hO hH 0 c).Φ t.succ = PhiS m hO hH c (t.val + 1) t.isLt from rfl, PhiS_succ, PhiT0_eq]
  have hN : t.val < 50 := lt_of_lt_of_eq t.isLt (show (cfgM m hO).N = 50 from N_1)
  by_cases h0 : t.val % 50 = 0
  · by_cases hz : t.val = 0
    · rw [PhiS_castSucc m hO hH c t, PhiS_zero m hO hH c _ _ hz, PhiT0_eq, PhiA0_eq]
      rw [outsAt0_A m hO hH c t h0]
      unfold out0_A_9 sout0_A_0; (try dsimp only)
      iintro ⟨⟨⟨HS0, Hg⟩, ⟨HT0, HT1⟩⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
      iapply ((kernelRun0_A c (grid1.coords t) _ _ _ _ _ _ _ _ _ _ _ _ _ _ _ _ _ _ _ _ _ _ ((hcond0_0 t).mpr h0) (iblk m hO c 0 t) (iblk m hO c 1 t) (iblk m hO c 2 t) (iblk m hO c 3 t) (iblk m hO c 4 t) (iblk m hO c 5 t) (iblk m hO c 6 t) (iblk m hO c 7 t) (iblk m hO c 8 t) (tbl m 0) (tbl m 1) (Hyps.c0 hH c t)).2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexists _; iexact H9
      isplitl [HS0]; · iexact HS0
      isplitl [HT0]; · iexact HT0
      isplitl [HT1]; · iexact HT1
      iintro ⟨H0, H1, H2, H3, H4, H5, H6, H7, H8, ⟨%e9, H9⟩, ⟨%es0, HS0⟩, HT0, HT1⟩
      isplitl [HS0 Hg HT0 HT1]
      · isplitl [HS0 Hg]
        · isplitl [HS0]
          · unfold owns; iexists _; isplitr
            swap; · iexact HS0
            ipureintro; exact View.read_writes_of_cover _ _ _ _ _ (scover0_A_0 c _ _ _ _ _ _ _ _ _ _ _ _ _ _ _ _ _ _ _ _ _ _ _ _ _ _ _ _ _ _ _ _ _ _ _ _)
          iexact Hg
        isplitl [HT0]; · iexact HT0
        iexact HT1
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      unfold owns; iexists _; isplitr
      swap; · iexact H9
      ipureintro; exact View.read_writes_of_cover _ _ _ _ _ (cover0_A_9 c _ _ _ _ _ _ _ _ _ _ _ _ _ _ _ _ _ _ _ _ _ _ _ _ _ _ _ _ _ _ _ _ _ _ _ _)
    · exfalso; have hN : t.val < 50 := lt_of_lt_of_eq t.isLt (show (cfgM m hO).N = 50 from N_1); omega
  · by_cases hz : t.val = 0
    · exfalso; have hN : t.val < 50 := lt_of_lt_of_eq t.isLt (show (cfgM m hO).N = 50 from N_1); omega
    · rw [PhiS_castSucc m hO hH c t, PhiS_pos m hO hH c _ _ hz, PhiT0_eq]
      rw [outsAt0_B m hO hH c t h0]
      simp only [before0_9_B m hO hH c t h0]
      unfold out0_B_9 sout0_B_0; (try dsimp only)
      iintro ⟨⟨⟨HS0, Hg⟩, ⟨HT0, HT1⟩⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
      iapply ((kernelRun0_B c (grid1.coords t) _ _ _ _ _ _ _ _ _ _ _ _ _ _ _ _ _ _ _ _ _ _ (fun h => h0 ((hcond0_0 t).mp h)) (iblk m hO c 0 t) (iblk m hO c 1 t) (iblk m hO c 2 t) (iblk m hO c 3 t) (iblk m hO c 4 t) (iblk m hO c 5 t) (iblk m hO c 6 t) (iblk m hO c 7 t) (iblk m hO c 8 t) (tbl m 0) (tbl m 1) _ _ (Hyps.c0 hH c t)).2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [HS0]; · iexact HS0
      isplitl [HT0]; · iexact HT0
      isplitl [HT1]; · iexact HT1
      iintro ⟨H0, H1, H2, H3, H4, H5, H6, H7, H8, H9, HS0, HT0, HT1⟩
      isplitl [HS0 Hg HT0 HT1]
      · isplitl [HS0 Hg]
        · isplitl [HS0]
          · iexact HS0
          iexact Hg
        isplitl [HT0]; · iexact HT0
        iexact HT1
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      unfold owns; iexists _; isplitr
      swap; · iexact H9
      ipureintro; rfl

theorem defs₀_row (hO : Ok m) (t : Fin (cfgM m hO).N) :
    defs₀ (F := F) .tc (cfgM m hO).body ((cfgM m hO).bodyArgs t ((cfgM m hO).slots t)) = bodyAt0 (adm m hO) t := by
  unfold defs₀; rw [Defs.onTc_tc]

theorem body_obligation (hO : Ok m) (hH : Hyps m hO) (c : Dev nD) : BodyObligation (dats (F := F) m hO hH 0 c) (defs₀ (F := F)) Variants.none () Set.univ := fun t => by
  rw [bigSep_W1, bigSep_W1, defs₀_row m hO]
  exact triple_restated (sound_body m hO hH c t) rfl .rfl fun _ => .rfl

theorem hin (hO : Ok m) (hH : Hyps m hO) (c : Dev nD) : iprop(inv m c ∗ Pipeline.ΦT pre1 (tbl m) c) ⊢ (dats m hO hH 0 c).Φ 0 := by
  rw [show (dats m hO hH 0 c).Φ 0 = PhiS m hO hH c 0 (Nat.zero_le _) from rfl, PhiS_zero m hO hH c 0 _ rfl]

theorem hout (hO : Ok m) (hH : Hyps m hO) (c : Dev nD) :
    (dats m hO hH 0 c).Φ (Fin.last (cfgM m hO).N) ⊢ iprop(inv m c ∗ Pipeline.ΦT pre1 (tbl m) c) := by
  have hN : (Fin.last (cfgM m hO).N).val ≠ 0 := by rw [Fin.val_last]; have : (cfgM m hO).N = 50 := N_1; omega
  rw [show (dats m hO hH 0 c).Φ (Fin.last (cfgM m hO).N) = PhiS m hO hH c (Fin.last (cfgM m hO).N).val (Nat.le_of_lt_succ (Fin.isLt _)) from rfl,
    PhiS_pos m hO hH c _ _ hN, PhiA0_eq]
  iintro ⟨⟨HS0, Hg⟩, HT⟩
  isplitl [HS0 Hg]
  · isplitl [HS0]
    · iexists _; iexact HS0
    iexact Hg
  iexact HT

end Cert.Two
-- ==== Proof.Run.lean ====
/- The run of the whole program: its two calls entered and left, and what each leaves. -/
module

public import proofs.«01_k».proof.Proof.Gen.KernelIdeal.Regions
public import proofs.«01_k».proof.Proof.OneBody
public import proofs.«01_k».proof.Proof.TwoBody
public import Idealize.ShloMosaic.Lib.Pipeline.RegionArraysTS

@[expose] public section

set_option maxRecDepth 16384

noncomputable section

namespace Cert.Whole

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat)
open Cert.KernelIdeal Cert.KernelIdeal.Gen

variable {F : FTy → Type} [FloatOps F]

variable (m : (ℓ : Loc nD τ sig) → Buf (Elt F) ℓ)

/-- What the first call finds. -/
abbrev atOne : Dev nD → Valuation τ sig (Elt F) := V1 m

variable (hO₁ : One.Ok (atOne m)) (hH₁ : One.Hyps (atOne m) hO₁)

/-- What the first call leaves. -/
def outsOne : Outs (F := F) := fun _ r c => Pipeline.afterRegion (One.dats (atOne m) hO₁ hH₁ 0 c) (atOne m c) r

/-- What the second call finds. -/
abbrev atTwo : Dev nD → Valuation τ sig (Elt F) := V3 m (outsOne m hO₁ hH₁)

variable (hO₂ : Two.Ok (atTwo m hO₁ hH₁)) (hH₂ : Two.Hyps (atTwo m hO₁ hH₁) hO₂)

/-- What the two calls leave. -/
def outs : Outs (F := F) := fun
  | 2, r, c => outsOne m hO₁ hH₁ 2 r c
  | _, r, c => Pipeline.afterRegion (Two.dats (atTwo m hO₁ hH₁) hO₂ hH₂ 0 c) (atTwo m hO₁ hH₁ c) r

/-- The tables of the two calls. -/
abbrev adms : (p : Fin 2) → (pcfgs (F := F) p).Adm := fun
  | 0 => One.adm (atOne m) hO₁
  | 1 => Two.adm (atTwo m hO₁ hH₁) hO₂

/-- What the two calls keep to. -/
def pdats : (p : Fin 2) → (c : Dev nD) → Dat τ (Elt F) Unit ℕ (UR sig nD τ) ℕ (Pipeline.pin (pcfgs (F := F)) (adms m hO₁ hH₁ hO₂) p) c := fun
  | 0 => One.dats (atOne m) hO₁ hH₁ 0
  | 1 => Two.dats (atTwo m hO₁ hH₁) hO₂ hH₂ 0

/-- The levels: all the same. -/
abbrev L : GSem nD τ sig → Finset Unit := fun g => if g.1.2 = .tc then {()} else ∅
abbrev lv : GSem nD τ sig → Unit → ℕ := fun _ _ => 0

abbrev MM (F : FTy → Type) : Type := MT nD τ sig Unit (Elt F) ℕ (UR sig nD τ) ℕ

/-- What rides beside the buffers. -/
abbrev E (c : Dev nD) : sProp (MM F) :=
  iprop((∃ W, owes (c : Thread nD τ) (0 : CellTallies nD τ sig Unit) W) ∗ (∃ r, prngReg c r) ∗ emp)

theorem cut (p : Fin 2) : Pipeline.LevelCut (Val := Elt F) pcfgs (adms m hO₁ hH₁ hO₂) () L lv p (fun _ => 0) (fun _ => 0) where
  hι c w s := by simp [L]
  hιb c w s := le_refl _
  hD c g i h := absurd h (by simp)

/-- The first call, entered and left. -/
def region0 : Pipeline.RegionSeg (pcfgs (F := F)) (adms m hO₁ hH₁ hO₂) (pdats m hO₁ hH₁ hO₂ hH₂) () defs₀ Variants.none L lv 0 :=
  Pipeline.RegionSeg.ofHeldInT pcfgs (adms m hO₁ hH₁ hO₂) (pdats m hO₁ hH₁ hO₂ hH₂) () defs₀ Variants.none L lv 0 (fun _ => 0)
    (Pipeline.ucRefs τ sig) (fun c => iprop(∃ r, prngReg c r)) (fun c => iprop(∃ r, prngReg c r)) launch0
    (fun c => (One.body_obligation (atOne m) hO₁ hH₁ c).loose) (fun _ _ => rfl) (fun _ => rfl) (fun c w => by unfold Pipeline.Dat.share; split <;> rfl)
    (fun c => by
      rw [show (pdats m hO₁ hH₁ hO₂ hH₂ 0 c).Φ 0 = iprop(One.inv (atOne m) c ∗ Pipeline.ΦT pre0 (One.tbl (atOne m)) c) from rfl]
      unfold One.inv Pipeline.ΦA
      iintro ⟨⟨Hs, Hg⟩, Ht⟩
      ihave H := (Pipeline.prefHeld_share pre0 c (PosShare.mem_left_op_right fullShare) (One.tbl (atOne m))).1 $$ Ht
      icases H with ⟨Hl, Hr⟩
      isplitl [Hs Hg Hl]
      · isplitl [Hs Hg]
        · isplitl [Hs] <;> iassumption
        iexact Hl
      iexact Hr)
    (fun c => by
      rw [show (pdats m hO₁ hH₁ hO₂ hH₂ 0 c).Φ (Fin.last _) = iprop(One.inv (atOne m) c ∗ Pipeline.ΦT pre0 (One.tbl (atOne m)) c) from rfl]
      unfold One.inv Pipeline.ΦA
      iintro ⟨⟨H, Hl⟩, Hr⟩
      isplitl [H]; · iexact H
      iapply (Pipeline.prefHeld_share pre0 c (PosShare.mem_left_op_right fullShare) (One.tbl (atOne m))).2
      isplitl [Hl] <;> iassumption)
    (fun _ => 0) (cut m hO₁ hH₁ hO₂ 0) (fun _ => iprop(emp)) (atOne m) (fun c w => rfl) (fun c k => (One.V_pre (atOne m) c k).symm)

/-- The second call, entered and left. -/
def region1 : Pipeline.RegionSeg (pcfgs (F := F)) (adms m hO₁ hH₁ hO₂) (pdats m hO₁ hH₁ hO₂ hH₂) () defs₀ Variants.none L lv 1 :=
  Pipeline.RegionSeg.ofHeldInT pcfgs (adms m hO₁ hH₁ hO₂) (pdats m hO₁ hH₁ hO₂ hH₂) () defs₀ Variants.none L lv 1 (fun _ => 0)
    (Pipeline.ucRefs τ sig) (fun c => iprop(∃ r, prngReg c r)) (fun c => iprop(∃ r, prngReg c r)) launch1
    (fun c => (Two.body_obligation (atTwo m hO₁ hH₁) hO₂ hH₂ c).loose) (fun _ _ => rfl) (fun _ => rfl) (fun c w => by unfold Pipeline.Dat.share; split <;> rfl)
    (fun c => by
      refine (show iprop(iprop(Pipeline.scopedRest spec1 c ∗ ∃ r, prngReg c r) ∗ Pipeline.prefHeld pre1 c (fun _ => fullShare) (Two.tbl (atTwo m hO₁ hH₁)))
        ⊢ (iprop(Two.inv (atTwo m hO₁ hH₁) c ∗ Pipeline.ΦT pre1 (Two.tbl (atTwo m hO₁ hH₁)) c) : sProp (MM F)) from ?_).trans (Two.hin (atTwo m hO₁ hH₁) hO₂ hH₂ c)
      unfold Two.inv Pipeline.ΦA
      iintro ⟨⟨Hs, Hg⟩, Ht⟩
      ihave H := (Pipeline.prefHeld_share pre1 c (PosShare.mem_left_op_right fullShare) (Two.tbl (atTwo m hO₁ hH₁))).1 $$ Ht
      icases H with ⟨Hl, Hr⟩
      isplitl [Hs Hg Hl]
      · isplitl [Hs Hg]
        · isplitl [Hs] <;> iassumption
        iexact Hl
      iexact Hr)
    (fun c => by
      refine (Two.hout (atTwo m hO₁ hH₁) hO₂ hH₂ c).trans (show (iprop(Two.inv (atTwo m hO₁ hH₁) c ∗ Pipeline.ΦT pre1 (Two.tbl (atTwo m hO₁ hH₁)) c) : sProp (MM F))
        ⊢ iprop(iprop(Pipeline.scopedRest spec1 c ∗ ∃ r, prngReg c r) ∗ Pipeline.prefHeld pre1 c (fun _ => fullShare) (Two.tbl (atTwo m hO₁ hH₁))) from ?_)
      unfold Two.inv Pipeline.ΦA
      iintro ⟨⟨H, Hl⟩, Hr⟩
      isplitl [H]; · iexact H
      iapply (Pipeline.prefHeld_share pre1 c (PosShare.mem_left_op_right fullShare) (Two.tbl (atTwo m hO₁ hH₁))).2
      isplitl [Hl] <;> iassumption)
    (fun _ => 0) (cut m hO₁ hH₁ hO₂ 1) (fun _ => iprop(emp)) (atTwo m hO₁ hH₁) (fun c w => rfl) (fun c k => (Two.V_pre (atTwo m hO₁ hH₁) c k).symm)

theorem outs_one (r : Ref sig .tc) (h0 : r ≠ main_v3_0) (h1 : r ≠ main_v3_1) :
    ∀ w : Fin 10, Pipeline.arrRef spec0 w = r → (spec0 w).isOut = false := by
  intro w e
  have key : ∀ w : Fin 10, (spec0 w).isOut = false ∨ Pipeline.arrRef spec0 w = main_v3_0 ∨ Pipeline.arrRef spec0 w = main_v3_1 := by decide
  rcases key w with h | h | h
  · exact h
  · exact absurd (e.symm.trans h) h0
  · exact absurd (e.symm.trans h) h1

theorem outs_two (r : Ref sig .tc) (h0 : r ≠ main_v6) : ∀ w : Fin 10, Pipeline.arrRef spec1 w = r → (spec1 w).isOut = false := by
  intro w e
  have key : ∀ w : Fin 10, (spec1 w).isOut = false ∨ Pipeline.arrRef spec1 w = main_v6 := by decide
  rcases key w with h | h
  · exact h
  · exact absurd (e.symm.trans h) h0

/-- After the first call the buffers are as listed. -/
theorem after_one (c : Dev nD) : ∀ b ∈ Pipeline.ucRefs τ sig,
    Pipeline.afterRegion (One.dats (atOne m) hO₁ hH₁ 0 c) (atOne m c) b = V2 m (outs m hO₁ hH₁ hO₂ hH₂) c b := by
  intro b hb
  obtain ⟨r, -, rfl⟩ := Finset.mem_map.mp (Finset.mem_filter.mp hb).1
  show Pipeline.afterRegion (One.dats (atOne m) hO₁ hH₁ 0 c) (atOne m c) (Proc.devRef .tc r) = V2 m (outs m hO₁ hH₁ hO₂ hH₂) c (Proc.devRef .tc r)
  by_cases h1 : r = main_v3_1
  · subst h1; simp only [V2, Function.update_self]; rfl
  by_cases h0 : r = main_v3_0
  · subst h0
    simp only [V2, Function.update_of_ne (StableHlo.devRef_ne_of_ne h1 : (Proc.devRef .tc main_v3_0 : DevRef τ sig) ≠ Proc.devRef .tc main_v3_1), Function.update_self]; rfl
  rw [V2_of _ _ _ _ (by simp [h0, h1])]
  refine Pipeline.afterRegion_keeps _ _ (launch0 (F := F)).win.arr_inj (fun w => rfl) r fun w e => ?_
  revert w
  exact outs_one r h0 h1

/-- After the second call the buffers are as listed. -/
theorem after_two (c : Dev nD) : ∀ b ∈ Pipeline.ucRefs τ sig,
    Pipeline.afterRegion (Two.dats (atTwo m hO₁ hH₁) hO₂ hH₂ 0 c) (atTwo m hO₁ hH₁ c) b = V4 m (outs m hO₁ hH₁ hO₂ hH₂) c b := by
  intro b hb
  obtain ⟨r, -, rfl⟩ := Finset.mem_map.mp (Finset.mem_filter.mp hb).1
  show Pipeline.afterRegion (Two.dats (atTwo m hO₁ hH₁) hO₂ hH₂ 0 c) (atTwo m hO₁ hH₁ c) (Proc.devRef .tc r) = V4 m (outs m hO₁ hH₁ hO₂ hH₂) c (Proc.devRef .tc r)
  by_cases h0 : r = main_v6
  · subst h0; simp only [V4, Function.update_self]; rfl
  rw [V4_of _ _ _ _ (by simp [h0])]
  refine Pipeline.afterRegion_keeps _ _ (launch1 (F := F)).win.arr_inj (fun w => rfl) r fun w e => ?_
  revert w
  exact outs_two r h0

theorem arrs_in0 : Pipeline.arrRefs spec0 ⊆ Pipeline.ucRefs τ sig := by decide
theorem tbls_in0 : Pipeline.tblRefs pre0 ⊆ Pipeline.ucRefs τ sig := by decide
theorem arrs_in1 : Pipeline.arrRefs spec1 ⊆ Pipeline.ucRefs τ sig := by decide
theorem tbls_in1 : Pipeline.tblRefs pre1 ⊆ Pipeline.ucRefs τ sig := by decide

theorem region0_pre (c : Dev nD) : iprop(StableHlo.held (c : Thread nD τ) (Pipeline.ucRefs τ sig) (V1 m c) ∗ E c) ⊢ (region0 m hO₁ hH₁ hO₂ hH₂).pre c :=
  by unfold region0; exact Pipeline.RegionSeg.ofHeldInT_pre (pcs := pcfgs (F := F)) (a := adms m hO₁ hH₁ hO₂) (pdats := pdats m hO₁ hH₁ hO₂ hH₂) (ι := ()) (defs₀ := defs₀ (F := F)) (𝒱₀ := Variants.none) (L := L) (lv := lv) (p := 0) (D := fun _ => 0) (S := Pipeline.ucRefs τ sig) (X := fun c => iprop(∃ r, prngReg c r)) (Y := fun c => iprop(∃ r, prngReg c r)) (kit := launch0) (b := fun _ => 0) (hcut := cut m hO₁ hH₁ hO₂ 0) (R := fun _ => iprop(emp)) (W := atOne m) arrs_in0 tbls_in0 c

theorem region0_post (c : Dev nD) : (region0 m hO₁ hH₁ hO₂ hH₂).post c
    ⊢ iprop(StableHlo.held (c : Thread nD τ) (Pipeline.ucRefs τ sig) (V2 m (outs m hO₁ hH₁ hO₂ hH₂) c) ∗ E c) := by
  rw [← StableHlo.held_congr (c : Thread nD τ) (after_one m hO₁ hH₁ hO₂ hH₂ c)]
  unfold region0
  exact Pipeline.RegionSeg.ofHeldInT_post (pcs := pcfgs (F := F)) (a := adms m hO₁ hH₁ hO₂) (pdats := pdats m hO₁ hH₁ hO₂ hH₂) (ι := ()) (defs₀ := defs₀ (F := F)) (𝒱₀ := Variants.none) (L := L) (lv := lv) (p := 0) (D := fun _ => 0) (S := Pipeline.ucRefs τ sig) (X := fun c => iprop(∃ r, prngReg c r)) (Y := fun c => iprop(∃ r, prngReg c r)) (kit := launch0) (b := fun _ => 0) (hcut := cut m hO₁ hH₁ hO₂ 0) (R := fun _ => iprop(emp)) (W := atOne m) arrs_in0 tbls_in0 c

theorem region1_pre (c : Dev nD) : iprop(StableHlo.held (c : Thread nD τ) (Pipeline.ucRefs τ sig) (V3 m (outs m hO₁ hH₁ hO₂ hH₂) c) ∗ E c) ⊢ (region1 m hO₁ hH₁ hO₂ hH₂).pre c :=
  by unfold region1; exact Pipeline.RegionSeg.ofHeldInT_pre (pcs := pcfgs (F := F)) (a := adms m hO₁ hH₁ hO₂) (pdats := pdats m hO₁ hH₁ hO₂ hH₂) (ι := ()) (defs₀ := defs₀ (F := F)) (𝒱₀ := Variants.none) (L := L) (lv := lv) (p := 1) (D := fun _ => 0) (S := Pipeline.ucRefs τ sig) (X := fun c => iprop(∃ r, prngReg c r)) (Y := fun c => iprop(∃ r, prngReg c r)) (kit := launch1) (b := fun _ => 0) (hcut := cut m hO₁ hH₁ hO₂ 1) (R := fun _ => iprop(emp)) (W := atTwo m hO₁ hH₁) arrs_in1 tbls_in1 c

theorem region1_post (c : Dev nD) : (region1 m hO₁ hH₁ hO₂ hH₂).post c
    ⊢ iprop(StableHlo.held (c : Thread nD τ) (Pipeline.ucRefs τ sig) (V4 m (outs m hO₁ hH₁ hO₂ hH₂) c) ∗ E c) := by
  rw [← StableHlo.held_congr (c : Thread nD τ) (after_two m hO₁ hH₁ hO₂ hH₂ c)]
  unfold region1
  exact Pipeline.RegionSeg.ofHeldInT_post (pcs := pcfgs (F := F)) (a := adms m hO₁ hH₁ hO₂) (pdats := pdats m hO₁ hH₁ hO₂ hH₂) (ι := ()) (defs₀ := defs₀ (F := F)) (𝒱₀ := Variants.none) (L := L) (lv := lv) (p := 1) (D := fun _ => 0) (S := Pipeline.ucRefs τ sig) (X := fun c => iprop(∃ r, prngReg c r)) (Y := fun c => iprop(∃ r, prngReg c r)) (kit := launch1) (b := fun _ => 0) (hcut := cut m hO₁ hH₁ hO₂ 1) (R := fun _ => iprop(emp)) (W := atTwo m hO₁ hH₁) arrs_in1 tbls_in1 c

/-- The end of a run: the arguments as they were, the result as listed. -/
def Ends (o : Outs (F := F)) (c : Dev nD) (s : MemSt nD τ sig (Elt F)) : Prop :=
  (∀ r ∈ [main_arg0, main_arg1, main_arg2, main_arg3, main_arg4, main_arg5, main_arg6, main_arg7, main_arg8, main_arg9, main_arg10, main_arg11, main_v7],
    s.mem ((c.tc : Thread nD τ).loc r) = V5 m o c r)

theorem listed_unscoped : ∀ r ∈ [main_arg0, main_arg1, main_arg2, main_arg3, main_arg4, main_arg5, main_arg6, main_arg7, main_arg8, main_arg9, main_arg10, main_arg11, main_v7],
    (Proc.devRef .tc r : DevRef τ sig) ∈ Pipeline.ucRefs τ sig := fun r h =>
  Finset.mem_filter.mpr ⟨StableHlo.devRef_mem_tcRefs r, by revert r; decide⟩

-- the launch theorem's hidden arguments are found by unfolding
set_option backward.isDefEq.respectTransparency.types false in
/-- Every run of the whole program ends with the arguments as they were, the result as listed and every counter at zero. -/
theorem runs (ρ : Dev nD → PrngReg) :
    θ_run defs (onTc (τ := τ) (main (F := F))) ⟨m, fun _ => 0, ρ⟩ (fun r => (∀ c : Dev nD, Ends m (outs m hO₁ hH₁ hO₂ hH₂) c r.2) ∧ r.2.sem = fun _ => 0) := by
  refine Pipeline.θ_run_regions_kit_dev_sems (pcfgs (F := F)) (adms m hO₁ hH₁ hO₂) (pdats m hO₁ hH₁ hO₂ hH₂) () (cellOf_inj (adms m hO₁ hH₁ hO₂))
    emb₁ defs₀ Variants.none L lv m ρ main
    (segs m (outs m hO₁ hH₁ hO₂ hH₂) Variants.none L lv (fun _ => E) () (adms m hO₁ hH₁ hO₂) (pdats m hO₁ hH₁ hO₂ hH₂) (region0 m hO₁ hH₁ hO₂ hH₂) (region1 m hO₁ hH₁ hO₂ hH₂))
    (fun c Q => by
      rewrite [main_chain c, Pipeline.Seg.run_eq_chain]
      exact .rfl)
    (fun c => by simp only [segs, Pipeline.Seg.pipes_host, Pipeline.Seg.pipes_region, Pipeline.Seg.pipes_nil]; decide) (fun _ => 0)
    (fun g h => if_neg h) (fun _ => iprop(emp))
    (initOf (Pipeline.cells (Pipeline.pin (pcfgs (F := F)) (adms m hO₁ hH₁ hO₂)) (cellOf_inj _)) (Pipeline.launchToks (Pipeline.pin (pcfgs (F := F)) (adms m hO₁ hH₁ hO₂)) (cellOf_inj _)))
    (by
      iintro Hu; imodintro
      isplitl [Hu]
      · iapply (show (ownU (initOf (Pipeline.cells (Pipeline.pin (pcfgs (F := F)) (adms m hO₁ hH₁ hO₂)) (cellOf_inj _)) (Pipeline.launchToks (Pipeline.pin (pcfgs (F := F)) (adms m hO₁ hH₁ hO₂)) (cellOf_inj _))) : sProp (MM F)) ⊢ BI.own (emb₁ (initOf (Pipeline.cells (Pipeline.pin (pcfgs (F := F)) (adms m hO₁ hH₁ hO₂)) (cellOf_inj _)) (Pipeline.launchToks (Pipeline.pin (pcfgs (F := F)) (adms m hO₁ hH₁ hO₂)) (cellOf_inj _)))) from .rfl)
        iexact Hu
      iapply (show (BI.emp : sProp (MM F)) ⊢ bigSep Finset.univ (fun _ : Dev nD => (BI.emp : sProp (MM F))) from by rw [BI.bigSep_emp_const])
      iempintro)
    (T₀ := fun c => iprop(StableHlo.held (c : Thread nD τ) (Pipeline.ucRefs τ sig) (V0 m c) ∗ E c))
    (Tₙ := fun c => StableHlo.held (c : Thread nD τ) (Pipeline.ucRefs τ sig) (V5 m (outs m hO₁ hH₁ hO₂ hH₂) c))
    (hch := fun c => ⟨.rfl, region0_pre m hO₁ hH₁ hO₂ hH₂ c, region0_post m hO₁ hH₁ hO₂ hH₂ c, region1_pre m hO₁ hH₁ hO₂ hH₂ c,
      region1_post m hO₁ hH₁ hO₂ hH₂ c, sep_mono .rfl (by iintro ⟨HO, -⟩; iexact HO)⟩)
    (hinit := ?_) (QY := fun c s => Ends m (outs m hO₁ hH₁ hO₂ hH₂) c s)
    (hfin := fun c s' => ?_) (hQ := fun _ h hz => ⟨h, funext fun g => hz g (.inr (regions_no_unscoped g.2))⟩)
  · have hsplit : (bigSep Finset.univ fun c : Dev nD => iprop(unscopedBufs c (fun b => m ((c.tc : Thread nD τ).loc b)) ∗ unscopedSems0 c
          ∗ owes (c.tc : Thread nD τ) (0 : CellTallies nD τ sig Unit) ∅ ∗ Pipeline.launchCred (fun _ => 0) c ∗ prngReg c (ρ c) ∗ emp))
        ⊢ (bigSep Finset.univ fun c : Dev nD => iprop(StableHlo.held (c : Thread nD τ) (Pipeline.ucRefs τ sig) (V0 m c) ∗ E c) : sProp (MM F)) :=
      bigSep_mono fun c _ => by
        rw [← Pipeline.unscopedBufs_held (Ix := Unit) (Name := ℕ) (U := UR sig nD τ) (Lvl := ℕ) c (V0 m c)]
        show _ ⊢ iprop(unscopedBufs c (fun b => m ((c.tc : Thread nD τ).loc b)) ∗ E c)
        iintro ⟨Hb, -, HO, -, Hp, He⟩
        isplitl [Hb]; · iexact Hb
        isplitl [HO]; · iexists _; iexact HO
        isplitl [Hp]; · iexists _; iexact Hp
        iexact He
    iintro ⟨H, -⟩
    imodintro
    iapply hsplit
    iexact H
  · unfold StableHlo.held
    iintro ⟨Hh, HSI⟩
    ihave Hr := (pointsTo_read_all (Pipeline.ucRefs τ sig) (fun b => ((c : Thread nD τ).1, b)) (V5 m (outs m hO₁ hH₁ hO₂ hH₂) c) s') $$ [Hh HSI]
    · isplitl [Hh] <;> iassumption
    icases Hr with ⟨%h, HSI⟩
    imodintro
    isplitr
    · ipureintro
      exact fun r hr => h (Proc.devRef .tc r) (listed_unscoped r hr)
    · iexact HSI

end Cert.Whole
-- ==== Proof.Words.lean ====
/- The two words that a call reads of its tables at a block — the graph of the block's first row and the graph of its
   last — fix the trip counts of its loops and the rows that each trip reads. -/
module

public import proofs.«01_k».proof.KernelIdeal
public import proofs.«01_k».proof.Proof.Gen.KernelIdeal.Skeleton

@[expose] public section

set_option maxRecDepth 16384

noncomputable section

namespace Cert.Words

open Idealize.ShloMosaic Cert.KernelIdeal Cert.KernelIdeal.Gen

/-- The floored quotient by 64 of a word, as the kernel computes it, plus one: the number of 64-graph chunks. -/
def chunks (d : BitVec 32) : BitVec 32 :=
  let q : BitVec 32 := Scalar.divsi d 64#32
  Scalar.addi (Scalar.select
    (Scalar.andi
      (Scalar.cmpi .ne
        (Scalar.subi (Scalar.extui (Scalar.cmpi .sgt d 0#32)) (Scalar.extui (Scalar.cmpi .slt d 0#32)))
        (Scalar.subi (Scalar.extui (Scalar.cmpi .sgt 64#32 0#32)) (Scalar.extui (Scalar.cmpi .slt 64#32 0#32))))
      (Scalar.cmpi .ne (Scalar.remsi d 64#32) 0#32))
    (Scalar.subi q 1#32) q) 1#32

/-- The end of a main loop: the chunks, divided and multiplied by the unrolling factor 1. -/
def mainEnd (d : BitVec 32) : BitVec 32 :=
  Scalar.addi 0#32 (Scalar.muli (Scalar.divsi (Scalar.subi (chunks d) 0#32) 1#32) 1#32)

/-- The end of a remainder loop. -/
def restEnd (d : BitVec 32) : BitVec 32 := Scalar.addi 0#32 (Scalar.subi (chunks d) 0#32)

theorem ends_table : ∀ n : Fin 511,
    mainEnd (BitVec.ofNat 32 n.val - 255#32) = BitVec.ofInt 32 (((n.val : ℤ) - 255) / 64 + 1)
    ∧ restEnd (BitVec.ofNat 32 n.val - 255#32) = BitVec.ofInt 32 (((n.val : ℤ) - 255) / 64 + 1) := by
  decide +kernel

theorem ends_eq (lo hi : BitVec 32) (hlo : lo.toNat < 256) (hhi : hi.toNat < 256) :
    mainEnd (hi - lo) = BitVec.ofInt 32 (((hi.toNat : ℤ) - lo.toNat) / 64 + 1)
    ∧ restEnd (hi - lo) = BitVec.ofInt 32 (((hi.toNat : ℤ) - lo.toNat) / 64 + 1) := by
  have h := ends_table ⟨hi.toNat + 255 - lo.toNat, by omega⟩
  have e : BitVec.ofNat 32 (hi.toNat + 255 - lo.toNat) - 255#32 = hi - lo := by
    apply BitVec.eq_of_toNat_eq
    simp only [BitVec.toNat_sub, BitVec.toNat_ofNat]
    omega
  have e' : (((hi.toNat + 255 - lo.toNat : ℕ) : ℤ) - 255) = (hi.toNat : ℤ) - lo.toNat := by omega
  simp only [e, e'] at h
  exact h

/-- The number of chunks of a block whose graphs run from `lo` to `hi`: none when `hi` lies before `lo`. -/
def nch (lo hi : BitVec 32) : ℕ := (((hi.toNat : ℤ) - lo.toNat) / 64 + 1).toNat

theorem toInt_ofInt_small (z : ℤ) (h1 : -100 ≤ z) (h2 : z ≤ 100) : (BitVec.ofInt 32 z).toInt = z := by
  rw [BitVec.toInt_ofInt]
  simp only [Int.bmod]
  omega

theorem main_trips (lo hi : BitVec 32) (hlo : lo.toNat < 256) (hhi : hi.toNat < 256) :
    Scf.trips 0#32 (mainEnd (hi - lo)) 1#32 = nch lo hi := by
  have h := (ends_eq lo hi hlo hhi).1
  have e := toInt_ofInt_small (((hi.toNat : ℤ) - lo.toNat) / 64 + 1) (by omega) (by omega)
  simp only [Scf.trips, nch, h, e]
  have : (0#32 : BitVec 32).toInt = 0 := by decide
  have : (1#32 : BitVec 32).toInt = 1 := by decide
  simp only [*]
  omega

theorem rest_trips (lo hi : BitVec 32) (hlo : lo.toNat < 256) (hhi : hi.toNat < 256) :
    Scf.trips (mainEnd (hi - lo)) (restEnd (hi - lo)) 1#32 = 0 := by
  have h := ends_eq lo hi hlo hhi
  have : (1#32 : BitVec 32).toInt = 1 := by decide
  simp only [Scf.trips, h.1, h.2, this]
  omega

theorem nch_le (lo hi : BitVec 32) (hlo : lo.toNat < 256) (hhi : hi.toNat < 256) : nch lo hi ≤ 4 := by
  unfold nch; omega

/-- The first graph of chunk `k`. -/
def base (lo : BitVec 32) (k : ℕ) : BitVec 32 :=
  Scalar.addi lo (Scalar.muli (Scf.iv 0#32 1#32 k) 64#32)

theorem base_toNat (lo : BitVec 32) (k : ℕ) (hlo : lo.toNat < 256) (hk : k < 4) :
    (base lo k).toNat = lo.toNat + 64 * k := by
  simp only [base, Scalar.addi, Scalar.muli, Scf.iv, IntOp.addi, IntOp.muli, BitVec.toNat_add, BitVec.toNat_mul,
    BitVec.toNat_ofNat]
  omega

/-- The chunks' rows lie within the first 320. -/
theorem base_le (lo hi : BitVec 32) (k : ℕ) (hlo : lo.toNat < 256) (hhi : hi.toNat < 256) (hk : k < nch lo hi) :
    lo.toNat + 64 * k < 256 := by
  unfold nch at hk; omega

theorem trip_lt {lo hi : BitVec 32} (hlo : lo.toNat < 256) (hhi : hi.toNat < 256) {k : ℕ}
    (hk : k < Scf.trips 0#32 (mainEnd (hi - lo)) 1#32) : k < nch lo hi := lt_of_lt_of_eq hk (main_trips lo hi hlo hhi)

theorem off_eq {lo hi : BitVec 32} (hlo : lo.toNat < 256) (hhi : hi.toNat < 256) {k : ℕ}
    (hk : k < Scf.trips 0#32 (mainEnd (hi - lo)) 1#32) : (base lo k).toNat = lo.toNat + 64 * k := by
  have := trip_lt hlo hhi hk
  have := nch_le lo hi hlo hhi
  exact base_toNat lo k hlo (by omega)

/-- The conditions of one loop over the chunks and its remainder, over an array of 320 rows. -/
theorem loops (lo hi : BitVec 32) (hlo : lo.toNat < 256) (hhi : hi.toNat < 256) (n : ℕ) :
    Scf.OK 0#32 (mainEnd (hi - lo)) 1#32
    ∧ (∀ k : Fin (Scf.trips 0#32 (mainEnd (hi - lo)) 1#32), ∀ a : Fin 2,
        (![(base lo k.val).toNat, 0] : Fin 2 → ℕ) a + (![64, n] : Fin 2 → ℕ) a ≤ (![320, n] : Fin 2 → ℕ) a)
    ∧ Scf.OK (mainEnd (hi - lo)) (restEnd (hi - lo)) 1#32
    ∧ (Fin (Scf.trips (mainEnd (hi - lo)) (restEnd (hi - lo)) 1#32) → False) := by
  have ht := main_trips lo hi hlo hhi
  have hr := rest_trips lo hi hlo hhi
  have h4 := nch_le lo hi hlo hhi
  refine ⟨⟨by decide, ?_⟩, fun k a => ?_, ⟨by decide, ?_⟩, fun k => ?_⟩
  · rw [ht]
    have : (0#32 : BitVec 32).toInt = 0 := by decide
    have : (1#32 : BitVec 32).toInt = 1 := by decide
    simp only [*]; omega
  · have := base_le lo hi k.val hlo hhi (trip_lt hlo hhi k.isLt)
    have := off_eq hlo hhi k.isLt
    fin_cases a <;> simp <;> omega
  · rw [hr, (ends_eq lo hi hlo hhi).1, toInt_ofInt_small _ (by omega) (by omega)]
    omega
  · have := k.isLt; omega

theorem chk_one (lo hi : BitVec 32) (hlo : lo.toNat < 256) (hhi : hi.toNat < 256) : k0_chk1 lo hi :=
  have h := loops lo hi hlo hhi 128
  ⟨h.1, h.2.1, h.2.2.1, fun k => (h.2.2.2 k).elim⟩

theorem chk_two (lo hi : BitVec 32) (hlo : lo.toNat < 256) (hhi : hi.toNat < 256) : k1_chk1 lo hi :=
  have h := loops lo hi hlo hhi 128
  have h' := loops lo hi hlo hhi 10
  ⟨h.1, h.2.1, h.2.2.1, fun k => (h.2.2.2 k).elim, h'.1, h'.2.1, h'.2.2.1, fun k => (h'.2.2.2 k).elim⟩

end Cert.Words
-- ==== Proof.Tables.lean ====
/- The graph numbers: their range and order, and the two prefetched tables of each call: word `k` of the first is the graph
   of row `2000 k`, word `k` of the second the graph of row `2000 k + 1999`. -/
module

public import proofs.«01_k».proof.Defs
public import proofs.«01_k».proof.Proof.Run
public import proofs.«01_k».proof.Proof.Words
public import proofs.«01_k».proof.Proof.Gen.Pre_graph_ids
public import proofs.«01_k».proof.Proof.Gen.Pre_sorted_graph_ids
public import Idealize.ShloMosaic.Lib.ReduceAll
public import Idealize.ShloMosaic.Lib.Pointwise
public import Idealize.ShloMosaic.Lib.ValueIdxCore

@[expose] public section

set_option maxRecDepth 16384

noncomputable section

namespace Cert.Tables

open Idealize.ShloMosaic Idealize.ShloMosaic.TcCoe Cert.KernelIdeal.Gen Cert.Words Cert.Whole
open Cert.KernelIdeal hiding ix1
open Cert.Pre_sorted_graph_ids (S_)

variable {F : FTy → Type} [FloatOps F]

/-- The graph numbers lie in [0, 256). -/
def InRange (ids : IVec S100000 32) : Prop := ∀ i, (ids i).toNat < 256

/-- The rows stand in the order of their graphs. -/
def Sorted (ids : IVec S100000 32) : Prop := ∀ i j : S100000.Idx, (i 0).val ≤ (j 0).val → (ids i).toNat ≤ (ids j).toNat

/-- A word whose signed value lies in [0, 256) has that natural number. -/
theorem toNat_of_signed (x : BitVec 32) (h0 : (0#32 : BitVec 32).toInt ≤ x.toInt) (h1 : x.toInt < (256#32 : BitVec 32).toInt) :
    x.toNat < 256 ∧ x.toInt = x.toNat := by
  have e0 : (0#32 : BitVec 32).toInt = 0 := by decide
  have e1 : (256#32 : BitVec 32).toInt = 256 := by decide
  rw [e0] at h0; rw [e1] at h1
  rw [BitVec.toInt] at h0 h1 ⊢
  omega

/-- Element by element, from the two printed `jnp.all`s. -/
theorem range_of_reduces (a1 : IVec S100000 32)
    (h : S100000.ReducesTo [0] S_) (hu : 0 < S_.numel) (hb : S_.BroadcastsInDim S100000 (![] : Fin 0 → Fin S100000.rank)) (j : S_.Idx)
    (e1 : Host.reduce IntOp.andi (cmpi .sge a1 (broadcastInDim S100000 ![] hb (constantI S_ 32 0#32))) (constantI S_ 1 1#1) h hu j = 1#1)
    (e2 : Host.reduce IntOp.andi (cmpi .slt a1 (broadcastInDim S100000 ![] hb (constantI S_ 32 256#32))) (constantI S_ 1 1#1) h hu j = 1#1)
    (i : S100000.Idx) : (a1 i).toNat < 256 ∧ (a1 i).toInt = (a1 i).toNat := by
  have : Subsingleton S_.Idx := ⟨fun a b => funext fun k => k.elim0⟩
  have g1 := IntOp.cmpi_sge.mp (Host.reduce_andi_all _ _ h hu j e1 i)
  have g2 := IntOp.cmpi_slt.mp (Host.reduce_andi_all _ _ h hu j e2 i)
  exact toNat_of_signed _ g1 g2

/-- The printed predicate `graph_ids` gives the range. -/
theorem range_of_fn {a0 : FVec F S100000x128 .f32} {a1 : IVec S100000 32} {a2 : FVec F S128x128 .f32} {a3 : FVec F S128 .f32}
    {a4 : FVec F S128x64 .f32} {a5 : FVec F S64 .f32} {a6 : FVec F S64x1 .f32} {a7 : FVec F S1 .f32}
    {a8 : FVec F S256x128 .f32} {a9 : FVec F S128 .f32} {a10 : FVec F S128x10 .f32} {a11 : FVec F S10 .f32}
    (h : Pre_graph_ids.fn (F := F) a0 a1 a2 a3 a4 a5 a6 a7 a8 a9 a10 a11 = fun _ => 1#1) : InRange a1 := by
  intro i
  have e := congrFun h (Shape.Idx.first (by decide))
  dsimp only [Pre_graph_ids.fn, andi] at e
  obtain ⟨e1, e2⟩ := IntOp.andi_eq_one.mp e
  exact (range_of_reduces a1 _ _ _ _ e1 e2 i).1

/-- The printed predicate `sorted_graph_ids` gives the range and the order. -/
theorem sorted_of_fn {a0 : FVec F S100000x128 .f32} {a1 : IVec S100000 32} {a2 : FVec F S128x128 .f32} {a3 : FVec F S128 .f32}
    {a4 : FVec F S128x64 .f32} {a5 : FVec F S64 .f32} {a6 : FVec F S64x1 .f32} {a7 : FVec F S1 .f32}
    {a8 : FVec F S256x128 .f32} {a9 : FVec F S128 .f32} {a10 : FVec F S128x10 .f32} {a11 : FVec F S10 .f32}
    (h : Pre_sorted_graph_ids.fn (F := F) a0 a1 a2 a3 a4 a5 a6 a7 a8 a9 a10 a11 = fun _ => 1#1) : InRange a1 ∧ Sorted a1 := by
  have : Subsingleton S_.Idx := ⟨fun a b => funext fun k => k.elim0⟩
  have e := congrFun h (Shape.Idx.first (by decide))
  dsimp only [Pre_sorted_graph_ids.fn, andi] at e
  obtain ⟨e12, e3⟩ := IntOp.andi_eq_one.mp e
  obtain ⟨e1, e2⟩ := IntOp.andi_eq_one.mp e12
  have hr := range_of_reduces a1 _ _ _ _ e1 e2
  refine ⟨fun i => (hr i).1, ?_⟩
  -- neighbours stand in order
  have step : ∀ n (h0 : n < 100000) (h1 : n + 1 < 100000),
      (a1 (ix1 ⟨n, h0⟩)).toNat ≤ (a1 (ix1 ⟨n + 1, h1⟩)).toNat := by
    intro n h0 h1
    have g := IntOp.cmpi_sle.mp (Host.reduce_andi_all _ _ _ _ _ e3 (ix1 (⟨n, by omega⟩ : Fin 99999)))
    have i0 : ∀ (o : ℕ) (h : S100000.Slices ![o] Pre_sorted_graph_ids.S99999) (ho : n + o < 100000),
        extractStridedSlice Pre_sorted_graph_ids.S99999 ![o] a1 h (ix1 (⟨n, by omega⟩ : Fin 99999)) = a1 (ix1 ⟨n + o, ho⟩) := by
      intro o h ho
      refine congrArg a1 (funext fun k => ?_)
      match k with
      | ⟨0, _⟩ => exact Fin.ext (Nat.add_comm _ _)
    have g' : (a1 (ix1 ⟨n, h0⟩)).toInt ≤ (a1 (ix1 ⟨n + 1, h1⟩)).toInt := by
      have j0 := i0 0 Pre_sorted_graph_ids.Facts.slices_S100000_S99999_0 h0
      have j1 := i0 1 Pre_sorted_graph_ids.Facts.slices_S100000_S99999_1 h1
      exact (congrArg BitVec.toInt j0).symm.le.trans (g.trans (congrArg BitVec.toInt j1).le)
    rw [(hr _).2, (hr _).2] at g'
    exact_mod_cast g'
  have up : ∀ d n (h0 : n < 100000) (h1 : n + d < 100000),
      (a1 (ix1 ⟨n, h0⟩)).toNat ≤ (a1 (ix1 ⟨n + d, h1⟩)).toNat := by
    intro d
    induction d with
    | zero => intros; exact le_rfl
    | succ d ih => intro n h0 h1; exact (ih n h0 (by omega)).trans (step (n + d) (by omega) h1)
  intro i j hij
  have ei : i = ix1 ⟨(i 0).val, (i 0).isLt⟩ := eq_ix1 i
  have hj : (j 0).val < 100000 := (j 0).isLt
  have ej : j = ix1 ⟨(i 0).val + ((j 0).val - (i 0).val), by omega⟩ := by
    refine (eq_ix1 j).trans (congrArg ix1 (Fin.ext ?_)); simp; omega
  rw [ei, ej]
  exact up _ _ _ _

/-- What a call finds of the graph numbers: their column and the two tables. -/
structure Given (m : Dev nD → Valuation τ sig (Elt F)) (ids : IVec S100000 32) : Prop where
  col : m 0 main_v0 = shapeCast S100000x1 ids shapeCasts_S100000_S100000x1
  lo : m 0 main_v1 = (Host.slice S50 ![0] ![2000] · slicesBy_S100000_S50_0s2000) ids
  hi : m 0 main_v2 = (Host.slice S50 ![1999] ![2000] · slicesBy_S100000_S50_1999s2000) ids

variable {m : Dev nD → Valuation τ sig (Elt F)} {ids : IVec S100000 32}

theorem one_hyps (g : Given m ids) (h : InRange ids) (hO : One.Ok m) : One.Hyps m hO := by
  have h0 : ∀ y, (One.tbl m 0 y).toNat < 256 := fun y => by rw [show One.tbl m 0 = _ from g.lo]; exact h _
  have h1 : ∀ y, (One.tbl m 1 y).toNat < 256 := fun y => by rw [show One.tbl m 1 = _ from g.hi]; exact h _
  exact One.Hyps.of fun c t => chk_one _ _ (h0 _) (h1 _)

theorem two_hyps (g : Given m ids) (h : InRange ids) (hO : Two.Ok m) : Two.Hyps m hO := by
  have h0 : ∀ y, (Two.tbl m 0 y).toNat < 256 := fun y => by rw [show Two.tbl m 0 = _ from g.lo]; exact h _
  have h1 : ∀ y, (Two.tbl m 1 y).toNat < 256 := fun y => by rw [show Two.tbl m 1 = _ from g.hi]; exact h _
  exact Two.Hyps.of fun c t => chk_two _ _ (h0 _) (h1 _)

/-- The graph numbers of a memory. -/
abbrev idsOf (m : (ℓ : Loc nD τ sig) → Buf (Elt F) ℓ) : IVec S100000 32 := m (((0 : Dev nD) : Thread nD τ).loc main_arg1)

section
variable (m : (ℓ : Loc nD τ sig) → Buf (Elt F) ℓ)

theorem given_one : Given (atOne m) (idsOf m) where
  col := by show V1 m 0 main_v0 = _; after_results <;> rfl
  lo := by show V1 m 0 main_v1 = _; after_results <;> rfl
  hi := by show V1 m 0 main_v2 = _; after_results <;> rfl

theorem given_two (hO₁ : One.Ok (atOne m)) (hH₁ : One.Hyps (atOne m) hO₁) : Given (atTwo m hO₁ hH₁) (idsOf m) where
  col := ((V3_of m _ 0 main_v0 (by decide)).trans (V2_of m _ 0 main_v0 (by decide))).trans (given_one m).col
  lo := ((V3_of m _ 0 main_v1 (by decide)).trans (V2_of m _ 0 main_v1 (by decide))).trans (given_one m).lo
  hi := ((V3_of m _ 0 main_v2 (by decide)).trans (V2_of m _ 0 main_v2 (by decide))).trans (given_one m).hi

end

end Cert.Tables
-- ==== Proof.Frames.lean ====
/- The frames: every run of the kernel and of the reference terminates, leaves the arguments alone and ends with every
   counter at zero. -/
module

public import proofs.«01_k».proof.Proof.Tables
public import proofs.«01_k».proof.Proof.Gen.Kernel
public import proofs.«01_k».proof.Proof.Gen.ReferenceIdeal.Read
public import Idealize.ShloMosaic.Lib.Quiescent

@[expose] public section

set_option maxRecDepth 16384

noncomputable section

namespace Cert.Frames

open Idealize.ShloMosaic Idealize.ShloMosaic.TcCoe Idealize.SL.Sem Cert.KernelIdeal Cert.KernelIdeal.Gen Cert.Tables Cert.Whole

variable {F : FTy → Type} [FloatOps F]

section
variable (m : (ℓ : Loc nD τ sig) → Buf (Elt F) ℓ) (ρ : Dev nD → PrngReg) (hr : InRange (idsOf m))

include hr in
theorem hyps_one : One.Hyps (atOne m) trivial := one_hyps (given_one m) hr trivial

include hr in
theorem hyps_two : Two.Hyps (atTwo m trivial (hyps_one m hr)) trivial := two_hyps (given_two m trivial (hyps_one m hr)) hr trivial

/-- What the two calls leave. -/
abbrev leaves : Outs (F := F) := outs m trivial (hyps_one m hr) trivial (hyps_two m hr)

/-- A run leaves the result as listed, the arguments alone and the counters at zero. -/
theorem run : θ_run defs (onTc (τ := τ) (main (F := F))) ⟨m, fun _ => 0, ρ⟩ (fun r =>
    (∀ c : Dev nD, r.2.mem ((c.tc : Thread nD τ).loc main_v7) = V5 m (leaves m hr) c main_v7) ∧ (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) ∧ r.2.sem = fun _ => 0) := by
  refine (θ_run defs _ _).mono (fun r h => ⟨fun c => h.1 c main_v7 (by decide), fun c => ?_, h.2⟩) (runs m trivial (hyps_one m hr) trivial (hyps_two m hr) ρ)
  exact ⟨(h.1 c main_arg0 (by decide)).trans (V5_main_arg0 m _ c), (h.1 c main_arg1 (by decide)).trans (V5_main_arg1 m _ c), (h.1 c main_arg2 (by decide)).trans (V5_main_arg2 m _ c), (h.1 c main_arg3 (by decide)).trans (V5_main_arg3 m _ c), (h.1 c main_arg4 (by decide)).trans (V5_main_arg4 m _ c), (h.1 c main_arg5 (by decide)).trans (V5_main_arg5 m _ c), (h.1 c main_arg6 (by decide)).trans (V5_main_arg6 m _ c), (h.1 c main_arg7 (by decide)).trans (V5_main_arg7 m _ c), (h.1 c main_arg8 (by decide)).trans (V5_main_arg8 m _ c), (h.1 c main_arg9 (by decide)).trans (V5_main_arg9 m _ c), (h.1 c main_arg10 (by decide)).trans (V5_main_arg10 m _ c), (h.1 c main_arg11 (by decide)).trans (V5_main_arg11 m _ c)⟩

end

theorem kernelIdeal : Cert.quiescent_KernelIdeal := fun m ρ h =>
  (θ_run (defs (F := Ideal)) _ _).mono (fun _ h => h.2) (run m ρ (range_of_fn (h 0)))

theorem kernelIdeal_sorted : Cert.quiescent_KernelIdeal_pre_sorted_graph_ids := fun m ρ h =>
  (θ_run (defs (F := Ideal)) _ _).mono (fun _ h => h.2) (run m ρ (sorted_of_fn (h 0)).1)

/-- The frame at machine words, stated of the idealized kernel's program. -/
def AtBits : Prop :=
  ∀ (m : (ℓ : Loc nD τ sig) → Buf (Elt Bits) ℓ) (ρ : Dev nD → PrngReg), Cert.Pre_Kernel m →
    θ_run (defs (F := Bits)) (onTc (τ := τ) (main (F := Bits))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) ∧ r.2.sem = fun _ => 0)

theorem at_bits : AtBits := fun m ρ h =>
  (θ_run (defs (F := Bits)) _ _).mono (fun _ h => h.2) (run (F := Bits) m ρ (range_of_fn (F := Bits) (h 0)))

/-- The kernel and the idealized kernel are one program: no operation was rewritten. -/
theorem one_program : AtBits = Cert.quiescent_Kernel := by chain_rfl

theorem kernel : Cert.quiescent_Kernel := one_program.mp at_bits

theorem reference : Cert.quiescent_ReferenceIdeal := fun m ρ _ =>
  (θ_run (Cert.ReferenceIdeal.defs (F := Ideal)) _ _).mono
    (fun r h => And.intro (fun c => (h c).2) (sem_eq_zero_of_no_sems (by decide) r.2)) (Cert.ReferenceIdeal.Value.run (F := Ideal) m ρ)

theorem reference_sorted : Cert.quiescent_ReferenceIdeal_pre_sorted_graph_ids := fun m ρ _ => reference m ρ trivial

end Cert.Frames
-- ==== Proof.Pay.lean ====
/- What the two bodies store, read at an index at the ideal values. A row is marked for a graph of a chunk when its graph is
   that one. -/
module

public import proofs.«01_k».proof.KernelIdeal
public import proofs.«01_k».proof.Proof.Gen.KernelIdeal.Skeleton
public import proofs.«01_k».proof.Proof.Words
public import Idealize.ShloMosaic.Lib.Pointwise

@[expose] public section

set_option maxRecDepth 16384

noncomputable section

namespace Cert.Pay

open Idealize.ShloMosaic Cert.KernelIdeal Cert.KernelIdeal.Gen Cert.Words

/-- The mark as a factor. -/
theorem mark_mul (a b : BitVec 32) (x : EReal) :
    (((BitVec.setWidth 32 (IntOp.cmpi CmpIPredicate.eq a b)).toInt : ℝ) : EReal) * x = if a = b then x else 0 := by
  by_cases h : a = b
  · simp [IntOp.cmpi, h, beq_eq_false_iff_ne.mpr]
  · simp [IntOp.cmpi, h, beq_eq_false_iff_ne.mpr]

/-- Call 1: what a trip stores at graph `q` of its chunk, feature `j`. -/
theorem pool_apply (x : FVec Ideal S2000x128 .f32) (ids : IVec S2000x1 32) (lo hi : BitVec 32) (k : Fin (k0_t1_loop lo hi).trips)
    (o : FVec Ideal S64x128 .f32) (q : Fin 64) (j : Fin 128) :
    k0_pay1 (F := Ideal) x ids lo hi k o (ix2 q j)
      = o (ix2 q j) + ∑ r : Fin 2000, if ids (ix2 r 0) = base lo k.val + BitVec.ofNat 32 q.val then x (ix2 r j) else 0 := by
  pointwise [k0_pay1]
  exact congrArg (o (ix2 q j) + ·) (Finset.sum_congr rfl fun r _ => mark_mul _ _ _)

/-- Call 2: what a trip adds to row `r`, feature `j`. -/
theorem gather_apply (ids : IVec S2000x1 32) (lo hi : BitVec 32) (k : Fin (k1_t1_loop lo hi).trips)
    (acc : FVec Ideal S2000x128 .f32) (p : FVec Ideal S64x128 .f32) (r : Fin 2000) (j : Fin 128) :
    k1_pay1 (F := Ideal) ids lo hi 0#32 k acc p (ix2 r j)
      = acc (ix2 r j) + ∑ q : Fin 64, if ids (ix2 r 0) = base lo k.val + BitVec.ofNat 32 q.val then p (ix2 q j) else 0 := by
  pointwise [k1_pay1]
  exact congrArg (acc (ix2 r j) + ·) (Finset.sum_congr rfl fun q _ => mark_mul _ _ _)

/-- Call 2: what a trip stores at graph `q` of its chunk, class `c`. -/
theorem scatter_apply (u : FVec Ideal S2000x128 .f32) (ids : IVec S2000x1 32) (lo hi : BitVec 32) (g : FVec Ideal S2000x128 .f32)
    (W : FVec Ideal S128x10 .f32) (d : FVec Ideal S10 .f32) (h : FVec Ideal S2000x1 .f32) (k : Fin (k1_t3_loop lo hi).trips)
    (o : FVec Ideal S64x10 .f32) (q : Fin 64) (c : Fin 10) :
    k1_pay4 (F := Ideal) u ids lo hi g W d h k o (ix2 q c)
      = o (ix2 q c) + ∑ r : Fin 2000, if ids (ix2 r 0) = base lo k.val + BitVec.ofNat 32 q.val
          then k1_pay3 (F := Ideal) u g W d h (ix2 r c) else 0 := by
  pointwise [k1_pay4]
  exact congrArg (o (ix2 q c) + ·) (Finset.sum_congr rfl fun r _ => mark_mul _ _ _)

/-- The first network on one row of features. -/
def hOf (x : Fin 128 → EReal) (W0 : FVec Ideal S128x128 .f32) (b0 : FVec Ideal S128 .f32) (W1 : FVec Ideal S128x64 .f32)
    (b1 : FVec Ideal S64 .f32) (W2 : FVec Ideal S64x1 .f32) (b2 : FVec Ideal S1 .f32) : EReal :=
  ∑ k : Fin 64, max (∑ l : Fin 128, max (∑ i : Fin 128, x i * W0 (ix2 i l) + b0 (ix1 l)) 0 * W1 (ix2 l k) + b1 (ix1 k)) 0
    * W2 (ix2 k 0) + b2 (ix1 0)

/-- The last layer of the second network on one row. -/
def thOf (g : Fin 128 → EReal) (W : FVec Ideal S128x10 .f32) (d : FVec Ideal S10 .f32) (c : Fin 10) : EReal :=
  ∑ k : Fin 128, max (g k) 0 * W (ix2 k c) + d (ix1 c)

theorem h_apply (x : FVec Ideal S2000x128 .f32) (W0 : FVec Ideal S128x128 .f32) (b0 : FVec Ideal S128 .f32)
    (W1 : FVec Ideal S128x64 .f32) (b1 : FVec Ideal S64 .f32) (W2 : FVec Ideal S64x1 .f32) (b2 : FVec Ideal S1 .f32) (r : Fin 2000) :
    k0_pay3 (F := Ideal) x W0 b0 W1 b1 W2 b2 (ix2 r 0) = hOf (fun i => x (ix2 r i)) W0 b0 W1 b1 W2 b2 := by
  pointwise [k0_pay3, hOf]

theorem contrib_apply (u g : FVec Ideal S2000x128 .f32) (W : FVec Ideal S128x10 .f32) (d : FVec Ideal S10 .f32)
    (h : FVec Ideal S2000x1 .f32) (r : Fin 2000) (c : Fin 10) :
    k1_pay3 (F := Ideal) u g W d h (ix2 r c) = h (ix2 r 0) * thOf (fun i => u (ix2 r i) + g (ix2 r i)) W d c := by
  pointwise [k1_pay3, thOf]

theorem u_apply (x : FVec Ideal S2000x128 .f32) (W : FVec Ideal S128x128 .f32) (r : Fin 2000) (j : Fin 128) :
    k1_pay8 (F := Ideal) x W (ix2 r j) = ∑ i : Fin 128, x (ix2 r i) * W (ix2 i j) := by
  pointwise [k1_pay8]

theorem p2_apply (p : FVec Ideal S320x128 .f32) (W : FVec Ideal S128x128 .f32) (d : FVec Ideal S128 .f32)
    (b : Fin 320) (j : Fin 128) :
    k1_pay6 (F := Ideal) p W d (ix2 b j) = ∑ i : Fin 128, p (ix2 b i) * W (ix2 i j) + d (ix1 j) := by
  pointwise [k1_pay6]

theorem zero_pool (b : Fin 320) (j : Fin 128) : k0_pay4 (F := Ideal) (ix2 b j) = 0 := by
  pointwise [k0_pay4]

theorem zero_out (b : Fin 320) (c : Fin 10) : k1_pay7 (F := Ideal) (ix2 b c) = 0 := by
  pointwise [k1_pay7]

theorem zero_row (r : Fin 2000) (j : Fin 128) : k1_pay10 (F := Ideal) (ix2 r j) = 0 := by
  pointwise [k1_pay10]

theorem ids_one (a : IVec S2000x1 32) (r : Fin 2000) : k0_pay5 (F := Ideal) a (ix2 r 0) = a (ix2 r 0) := by
  pointwise [k0_pay5]

theorem ids_two (a : IVec S2000x1 32) (r : Fin 2000) : k1_pay9 (F := Ideal) a (ix2 r 0) = a (ix2 r 0) := by
  pointwise [k1_pay9]

end Cert.Pay
-- ==== Proof.Steps.lean ====
/- The loops of the two calls over the chunks of 64 graphs, read at an index: a scatter loop adds to each graph the rows of
   that graph, the gather loop adds to row `r` the table row of its graph. -/
module

public import proofs.«01_k».proof.Proof.Pay
public import Idealize.ShloMosaic.Lib.WritesUnit
public import Idealize.ShloMosaic.Lib.Pipeline.FrameBody
public import proofs.«01_k».proof.Proof.Gen.KernelIdeal.Loops

@[expose] public section

set_option maxRecDepth 16384

noncomputable section

namespace Cert.Steps

open Idealize.ShloMosaic Cert.KernelIdeal Cert.KernelIdeal.Gen Cert.Pay Cert.Words

/-- Row `r` of the block is of graph `G r`, and the block's graphs run from `lo` to `hi`. -/
structure Marks (ids : IVec S2000x1 32) (lo hi : BitVec 32) (G : Fin 2000 → Fin 256) : Prop where
  hlo : lo.toNat < 256
  hhi : hi.toNat < 256
  lo_le : ∀ r, lo.toNat ≤ (G r).val
  le_hi : ∀ r, (G r).val ≤ hi.toNat
  mem : ∀ r, (ids (ix2 r 0)).toNat = (G r).val

/-- What a block adds to graph `b`, column `c`: the sum of `V` over the rows of the graph. -/
def add {n : ℕ} (G : Fin 2000 → Fin 256) (V : Fin 2000 → Fin n → EReal) (b : Fin 320) (c : Fin n) : EReal :=
  ∑ r : Fin 2000, if b.val = (G r).val then V r c else 0

/-- A load of `T` rows at row `o` reads row `o + q`. -/
theorem ld_rows {N M T o : ℕ} {e : EltTy} (X : (⟨2, ![N, M]⟩ : Shape).Idx → Elt Ideal e) (off : Fin 2 → ℕ)
    (inb : ∀ a, off a + (⟨2, ![T, M]⟩ : Shape).size a ≤ (⟨2, ![N, M]⟩ : Shape).size a) (h0 : off = ![o, 0])
    (q : Fin T) (j : Fin M) (h : o + q.val < N) :
    View.ld (Val := Elt Ideal) X (Rect.unit (s := ⟨2, ![N, M]⟩) off (⟨2, ![T, M]⟩ : Shape).size inb) (ix2 q j) = X (ix2 ⟨o + q.val, h⟩ j) := by
  subst h0
  refine congrArg X (funext fun a => Fin.ext ?_)
  match a with
  | ⟨0, _⟩ => show o + 1 * q.val = o + q.val; omega
  | ⟨1, _⟩ => show 0 + 1 * j.val = j.val; omega

section
variable {ids : IVec S2000x1 32} {lo hi : BitVec 32} {G : Fin 2000 → Fin 256}

/-- A row's mark for graph `q` of chunk `k`. -/
theorem mark (m : Marks ids lo hi G) {k : ℕ} (hk : k < Scf.trips 0#32 (mainEnd (hi - lo)) 1#32) (q : Fin 64) (r : Fin 2000) :
    ids (ix2 r 0) = base lo k + BitVec.ofNat 32 q.val ↔ lo.toNat + 64 * k + q.val = (G r).val := by
  have hb := off_eq m.hlo m.hhi hk
  have := base_le lo hi k m.hlo m.hhi (trip_lt m.hlo m.hhi hk)
  rw [← BitVec.toNat_inj, m.mem r, BitVec.toNat_add, hb, BitVec.toNat_ofNat]
  omega

variable {sig : RefSig} {κ : Kind} {sp : Space}

/-- A scatter loop over `n` columns: each graph has its rows' values added. -/
theorem sLoop {n : ℕ} (m : Marks ids lo hi G) (V : Fin 2000 → Fin n → EReal) (v : View sig κ sp ⟨2, ![320, n]⟩ .f32)
    (f : v.ty.Contents (Elt Ideal)) (pb : ℕ → List (View.Piece (Elt Ideal) ⟨2, ![320, n]⟩ .f32)) (h0 : pb 0 = [])
    (T : ℕ) (hT : T = Scf.trips 0#32 (mainEnd (hi - lo)) 1#32)
    (off : Fin T → Fin 2 → ℕ) (hoff : ∀ k : Fin T, off k = ![(base lo k.val).toNat, 0])
    (inb : ∀ (k : Fin T) (a : Fin 2), off k a + (⟨2, ![64, n]⟩ : Shape).size a ≤ (⟨2, ![320, n]⟩ : Shape).size a)
    (X : Fin T → FVec Ideal ⟨2, ![64, n]⟩ .f32 → FVec Ideal ⟨2, ![64, n]⟩ .f32)
    (hX : ∀ k o q c, X k o (ix2 q c) = o (ix2 q c)
      + ∑ r : Fin 2000, if ids (ix2 r 0) = base lo k.val + BitVec.ofNat 32 q.val then V r c else 0)
    (hs : ∀ k : Fin T, pb (k.val + 1)
      = ([⟨Rect.unit (s := ⟨2, ![320, n]⟩) (off k) (⟨2, ![64, n]⟩ : Shape).size (inb k),
          X k (View.ld (Val := Elt Ideal) (e' := .f32) (v.read (Elt Ideal) (v.writes (Elt Ideal) f (pb k.val)))
            (Rect.unit (s := ⟨2, ![320, n]⟩) (off k) (⟨2, ![64, n]⟩ : Shape).size (inb k)))⟩]
          : List (View.Piece (Elt Ideal) ⟨2, ![320, n]⟩ .f32)) ++ pb k.val)
    (b : Fin 320) (c : Fin n) :
    v.read (Elt Ideal) (v.writes (Elt Ideal) f (pb T)) (ix2 b c) = v.read (Elt Ideal) f (ix2 b c) + add G V b c := by
  have ht : T = nch lo hi := hT.trans (main_trips lo hi m.hlo m.hhi)
  have key : ∀ n, n ≤ T →
      v.read (Elt Ideal) (v.writes (Elt Ideal) f (pb n)) (ix2 b c) = v.read (Elt Ideal) f (ix2 b c)
        + if lo.toNat ≤ b.val ∧ b.val < lo.toNat + 64 * n then add G V b c else 0 := by
    intro n
    induction n with
    | zero =>
      intro _
      rw [h0, if_neg (by omega), add_zero]
      rfl
    | succ n ih =>
      intro hn
      have hn' : n < Scf.trips 0#32 (mainEnd (hi - lo)) 1#32 := hT ▸ hn
      rw [hs ⟨n, hn⟩, List.singleton_append]
      have ho : off ⟨n, hn⟩ = ![lo.toNat + 64 * n, 0] := (hoff ⟨n, hn⟩).trans (congrArg (fun n => ![n, 0]) (off_eq m.hlo m.hhi hn'))
      by_cases h1 : lo.toNat + 64 * n ≤ b.val ∧ b.val < lo.toNat + 64 * n + 64
      · have hl : lo.toNat + 64 * n + (b.val - (lo.toNat + 64 * n)) < 320 := by omega
        refine (View.read_writes_cons_rows_of_mem (o := lo.toNat + 64 * n) v f _ _ _ (ix2 b c)
          (ix2 (⟨b.val - (lo.toNat + 64 * n), by omega⟩ : Fin 64) c) ho (by show b.val = _ + (b.val - _); omega) rfl).trans ?_
        rw [hX, ld_rows (e := .f32) _ (off ⟨n, hn⟩) _ ho _ c hl,
          show (⟨lo.toNat + 64 * n + (b.val - (lo.toNat + 64 * n)), hl⟩ : Fin 320) = b from Fin.ext (by show _ + (_ - _) = _; omega), ih (by omega),
          if_neg (by omega), add_zero, if_pos (by omega), add]
        refine congrArg (v.read (Elt Ideal) f (ix2 b c) + ·) (Finset.sum_congr rfl fun r _ => if_congr ?_ rfl rfl)
        rw [mark m hn']
        show _ + (_ - _) = _ ↔ _
        omega
      · refine (View.read_writes_cons_rows_of_not_mem (o := lo.toNat + 64 * n) (W := 64) v f _ _ _ (ix2 b c) ho rfl
          (by show b.val < _ ∨ _ ≤ b.val; omega)).trans ?_
        rw [ih (by omega)]
        refine congrArg (v.read (Elt Ideal) f (ix2 b c) + ·) (if_congr (by omega) rfl rfl)
  rw [key _ le_rfl]
  refine congrArg (v.read (Elt Ideal) f (ix2 b c) + ·) ?_
  by_cases h1 : lo.toNat ≤ b.val ∧ b.val < lo.toNat + 64 * T
  · exact if_pos h1
  · rw [if_neg h1, add, Finset.sum_eq_zero]
    intro r _
    have := m.lo_le r
    have := m.le_hi r
    rw [ht, nch] at h1
    exact if_neg (by omega)

/-- The gather loop of call 2: row `r` has the table row of its graph added. -/
theorem gLoop (m : Marks ids lo hi G) (hw : k1_chk1 lo hi) (P : S320x128.Idx → EReal) (init : FVec Ideal S2000x128 .f32)
    (st : ℕ → FVec Ideal S2000x128 .f32) (h0 : st 0 = init)
    (hs : ∀ k : Fin (k1_t1_loop lo hi).trips, st (k.val + 1) = k1_pay1 (F := Ideal) ids lo hi 0#32 k (st k.val)
      (View.ld (Val := Elt Ideal) (e' := .f32) P (Rect.unit (s := S320x128) (k1_off2 lo hi k) S64x128.size (k1_off2_inb lo hi hw k))))
    (r : Fin 2000) (j : Fin 128) :
    st (k1_t1_loop lo hi).trips (ix2 r j) = init (ix2 r j) + P (ix2 ⟨(G r).val, by omega⟩ j) := by
  have ht : (k1_t1_loop lo hi).trips = nch lo hi := main_trips lo hi m.hlo m.hhi
  have key : ∀ n, n ≤ (k1_t1_loop lo hi).trips → st n (ix2 r j) = init (ix2 r j)
      + if (G r).val < lo.toNat + 64 * n then P (ix2 ⟨(G r).val, by omega⟩ j) else 0 := by
    intro n
    induction n with
    | zero =>
      intro _
      have := m.lo_le r
      rw [h0, if_neg (by omega), add_zero]
    | succ n ih =>
      intro hn
      have hb := base_le lo hi n m.hlo m.hhi (trip_lt m.hlo m.hhi hn)
      rw [hs ⟨n, hn⟩, gather_apply, ih (by omega), add_assoc]
      refine congrArg (init (ix2 r j) + ·) ?_
      have e1 : ∀ q : Fin 64, (if ids (ix2 r 0) = base lo n + BitVec.ofNat 32 q.val then
          View.ld (Val := Elt Ideal) (e' := .f32) P (Rect.unit (s := S320x128) (k1_off2 lo hi ⟨n, hn⟩) S64x128.size (k1_off2_inb lo hi hw ⟨n, hn⟩)) (ix2 q j) else (0 : EReal))
          = if lo.toNat + 64 * n + q.val = (G r).val then P (ix2 ⟨(G r).val, by omega⟩ j) else 0 := fun q => by
        have hq : lo.toNat + 64 * n + q.val < 320 := by omega
        rw [ld_rows (e := .f32) P (k1_off2 lo hi ⟨n, hn⟩) _ (congrArg (fun n => ![n, 0]) (off_eq m.hlo m.hhi hn)) q j hq]
        refine (if_congr (mark m hn q r) rfl rfl).trans ?_
        split
        · next h => exact congrArg (fun n => P (ix2 n j)) (Fin.ext h)
        · rfl
      rw [Finset.sum_congr rfl fun q _ => e1 q]
      have := m.lo_le r
      by_cases h1 : (G r).val < lo.toNat + 64 * n
      · rw [if_pos h1, if_pos (by omega), Finset.sum_eq_zero fun q _ => if_neg (by omega), add_zero]
      · rw [if_neg h1, zero_add]
        by_cases h2 : (G r).val < lo.toNat + 64 * (n + 1)
        · rw [if_pos h2, Finset.sum_eq_single (⟨(G r).val - (lo.toNat + 64 * n), by omega⟩ : Fin 64)]
          · rw [if_pos (by show _ + (_ - _) = _; omega)]
          · intro q _ hq
            rw [if_neg fun e => hq (Fin.ext (by show q.val = _ - _; omega))]
          · intro h; exact absurd (Finset.mem_univ _) h
        · rw [if_neg h2]
          exact Finset.sum_eq_zero fun q _ => if_neg (by omega)
  rw [key _ le_rfl, if_pos]
  have := m.le_hi r
  rw [ht, nch]
  omega

end

end Cert.Steps
-- ==== Proof.Rows.lean ====
/- The rows of the grid points: their graphs, and the sum over all the rows, point by point. -/
module

public import proofs.«01_k».proof.Proof.Tables
public import proofs.«01_k».proof.Proof.Steps

@[expose] public section

set_option maxRecDepth 16384

noncomputable section

namespace Cert.Rows

open Idealize.ShloMosaic Idealize.ShloMosaic.TcCoe Cert.KernelIdeal.Gen Cert.Tables Cert.Pay
open Cert.KernelIdeal hiding ix1

variable (ids : IVec S100000 32) (hr : InRange ids)

/-- Row `r` of grid point `k`. -/
abbrev row (k : Fin 50) (r : Fin 2000) : Fin 100000 := ⟨2000 * k.val + r.val, by omega⟩

/-- The graphs of the rows of grid point `k`. -/
def graphs (k : Fin 50) (r : Fin 2000) : Fin 256 := ⟨(ids (ix1 (row k r))).toNat, hr _⟩

theorem marks (hs : Sorted ids) (k : Fin 50) (x : IVec S2000x1 32) (lo hi : BitVec 32) (hx : ∀ r, x (ix2 r 0) = ids (ix1 (row k r)))
    (hlo : lo = ids (ix1 (row k 0))) (hhi : hi = ids (ix1 (row k 1999))) : Steps.Marks x lo hi (graphs ids hr k) where
  hlo := hlo ▸ hr _
  hhi := hhi ▸ hr _
  lo_le r := hlo ▸ hs _ _ (by show 2000 * k.val + 0 ≤ 2000 * k.val + r.val; omega)
  le_hi r := hhi ▸ hs _ _ (by show 2000 * k.val + r.val ≤ 2000 * k.val + 1999; omega)
  mem r := by rw [hx]; rfl

/-- What row `n` adds to an entry of graph `b`. -/
def term (V : Fin 100000 → EReal) (b : ℕ) (n : Fin 100000) : EReal := if b = (ids (ix1 n)).toNat then V n else 0

/-- The same, over the natural numbers. -/
def term' (V : Fin 100000 → EReal) (b n : ℕ) : EReal := if h : n < 100000 then term ids V b ⟨n, h⟩ else 0

/-- What the rows of point `k` add to an entry of graph `b`. -/
def point (V : Fin 100000 → EReal) (b k : ℕ) : EReal := ∑ r : Fin 2000, term' ids V b (2000 * k + r.val)

theorem add_eq {n : ℕ} (k : Fin 50) (V : Fin 2000 → Fin n → EReal) (U : Fin 100000 → Fin n → EReal)
    (h : ∀ r c, V r c = U (row k r) c) (b : Fin 320) (c : Fin n) :
    Steps.add (graphs ids hr k) V b c = point ids (fun n => U n c) b.val k.val := by
  unfold Steps.add point
  refine Finset.sum_congr rfl fun r _ => ?_
  unfold term'
  rw [dif_pos (row k r).isLt, h]
  rfl

theorem sum_blocks (f : ℕ → EReal) (a b : ℕ) : ∑ i : Fin a, ∑ j : Fin b, f (b * i.val + j.val) = ∑ n ∈ Finset.range (a * b), f n := by
  induction a with
  | zero => simp
  | succ a ih =>
    rw [Fin.sum_univ_castSucc, Nat.succ_mul, Finset.sum_range_add]
    refine congrArg₂ (· + ·) ih ?_
    rw [Finset.sum_range]
    simp [Nat.mul_comm]

/-- The sums of the points are the sum over all the rows. -/
theorem sum_points (V : Fin 100000 → EReal) (b : ℕ) : ∑ k ∈ Finset.range 50, point ids V b k = ∑ n : Fin 100000, term ids V b n := by
  unfold point
  rw [Finset.sum_range]
  refine (sum_blocks (term' ids V b) 50 2000).trans ((Finset.sum_range _).trans (Finset.sum_congr rfl fun n _ => ?_))
  exact dif_pos n.isLt

/-- The feature of row `n`. -/
def feature (X : FVec Ideal S100000x128 .f32) (W0 : FVec Ideal S128x128 .f32) (b0 : FVec Ideal S128 .f32)
    (W1 : FVec Ideal S128x64 .f32) (b1 : FVec Ideal S64 .f32) (W2 : FVec Ideal S64x1 .f32) (b2 : FVec Ideal S1 .f32) (n : Fin 100000) : EReal :=
  hOf (fun i => X (ix2 n i)) W0 b0 W1 b1 W2 b2

/-- The product of row `n`'s feature with its weight for label `c`. -/
def prod (X : FVec Ideal S100000x128 .f32) (H : Fin 100000 → EReal) (U : FVec Ideal S128x128 .f32) (P : FVec Ideal S320x128 .f32)
    (W : FVec Ideal S128x10 .f32) (d : FVec Ideal S10 .f32) (n : Fin 100000) (c : Fin 10) : EReal :=
  H n * thOf (fun j => ∑ i : Fin 128, X (ix2 n i) * U (ix2 i j) + P (ix2 ⟨(ids (ix1 n)).toNat, (hr _).trans (by decide)⟩ j)) W d c

end Cert.Rows
-- ==== Proof.LoopValues.lean ====
/- The loops of the two bodies, each the common step: the main loops run the chunks, the remainder loops run no trip. -/
module

public import proofs.«01_k».proof.Proof.Steps

@[expose] public section

set_option maxRecDepth 16384

noncomputable section

namespace Cert.LoopValues

open Idealize.ShloMosaic Cert.KernelIdeal Cert.KernelIdeal.Gen Cert.Pay Cert.Words Cert.Steps

section One
variable (𝒱 : Variants) (c : Dev nD) (bd : Option 𝒱.V) (i : grid0.Coords)
  (arg1 : Memref sig .tc .smem S50 .i32) (harg1 : arg1.IsWhole)
  (arg2 : Memref sig .tc .smem S50 .i32) (harg2 : arg2.IsWhole)
  (arg3 : Memref sig .tc .vmem S2000x128 .f32) (harg3 : arg3.IsWhole)
  (arg4 : Memref sig .tc .vmem S2000x1 .i32) (harg4 : arg4.IsWhole)
  (arg5 : Memref sig .tc .vmem S128x128 .f32) (harg5 : arg5.IsWhole)
  (arg6 : Memref sig .tc .vmem S128 .f32) (harg6 : arg6.IsWhole)
  (arg7 : Memref sig .tc .vmem S128x64 .f32) (harg7 : arg7.IsWhole)
  (arg8 : Memref sig .tc .vmem S64 .f32) (harg8 : arg8.IsWhole)
  (arg9 : Memref sig .tc .vmem S64x1 .f32) (harg9 : arg9.IsWhole)
  (arg10 : Memref sig .tc .vmem S1 .f32) (harg10 : arg10.IsWhole)
  (arg11 : Memref sig .tc .vmem S2000x1 .f32) (harg11 : arg11.IsWhole)
  (arg12 : Memref sig .tc .vmem S320x128 .f32) (harg12 : arg12.IsWhole)
  (f : BufTy.Contents (Elt Ideal) arg12.view.ty) (lo hi : BitVec 32) (hw : k0_chk1 lo hi) (init : BitVec 32)
  (x : Vec Ideal S2000x128 .f32) (ids : IVec S2000x1 32) {G : Fin 2000 → Fin 256}

/-- The sums of the features by graph. -/
theorem pool (m : Marks ids lo hi G) (b : Fin 320) (j : Fin 128) :
    arg12.view.read (Elt Ideal) (arg12.view.writes (Elt Ideal) f (st_k0_t1 (F := Ideal) 𝒱 c bd i arg1 harg1 arg2 harg2 arg3 harg3 arg4 harg4 arg5 harg5 arg6 harg6 arg7 harg7 arg8 harg8 arg9 harg9 arg10 harg10 arg11 harg11 arg12 harg12 x ids lo hi hw f init (k0_t1_loop lo hi).trips).2) (ix2 b j)
      = arg12.view.read (Elt Ideal) f (ix2 b j) + add G (fun r j => x (ix2 r j)) b j :=
  sLoop m _ arg12.view f (fun k => (st_k0_t1 (F := Ideal) 𝒱 c bd i arg1 harg1 arg2 harg2 arg3 harg3 arg4 harg4 arg5 harg5 arg6 harg6 arg7 harg7 arg8 harg8 arg9 harg9 arg10 harg10 arg11 harg11 arg12 harg12 x ids lo hi hw f init k).2) rfl _ rfl
    (k0_off2 lo hi) (fun _ => rfl) (k0_off2_inb lo hi hw) (fun k o => k0_pay1 (F := Ideal) x ids lo hi k o) (fun k o q j => pool_apply x ids lo hi k o q j)
    (fun k => (congrArg Prod.snd (st_k0_t1_succ ..)).trans (by unfold tripL_k0_t1 trip_k0_t1; rfl)) b j

theorem pool_rest (v33 : BitVec 32) (hlo : lo.toNat < 256) (hhi : hi.toNat < 256) :
    (st_k0_t2 (F := Ideal) 𝒱 c bd i arg1 harg1 arg2 harg2 arg3 harg3 arg4 harg4 arg5 harg5 arg6 harg6 arg7 harg7 arg8 harg8 arg9 harg9 arg10 harg10 arg11 harg11 arg12 harg12 x ids lo hi hw v33 f init (k0_t2_loop lo hi).trips).2 = [] := by
  rw [show (k0_t2_loop lo hi).trips = 0 from rest_trips lo hi hlo hhi]; rfl

end One

section Two
variable (𝒱 : Variants) (c : Dev nD) (bd : Option 𝒱.V) (i : grid1.Coords)
  (arg1 : Memref sig .tc .smem S50 .i32) (harg1 : arg1.IsWhole)
  (arg2 : Memref sig .tc .smem S50 .i32) (harg2 : arg2.IsWhole)
  (arg3 : Memref sig .tc .vmem S2000x128 .f32) (harg3 : arg3.IsWhole)
  (arg4 : Memref sig .tc .vmem S2000x1 .i32) (harg4 : arg4.IsWhole)
  (arg5 : Memref sig .tc .vmem S2000x1 .f32) (harg5 : arg5.IsWhole)
  (arg6 : Memref sig .tc .vmem S320x128 .f32) (harg6 : arg6.IsWhole)
  (arg7 : Memref sig .tc .vmem S128x128 .f32) (harg7 : arg7.IsWhole)
  (arg8 : Memref sig .tc .vmem S128x128 .f32) (harg8 : arg8.IsWhole)
  (arg9 : Memref sig .tc .vmem S128 .f32) (harg9 : arg9.IsWhole)
  (arg10 : Memref sig .tc .vmem S128x10 .f32) (harg10 : arg10.IsWhole)
  (arg11 : Memref sig .tc .vmem S10 .f32) (harg11 : arg11.IsWhole)
  (arg12 : Memref sig .tc .vmem S320x10 .f32) (harg12 : arg12.IsWhole)
  (arg13 : Memref sig .tc .vmem S320x128 .f32) (harg13 : arg13.IsWhole)
  (lo hi : BitVec 32) (hw : k1_chk1 lo hi) (ids : IVec S2000x1 32) {G : Fin 2000 → Fin 256}

/-- The table rows of the block's rows. -/
theorem gather (X : BufTy.Contents (Elt Ideal) arg13.view.ty) (init : FVec Ideal S2000x128 .f32) (m : Marks ids lo hi G) (r : Fin 2000) (j : Fin 128) :
    st_k1_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 ids lo hi hw 0#32 X init (k1_t1_loop lo hi).trips (ix2 r j)
      = init (ix2 r j) + arg13.view.read (Elt Ideal) X (ix2 ⟨(G r).val, by omega⟩ j) :=
  gLoop m hw _ init _ rfl (fun k => (st_k1_t1_succ ..).trans (by unfold tripR_k1_t1 trip_k1_t1; rfl)) r j

theorem gather_rest (X : BufTy.Contents (Elt Ideal) arg13.view.ty) (init : FVec Ideal S2000x128 .f32) (v v36 : BitVec 32) (hlo : lo.toNat < 256) (hhi : hi.toNat < 256) :
    st_k1_t2 (F := Ideal) 𝒱 c bd i arg1 harg1 arg2 harg2 arg3 harg3 arg4 harg4 arg5 harg5 arg6 harg6 arg7 harg7 arg8 harg8 arg9 harg9 arg10 harg10 arg11 harg11 arg12 harg12 arg13 harg13 ids lo hi hw v v36 X init (k1_t2_loop lo hi).trips = init := by
  rw [show (k1_t2_loop lo hi).trips = 0 from rest_trips lo hi hlo hhi]; rfl

variable (f : BufTy.Contents (Elt Ideal) arg12.view.ty) (init : BitVec 32) (u g : FVec Ideal S2000x128 .f32) (W : Vec Ideal S128x10 .f32)
  (d : Vec Ideal S10 .f32) (h : Vec Ideal S2000x1 .f32)

/-- The sums of the products by graph. -/
theorem scatter (m : Marks ids lo hi G) (b : Fin 320) (cl : Fin 10) :
    arg12.view.read (Elt Ideal) (arg12.view.writes (Elt Ideal) f (st_k1_t3 (F := Ideal) 𝒱 c bd i arg1 harg1 arg2 harg2 arg3 harg3 arg4 harg4 arg5 harg5 arg6 harg6 arg7 harg7 arg8 harg8 arg9 harg9 arg10 harg10 arg11 harg11 arg12 harg12 arg13 harg13 u ids lo hi hw g W d h f init (k1_t3_loop lo hi).trips).2) (ix2 b cl)
      = arg12.view.read (Elt Ideal) f (ix2 b cl) + add G (fun r cl => k1_pay3 (F := Ideal) u g W d h (ix2 r cl)) b cl :=
  sLoop m _ arg12.view f (fun k => (st_k1_t3 (F := Ideal) 𝒱 c bd i arg1 harg1 arg2 harg2 arg3 harg3 arg4 harg4 arg5 harg5 arg6 harg6 arg7 harg7 arg8 harg8 arg9 harg9 arg10 harg10 arg11 harg11 arg12 harg12 arg13 harg13 u ids lo hi hw g W d h f init k).2) rfl _ rfl
    (k1_off4 lo hi) (fun _ => rfl) (k1_off4_inb lo hi hw) (fun k o => k1_pay4 (F := Ideal) u ids lo hi g W d h k o) (fun k o q cl => scatter_apply u ids lo hi g W d h k o q cl)
    (fun k => (congrArg Prod.snd (st_k1_t3_succ ..)).trans (by unfold tripL_k1_t3 trip_k1_t3; rfl)) b cl

theorem scatter_rest (v31 : BitVec 32) (hlo : lo.toNat < 256) (hhi : hi.toNat < 256) :
    (st_k1_t4 (F := Ideal) 𝒱 c bd i arg1 harg1 arg2 harg2 arg3 harg3 arg4 harg4 arg5 harg5 arg6 harg6 arg7 harg7 arg8 harg8 arg9 harg9 arg10 harg10 arg11 harg11 arg12 harg12 arg13 harg13 u ids lo hi hw v31 g W d h f init (k1_t4_loop lo hi).trips).2 = [] := by
  rw [show (k1_t4_loop lo hi).trips = 0 from rest_trips lo hi hlo hhi]; rfl

end Two

end Cert.LoopValues
-- ==== Proof.BodyOne.lean ====
/- The first body at one grid point: it stores the rows' heads and adds the rows' features to their graphs' sums. -/
module

public import proofs.«01_k».proof.Proof.LoopValues
public import proofs.«01_k».proof.Proof.OneBody
public import Idealize.ShloMosaic.Lib.WholeRead
public import Idealize.ShloMosaic.Lib.VecWindow

@[expose] public section

set_option maxRecDepth 16384

noncomputable section

namespace Cert.One

open Idealize.ShloMosaic Cert.KernelIdeal Cert.KernelIdeal.Gen Cert.Pay Cert.Words Cert.Steps Cert.LoopValues

/-- A load of the whole array reads it. -/
theorem rd_all {sp : Space} {s : Shape} {e : EltTy} {M : Memref sig .tc sp s e} (hM : M.IsWhole) (X : s.Idx → Elt Ideal e)
    (off : Fin s.rank → ℕ) (inb : ∀ a, off a + s.size a ≤ s.size a) (h : ∀ a, off a = 0) :
    M.view.readAt (Elt Ideal) (Rect.unit (s := s) off s.size inb).toLoadRect (hM.unread X) = X := by
  refine funext fun x => (Memref.IsWhole.readAt_unread (Val := Elt Ideal) hM X _ x).trans (congrArg X (funext fun a => Fin.ext ?_))
  show off a + 1 * (x a).val = (x a).val
  rw [h a]; omega

theorem ids_all (a : IVec S2000x1 32) : k0_pay5 (F := Ideal) a = a := by
  refine funext fun y => ?_
  obtain ⟨r, rfl⟩ : ∃ r, y = ix2 r 0 := ⟨y 0, (eq_ix2 y).trans (congrArg (ix2 (y 0)) (Subsingleton.elim (α := Fin 1) _ _))⟩
  exact ids_one a r

variable (c : Dev nD) (i : grid0.Coords)
  (arg3 : Memref sig .tc .vmem S2000x128 .f32) (harg3 : arg3.IsWhole)
  (arg4 : Memref sig .tc .vmem S2000x1 .i32) (harg4 : arg4.IsWhole)
  (arg5 : Memref sig .tc .vmem S128x128 .f32) (harg5 : arg5.IsWhole)
  (arg6 : Memref sig .tc .vmem S128 .f32) (harg6 : arg6.IsWhole)
  (arg7 : Memref sig .tc .vmem S128x64 .f32) (harg7 : arg7.IsWhole)
  (arg8 : Memref sig .tc .vmem S64 .f32) (harg8 : arg8.IsWhole)
  (arg9 : Memref sig .tc .vmem S64x1 .f32) (harg9 : arg9.IsWhole)
  (arg10 : Memref sig .tc .vmem S1 .f32) (harg10 : arg10.IsWhole)
  (arg11 : Memref sig .tc .vmem S2000x1 .f32) (harg11 : arg11.IsWhole)
  (arg12 : Memref sig .tc .vmem S320x128 .f32) (harg12 : arg12.IsWhole)
  (x0 : Vec Ideal S2000x128 .f32) (x1 : Vec Ideal S2000x1 .i32) (x2 : Vec Ideal S128x128 .f32) (x3 : Vec Ideal S128 .f32) (x4 : Vec Ideal S128x64 .f32) (x5 : Vec Ideal S64 .f32) (x6 : Vec Ideal S64x1 .f32) (x7 : Vec Ideal S1 .f32) (xt0 : TbBuf0 (F := Ideal) c tbM0_0) (xt1 : TbBuf0 (F := Ideal) c tbM0_1)
  (k0_hw1 : k0_chk1 (tbM0_0.view.readAt (Elt Ideal) (Rect.unit (s := S50) (k0_off1 i) S1.size (k0_off1_inb i)).toLoadRect xt0 (Shape.Idx.first (numel1_S1.symm ▸ Nat.one_pos))) (tbM0_1.view.readAt (Elt Ideal) (Rect.unit (s := S50) (k0_off1 i) S1.size (k0_off1_inb i)).toLoadRect xt1 (Shape.Idx.first (numel1_S1.symm ▸ Nat.one_pos))))
  {G : Fin 2000 → Fin 256}
  (m1 : Marks x1 (tbM0_0.view.readAt (Elt Ideal) (Rect.unit (s := S50) (k0_off1 i) S1.size (k0_off1_inb i)).toLoadRect xt0 (Shape.Idx.first (numel1_S1.symm ▸ Nat.one_pos)))
    (tbM0_1.view.readAt (Elt Ideal) (Rect.unit (s := S50) (k0_off1 i) S1.size (k0_off1_inb i)).toLoadRect xt1 (Shape.Idx.first (numel1_S1.symm ▸ Nat.one_pos))) G)

theorem head_A (hc0 : cond0_0 i) (r : Fin 2000) :
    out0_A_8 (F := Ideal) c i arg3 harg3 arg4 harg4 arg5 harg5 arg6 harg6 arg7 harg7 arg8 harg8 arg9 harg9 arg10 harg10 arg11 harg11 arg12 harg12 hc0 x0 x1 x2 x3 x4 x5 x6 x7 xt0 xt1 k0_hw1 (ix2 r 0) = hOf (fun i => x0 (ix2 r i)) x2 x3 x4 x5 x6 x7 := by
  unfold out0_A_8 kernelRun0_A
  dsimp only
  dsimp only [kernelRun0_A.sl.H8_1]
  rw [View.read_writes_full, h_apply]
  have e0 := rd_all harg3 x0 ![0, 0] inb_S2000x128_S2000x128_0_0 (by decide)
  have e2 := rd_all harg5 x2 ![0, 0] inb_S128x128_S128x128_0_0 (by decide)
  have e3 := rd_all harg6 x3 ![0] inb_S128_S128_0 (by decide)
  have e4 := rd_all harg7 x4 ![0, 0] inb_S128x64_S128x64_0_0 (by decide)
  have e5 := rd_all harg8 x5 ![0] inb_S64_S64_0 (by decide)
  have e6 := rd_all harg9 x6 ![0, 0] inb_S64x1_S64x1_0_0 (by decide)
  have e7 := rd_all harg10 x7 ![0] inb_S1_S1_0 (by decide)
  simp only [e0, e2, e3, e4, e5, e6, e7]

theorem head_B (hc0 : ¬cond0_0 i) (xo9 : Vec Ideal S320x128 .f32) (r : Fin 2000) :
    out0_B_8 (F := Ideal) c i arg3 harg3 arg4 harg4 arg5 harg5 arg6 harg6 arg7 harg7 arg8 harg8 arg9 harg9 arg10 harg10 arg11 harg11 arg12 harg12 hc0 x0 x1 x2 x3 x4 x5 x6 x7 xt0 xt1 xo9 k0_hw1 (ix2 r 0) = hOf (fun i => x0 (ix2 r i)) x2 x3 x4 x5 x6 x7 := by
  unfold out0_B_8 kernelRun0_B
  dsimp only
  dsimp only [kernelRun0_B.sl.H8_1]
  rw [View.read_writes_full, h_apply]
  have e0 := rd_all harg3 x0 ![0, 0] inb_S2000x128_S2000x128_0_0 (by decide)
  have e2 := rd_all harg5 x2 ![0, 0] inb_S128x128_S128x128_0_0 (by decide)
  have e3 := rd_all harg6 x3 ![0] inb_S128_S128_0 (by decide)
  have e4 := rd_all harg7 x4 ![0, 0] inb_S128x64_S128x64_0_0 (by decide)
  have e5 := rd_all harg8 x5 ![0] inb_S64_S64_0 (by decide)
  have e6 := rd_all harg9 x6 ![0, 0] inb_S64x1_S64x1_0_0 (by decide)
  have e7 := rd_all harg10 x7 ![0] inb_S1_S1_0 (by decide)
  simp only [e0, e2, e3, e4, e5, e6, e7]

include m1 in
theorem pool_B (hc0 : ¬cond0_0 i) (xo9 : Vec Ideal S320x128 .f32) (b : Fin 320) (j : Fin 128) :
    out0_B_9 (F := Ideal) c i arg3 harg3 arg4 harg4 arg5 harg5 arg6 harg6 arg7 harg7 arg8 harg8 arg9 harg9 arg10 harg10 arg11 harg11 arg12 harg12 hc0 x0 x1 x2 x3 x4 x5 x6 x7 xt0 xt1 xo9 k0_hw1 (ix2 b j)
      = xo9 (ix2 b j) + add G (fun r j => x0 (ix2 r j)) b j := by
  unfold out0_B_9 kernelRun0_B
  dsimp only
  dsimp only [kernelRun0_B.sl.r, kernelRun0_B.sl.r_1, kernelRun0_B.sl.r_2, kernelRun0_B.sl.r_3, kernelRun0_B.sl.v24, kernelRun0_B.sl.v25, kernelRun0_B.sl.v26, kernelRun0_B.sl.v33]
  have e0 := rd_all harg3 x0 ![0, 0] inb_S2000x128_S2000x128_0_0 (by decide)
  have e1 := rd_all harg4 x1 ![0, 0] inb_S2000x1_S2000x1_0_0 (by decide)
  simp only [e0, e1, ids_all]
  erw [pool_rest (hlo := m1.hlo) (hhi := m1.hhi), List.nil_append]
  exact (pool (m := m1) ..).trans (congrArg (· + _) (congrFun (harg12.read_unread xo9) _))

include m1 in
theorem pool_A (hc0 : cond0_0 i) (b : Fin 320) (j : Fin 128) :
    out0_A_9 (F := Ideal) c i arg3 harg3 arg4 harg4 arg5 harg5 arg6 harg6 arg7 harg7 arg8 harg8 arg9 harg9 arg10 harg10 arg11 harg11 arg12 harg12 hc0 x0 x1 x2 x3 x4 x5 x6 x7 xt0 xt1 k0_hw1 (ix2 b j)
      = add G (fun r j => x0 (ix2 r j)) b j := by
  unfold out0_A_9
  rw [View.read_writes_of_cover VO0_9 VO0_9.junk arg12.view arg12.view.junk _ (cover0_A_9 c i arg3 harg3 arg4 harg4 arg5 harg5 arg6 harg6 arg7 harg7 arg8 harg8 arg9 harg9 arg10 harg10 arg11 harg11 arg12 harg12 hc0 x0 x1 x2 x3 x4 x5 x6 x7 xt0 xt1 k0_hw1)]
  unfold kernelRun0_A
  dsimp only
  dsimp only [kernelRun0_A.sl.r, kernelRun0_A.sl.r_1, kernelRun0_A.sl.r_2, kernelRun0_A.sl.r_3, kernelRun0_A.sl.v24, kernelRun0_A.sl.v25, kernelRun0_A.sl.v26, kernelRun0_A.sl.v33, kernelRun0_A.sl.H9_1]
  have e0 := rd_all harg3 x0 ![0, 0] inb_S2000x128_S2000x128_0_0 (by decide)
  have e1 := rd_all harg4 x1 ![0, 0] inb_S2000x1_S2000x1_0_0 (by decide)
  simp only [e0, e1, ids_all]
  erw [pool_rest (hlo := m1.hlo) (hhi := m1.hhi), List.nil_append]
  rw [View.writes_append]
  refine (pool (m := m1) ..).trans ?_
  rw [View.read_writes_full, zero_pool, zero_add]

end Cert.One
-- ==== Proof.PointsOne.lean ====
/- The first call's grid points: the heads of the rows, and their sums by graph. -/
module

public import proofs.«01_k».proof.Proof.Rows
public import proofs.«01_k».proof.Proof.BodyOne
public import Idealize.ShloMosaic.Lib.Pipeline.ValueKit

@[expose] public section

set_option maxRecDepth 16384

noncomputable section

namespace Cert.One

open Idealize.ShloMosaic Idealize.ShloMosaic.TcCoe Cert.KernelIdeal.Gen Cert.Pay Cert.Words Cert.Tables
open Cert.KernelIdeal hiding ix1

section blocks

variable (m : Dev nD → Valuation τ sig (Elt Ideal)) (hO : Ok m) (t : Fin (cfgM m hO).N)

/-- A grid point's number. -/
abbrev pt (t : Fin (cfgM m hO).N) : Fin 50 := ⟨t.val, t.isLt⟩

theorem idx (t : Fin grid0.N) : (grid0.coords t 0).val = t.val := by
  have : ∀ t : Fin grid0.N, (grid0.coords t 0).val = t.val := by decide +kernel
  exact this t

/-- The block of a window over the rows at point `t` is the `t`-th. -/
theorem at_t (n : ℕ) (t : Fin grid0.N) (e : n = (BitVec.ofNat 32 (grid0.coords t 0).val).toNat) : n = t.val := by
  have h : t.val < 50 := t.isLt
  rw [e, idx t, BitVec.toNat_ofNat]; omega

theorem skip {n c y : ℕ} (h : n = 0) : n * c + y = y := by rw [h]; omega

theorem place {n k c y : ℕ} (h : n = k) : n * c + y = c * k + y := by rw [h, Nat.mul_comm]

theorem b0 (r : Fin 2000) (l : Fin 128) : iblk m hO 0 0 t (ix2 r l) = m 0 main_arg0 (ix2 (Rows.row (pt m hO t) r) l) := by
  blk_ext [iblk]
  · exact place (at_t _ t rfl)
  · exact skip rfl

theorem b1 (r : Fin 2000) : iblk m hO 0 1 t (ix2 r 0) = m 0 main_v0 (ix2 (Rows.row (pt m hO t) r) 0) := by
  blk_ext [iblk]
  · exact place (at_t _ t rfl)
  · rfl

theorem b2 : iblk m hO 0 2 t = m 0 main_arg2 := by
  funext y
  blk_ext [iblk] <;> first | exact skip rfl | rfl

theorem b3 : iblk m hO 0 3 t = m 0 main_arg3 := by
  funext y
  blk_ext [iblk] <;> first | exact skip rfl | rfl

theorem b4 : iblk m hO 0 4 t = m 0 main_arg4 := by
  funext y
  blk_ext [iblk] <;> first | exact skip rfl | rfl

theorem b5 : iblk m hO 0 5 t = m 0 main_arg5 := by
  funext y
  blk_ext [iblk] <;> first | exact skip rfl | rfl

theorem b6 : iblk m hO 0 6 t = m 0 main_arg6 := by
  funext y
  blk_ext [iblk] <;> first | exact skip rfl | rfl

theorem b7 : iblk m hO 0 7 t = m 0 main_arg7 := by
  funext y
  blk_ext [iblk] <;> first | exact skip rfl | rfl

/-- A word of a prefetched table. -/
theorem word (T : S50.Idx → BitVec 32) (off : Fin 1 → ℕ) (inb : ∀ a, off a + S1.size a ≤ S50.size a) (j : Fin 50) (e : off 0 = j.val) :
    tbM0_0.view.readAt (Elt Ideal) (Rect.unit (s := S50) off S1.size inb).toLoadRect T (Shape.Idx.first (numel1_S1.symm ▸ Nat.one_pos)) = T (ix1 j) := by
  refine congrArg T (funext fun a => ?_)
  match a with
  | ⟨0, _⟩ => exact Fin.ext e

theorem off1 : ∀ t : Fin grid0.N, k0_off1 (grid0.coords t) 0 = t.val := by decide +kernel

variable {ids : IVec S100000 32} (g : Given m ids) (hr : InRange ids) (hs : Sorted ids)

include g hs in
theorem marked : Steps.Marks (iblk m hO 0 1 t)
      (tbM0_0.view.readAt (Elt Ideal) (Rect.unit (s := S50) (k0_off1 (grid0.coords t)) S1.size (k0_off1_inb (grid0.coords t))).toLoadRect (tbl m 0) (Shape.Idx.first (numel1_S1.symm ▸ Nat.one_pos)))
      (tbM0_1.view.readAt (Elt Ideal) (Rect.unit (s := S50) (k0_off1 (grid0.coords t)) S1.size (k0_off1_inb (grid0.coords t))).toLoadRect (tbl m 1) (Shape.Idx.first (numel1_S1.symm ▸ Nat.one_pos)))
      (Rows.graphs ids hr (pt m hO t)) := by
  refine Rows.marks ids hr hs (pt m hO t) _ _ _ (fun r => (b1 m hO t r).trans ?_) ?_ ?_
  · rw [g.col]
    generalize Rows.row (pt m hO t) r = n
    pointwise
  · refine (word (tbl m 0) _ _ (pt m hO t) (off1 t)).trans ?_
    rw [show tbl m 0 = _ from g.lo]
    refine congrArg ids (funext fun a => ?_)
    match a with
    | ⟨0, _⟩ => exact Fin.ext (by show 0 + 2000 * t.val = 2000 * t.val + 0; omega)
  · refine (word (tbl m 1) _ _ (pt m hO t) (off1 t)).trans ?_
    rw [show tbl m 1 = _ from g.hi]
    refine congrArg ids (funext fun a => ?_)
    match a with
    | ⟨0, _⟩ => exact Fin.ext (by show 1999 + 2000 * t.val = 2000 * t.val + 1999; omega)

end blocks

variable (m : Dev nD → Valuation τ sig (Elt Ideal)) (hO : Ok m) (hH : Hyps m hO) {ids : IVec S100000 32} (g : Given m ids) (hr : InRange ids) (hs : Sorted ids)

/-- The feature of row `n`. -/
abbrev feature (n : Fin 100000) : EReal :=
  Rows.feature (m 0 main_arg0) (m 0 main_arg2) (m 0 main_arg3) (m 0 main_arg4) (m 0 main_arg5) (m 0 main_arg6) (m 0 main_arg7) n

set_option maxHeartbeats 4000000 in
/-- A point leaves the features of its rows. -/
theorem heads (t : Fin (cfgM m hO).N) (r : Fin 2000) :
    (outsAt0 m hO hH 0 t.val t.isLt).1 (ix2 r 0) = feature m (Rows.row (pt m hO t) r) := by
  have e : (outsAt0 m hO hH 0 t.val t.isLt).1 (ix2 r 0) = hOf (fun i => iblk m hO 0 0 t (ix2 r i)) (iblk m hO 0 2 t) (iblk m hO 0 3 t)
      (iblk m hO 0 4 t) (iblk m hO 0 5 t) (iblk m hO 0 6 t) (iblk m hO 0 7 t) := by
    by_cases h : t.val % 50 = 0
    · rw [outsAt0_A m hO hH 0 t h]
      dsimp only
      exact (head_A 0 (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (ms0_9 m hO t) (hs0_9 m hO t)
      (iblk m hO 0 0 t) (iblk m hO 0 1 t) (iblk m hO 0 2 t) (iblk m hO 0 3 t) (iblk m hO 0 4 t) (iblk m hO 0 5 t) (iblk m hO 0 6 t) (iblk m hO 0 7 t) (tbl m 0) (tbl m 1) (Hyps.c0 hH 0 t) ((hcond0_0 t).mpr h) r)
    · rw [outsAt0_B m hO hH 0 t h]
      dsimp only
      exact (head_B 0 (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (ms0_9 m hO t) (hs0_9 m hO t)
      (iblk m hO 0 0 t) (iblk m hO 0 1 t) (iblk m hO 0 2 t) (iblk m hO 0 3 t) (iblk m hO 0 4 t) (iblk m hO 0 5 t) (iblk m hO 0 6 t) (iblk m hO 0 7 t) (tbl m 0) (tbl m 1) (Hyps.c0 hH 0 t) (fun h' => h ((hcond0_0 t).mp h')) _ r)
  refine e.trans ?_
  rw [b2, b3, b4, b5, b6, b7]
  exact congrArg (hOf · _ _ _ _ _ _) (funext fun l => b0 m hO t r l)

/-- What the rows of point `k` add to entry `(b, j)`. -/
abbrev adds (ids : IVec S100000 32) (b : ℕ) (j : Fin 128) (k : ℕ) : EReal := Rows.point ids (fun n => m 0 main_arg0 (ix2 n j)) b k

include g hr hs

theorem first (t : Fin (cfgM m hO).N) (h : t.val % 50 = 0) (b : Fin 320) (j : Fin 128) :
    (outsAt0 m hO hH 0 t.val t.isLt).2 (ix2 b j) = adds m ids b.val j t.val := by
  rw [outsAt0_A m hO hH 0 t h]
  refine ((pool_A 0 (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (ms0_9 m hO t) (hs0_9 m hO t)
      (iblk m hO 0 0 t) (iblk m hO 0 1 t) (iblk m hO 0 2 t) (iblk m hO 0 3 t) (iblk m hO 0 4 t) (iblk m hO 0 5 t) (iblk m hO 0 6 t) (iblk m hO 0 7 t) (tbl m 0) (tbl m 1) (Hyps.c0 hH 0 t) (marked m hO t g hr hs) ((hcond0_0 t).mpr h) b j)).trans ?_
  exact Rows.add_eq ids hr (pt m hO t) _ (fun n j => m 0 main_arg0 (ix2 n j)) (fun r l => b0 m hO t r l) b j

theorem next (t : Fin (cfgM m hO).N) (h : ¬t.val % 50 = 0) (b : Fin 320) (j : Fin 128) :
    (outsAt0 m hO hH 0 t.val t.isLt).2 (ix2 b j)
      = (outsAt0 m hO hH 0 (t.val - 1) (Nat.lt_of_le_of_lt (Nat.sub_le _ _) t.isLt)).2 (ix2 b j) + adds m ids b.val j t.val := by
  rw [outsAt0_B m hO hH 0 t h]
  refine ((pool_B 0 (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (ms0_9 m hO t) (hs0_9 m hO t)
      (iblk m hO 0 0 t) (iblk m hO 0 1 t) (iblk m hO 0 2 t) (iblk m hO 0 3 t) (iblk m hO 0 4 t) (iblk m hO 0 5 t) (iblk m hO 0 6 t) (iblk m hO 0 7 t) (tbl m 0) (tbl m 1) (Hyps.c0 hH 0 t) (marked m hO t g hr hs) (fun h' => h ((hcond0_0 t).mp h')) _ b j)).trans (congrArg (_ + ·) ?_)
  exact Rows.add_eq ids hr (pt m hO t) _ (fun n j => m 0 main_arg0 (ix2 n j)) (fun r l => b0 m hO t r l) b j

/-- After point `n` the sums hold the rows of the points up to `n`. -/
theorem upto (n : ℕ) : ∀ (hn : n < (cfgM m hO).N) (b : Fin 320) (j : Fin 128),
    (outsAt0 m hO hH 0 n hn).2 (ix2 b j) = ∑ k ∈ Finset.range (n + 1), adds m ids b.val j k := by
  induction n with
  | zero => exact fun hn b j => (first m hO hH g hr hs ⟨0, hn⟩ rfl b j).trans (Finset.sum_range_one _).symm
  | succ n ih =>
    intro hn b j
    have hn' : n + 1 < 50 := hn
    refine (next m hO hH g hr hs ⟨n + 1, hn⟩ (by show ¬(n + 1) % 50 = 0; omega) b j).trans ?_
    rw [Finset.sum_range_succ _ (n + 1)]
    exact congrArg (· + _) (ih (Nat.lt_of_succ_lt hn) b j)

/-- The sums by graph. -/
def pooled (ids : IVec S100000 32) : FVec Ideal S320x128 .f32 := fun y =>
  ∑ n : Fin 100000, Rows.term ids (fun n => m 0 main_arg0 (ix2 n (y 1))) (y 0).val n

theorem end_of (n : ℕ) (hn : n < (cfgM m hO).N) (h : n = 49) : (outsAt0 m hO hH 0 n hn).2 = pooled m ids := by
  subst h
  funext y
  rw [eq_ix2 y]
  exact (upto m hO hH g hr hs 49 hn (y 0) (y 1)).trans (Rows.sum_points ids _ _)

omit g hr hs

theorem whole9 (t : Fin (cfgM m hO).N) (ht : t.val = 49) : ((cfgM m hO).win 9).WholeAt t := by
  refine ⟨(flush0_9 _ _).2 (by rw [ht]), fun u hf => ?_, fun a => ?_⟩
  · have h := (flush0_9 _ _).1 hf
    have h50 : u.val < 50 := u.isLt
    exact Fin.ext (by omega)
  · exact (Fin.forall_fin_two (p := fun a : Fin 2 => ((cfgM m hO).win 9).index t a = 0 ∧
      ((cfgM m hO).win 9).xsize ((cfgM m hO).grid.coords t) a = ((cfgM m hO).win 9).shape.size a)).2 ⟨⟨rfl, rfl⟩, ⟨rfl, rfl⟩⟩ a

include g hr hs

/-- The array of sums after the call. -/
theorem sums_of (t : Fin (cfgM m hO).N) (ht : t.val = 49) : (dats m hO hH 0 0).arrAt 9 (cfgM m hO).N = pooled m ids := by
  refine (dats m hO hH 0 0).arrAt_eq_of_after_last 9 t (whole9 m hO t ht) _ fun j => ?_
  rw [after0_9, end_of m hO hH g hr hs t.val t.isLt ht]
  generalize pooled m ids = T
  rfl

theorem sums : (dats m hO hH 0 0).arrAt 9 (cfgM m hO).N = pooled m ids :=
  sums_of m hO hH g hr hs ⟨49, by show 49 < 50; decide⟩ rfl

omit g hr hs

theorem apart (t t' : Fin (cfgM m hO).N) (e : ((cfgM m hO).win 8).index t = ((cfgM m hO).win 8).index t') : t = t' := by
  have h : ((cfgM m hO).win 8).index t (0 : Fin 2) = ((cfgM m hO).win 8).index t' (0 : Fin 2) := congrFun e (0 : Fin 2)
  exact Fin.ext (((at_t _ t rfl).symm.trans h).trans (at_t _ t' rfl))

/-- The array of features after the call. -/
theorem features (n : Fin 100000) : (dats m hO hH 0 0).arrAt 8 (cfgM m hO).N (ix2 n 0) = feature m n := by
  have ht : n.val / 2000 < 50 := by omega
  have hq : n.val % 2000 < 2000 := Nat.mod_lt _ (by decide)
  have key : ∀ (t : Fin (cfgM m hO).N) (r : Fin 2000), (dats m hO hH 0 0).arrAt 8 (cfgM m hO).N (ix2 (Rows.row (pt m hO t) r) 0)
      = (outsAt0 m hO hH 0 t.val t.isLt).1 (ix2 r 0) := fun t r => by
    have h := (dats m hO hH 0 0).arrAt_emb_eq_flushed 8 (Pipeline.Window.hdisj_of_index_inj _ fun t t' _ _ e => apart m hO t t' e) t (flush0_8 _ t)
      (ix2 r (0 : Fin 1) : S2000x1.Idx)
    have e : (((cfgM m hO).win 8).blk t).view.emb (ix2 r (0 : Fin 1) : S2000x1.Idx) = (ix2 (Rows.row (pt m hO t) r) (0 : Fin 1) : S100000x1.Idx) := by
      funext a
      apply Fin.ext
      match a with
      | ⟨0, _⟩ => exact (Pipeline.Window.rect_emb_val _ t _ _).trans (place (at_t _ t rfl))
      | ⟨1, _⟩ => exact (Pipeline.Window.rect_emb_val _ t _ _).trans (skip rfl)
    exact ((congrArg ((dats m hO hH 0 0).arrAt 8 (cfgM m hO).N) e).symm.trans h).trans (congrFun (after0_8 m hO hH 0 t) _)
  have en : Rows.row (pt m hO ⟨n.val / 2000, ht⟩) ⟨n.val % 2000, hq⟩ = n := Fin.ext (Nat.div_add_mod _ _)
  have := (key ⟨n.val / 2000, ht⟩ ⟨n.val % 2000, hq⟩).trans (heads m hO hH _ _)
  rwa [en] at this

end Cert.One
-- ==== Proof.BodyTwo.lean ====
/- The second body at one grid point: to each graph it adds the products of the graph's rows. -/
module

public import proofs.«01_k».proof.Proof.BodyOne
public import proofs.«01_k».proof.Proof.TwoBody

@[expose] public section

set_option maxRecDepth 16384

noncomputable section

namespace Cert.Two

open Idealize.ShloMosaic Cert.KernelIdeal Cert.KernelIdeal.Gen Cert.Pay Cert.Words Cert.Steps Cert.LoopValues
open Cert.One (rd_all)

theorem ids_all (a : IVec S2000x1 32) : k1_pay9 (F := Ideal) a = a := by
  refine funext fun y => ?_
  obtain ⟨r, rfl⟩ : ∃ r, y = ix2 r 0 := ⟨y 0, (eq_ix2 y).trans (congrArg (ix2 (y 0)) (Subsingleton.elim (α := Fin 1) _ _))⟩
  exact ids_two a r

/-- The table of the pooled sums' products. -/
def table (p : FVec Ideal S320x128 .f32) (W : FVec Ideal S128x128 .f32) (d : FVec Ideal S128 .f32) : FVec Ideal S320x128 .f32 :=
  fun y => ∑ i : Fin 128, p (ix2 (y 0) i) * W (ix2 i (y 1)) + d (ix1 (y 1))

/-- The product of one row. -/
def prod (G : Fin 2000 → Fin 256) (x : FVec Ideal S2000x128 .f32) (h : FVec Ideal S2000x1 .f32) (U : FVec Ideal S128x128 .f32)
    (P : FVec Ideal S320x128 .f32) (W : FVec Ideal S128x10 .f32) (d : FVec Ideal S10 .f32) (r : Fin 2000) (cl : Fin 10) : EReal :=
  h (ix2 r 0) * thOf (fun j => ∑ i : Fin 128, x (ix2 r i) * U (ix2 i j) + P (ix2 ⟨(G r).val, by omega⟩ j)) W d cl

theorem add_eq {G : Fin 2000 → Fin 256} {x : FVec Ideal S2000x128 .f32} {h : FVec Ideal S2000x1 .f32} {U : FVec Ideal S128x128 .f32}
    {P : FVec Ideal S320x128 .f32} {W : FVec Ideal S128x10 .f32} {d : FVec Ideal S10 .f32} {g : FVec Ideal S2000x128 .f32}
    (hg : ∀ r j, g (ix2 r j) = P (ix2 ⟨(G r).val, by omega⟩ j)) (b : Fin 320) (cl : Fin 10) :
    add G (fun r cl => k1_pay3 (F := Ideal) (k1_pay8 x U) g W d h (ix2 r cl)) b cl = add G (prod G x h U P W d) b cl := by
  refine Finset.sum_congr rfl fun r _ => ?_
  dsimp only
  rw [contrib_apply, prod]
  simp only [hg, u_apply]

variable (c : Dev nD) (i : grid1.Coords)
  (arg3 : Memref sig .tc .vmem S2000x128 .f32) (harg3 : arg3.IsWhole)
  (arg4 : Memref sig .tc .vmem S2000x1 .i32) (harg4 : arg4.IsWhole)
  (arg5 : Memref sig .tc .vmem S2000x1 .f32) (harg5 : arg5.IsWhole)
  (arg6 : Memref sig .tc .vmem S320x128 .f32) (harg6 : arg6.IsWhole)
  (arg7 : Memref sig .tc .vmem S128x128 .f32) (harg7 : arg7.IsWhole)
  (arg8 : Memref sig .tc .vmem S128x128 .f32) (harg8 : arg8.IsWhole)
  (arg9 : Memref sig .tc .vmem S128 .f32) (harg9 : arg9.IsWhole)
  (arg10 : Memref sig .tc .vmem S128x10 .f32) (harg10 : arg10.IsWhole)
  (arg11 : Memref sig .tc .vmem S10 .f32) (harg11 : arg11.IsWhole)
  (arg12 : Memref sig .tc .vmem S320x10 .f32) (harg12 : arg12.IsWhole)
  (arg13 : Memref sig .tc .vmem S320x128 .f32) (harg13 : arg13.IsWhole)
  (x0 : Vec Ideal S2000x128 .f32) (x1 : Vec Ideal S2000x1 .i32) (x2 : Vec Ideal S2000x1 .f32) (x3 : Vec Ideal S320x128 .f32) (x4 : Vec Ideal S128x128 .f32) (x5 : Vec Ideal S128x128 .f32) (x6 : Vec Ideal S128 .f32) (x7 : Vec Ideal S128x10 .f32) (x8 : Vec Ideal S10 .f32) (xt0 : TbBuf0 (F := Ideal) c tbM0_0) (xt1 : TbBuf0 (F := Ideal) c tbM0_1)
  (k1_hw1 : k1_chk1 (tbM0_0.view.readAt (Elt Ideal) (Rect.unit (s := S50) (k1_off1 i) S1.size (k1_off1_inb i)).toLoadRect xt0 (Shape.Idx.first (numel1_S1.symm ▸ Nat.one_pos))) (tbM0_1.view.readAt (Elt Ideal) (Rect.unit (s := S50) (k1_off1 i) S1.size (k1_off1_inb i)).toLoadRect xt1 (Shape.Idx.first (numel1_S1.symm ▸ Nat.one_pos))))
  {G : Fin 2000 → Fin 256}
  (m1 : Marks x1 (tbM0_0.view.readAt (Elt Ideal) (Rect.unit (s := S50) (k1_off1 i) S1.size (k1_off1_inb i)).toLoadRect xt0 (Shape.Idx.first (numel1_S1.symm ▸ Nat.one_pos)))
    (tbM0_1.view.readAt (Elt Ideal) (Rect.unit (s := S50) (k1_off1 i) S1.size (k1_off1_inb i)).toLoadRect xt1 (Shape.Idx.first (numel1_S1.symm ▸ Nat.one_pos))) G)

/-- The table is stored at the first point. -/
theorem table_stored (v : View sig .tc .vmem S320x128 .f32) (f : BufTy.Contents (Elt Ideal) v.ty) :
    v.read (Elt Ideal) (v.writes (Elt Ideal) f
      (kernelRun0_A.sl.HS0_1 (F := Ideal) c arg6 harg6 arg8 harg8 arg9 harg9 x3 x5 x6)) = table x3 x5 x6 := by
  have e3 := rd_all harg6 x3 ![0, 0] inb_S320x128_S320x128_0_0 (by decide)
  have e5 := rd_all harg8 x5 ![0, 0] inb_S128x128_S128x128_0_0 (by decide)
  have e6 := rd_all harg9 x6 ![0] inb_S128_S128_0 (by decide)
  dsimp only [kernelRun0_A.sl.HS0_1]
  refine (View.read_writes_full ..).trans (funext fun y => ?_)
  obtain ⟨b, j, rfl⟩ : ∃ b j, y = ix2 b j := ⟨y 0, y 1, eq_ix2 y⟩
  rw [p2_apply]
  simp only [e3, e5, e6]
  rfl

theorem table_A (hc0 : cond0_0 i) :
    sout0_A_0 (F := Ideal) c i arg3 harg3 arg4 harg4 arg5 harg5 arg6 harg6 arg7 harg7 arg8 harg8 arg9 harg9 arg10 harg10 arg11 harg11 arg12 harg12 arg13 harg13 hc0 x0 x1 x2 x3 x4 x5 x6 x7 x8 xt0 xt1 k1_hw1 = table x3 x5 x6 :=
  table_stored ..

include m1 in
theorem sum_B (hc0 : ¬cond0_0 i) (xo9 : Vec Ideal S320x10 .f32) (xs0 : Vec Ideal S320x128 .f32) (b : Fin 320) (cl : Fin 10) :
    out0_B_9 (F := Ideal) c i arg3 harg3 arg4 harg4 arg5 harg5 arg6 harg6 arg7 harg7 arg8 harg8 arg9 harg9 arg10 harg10 arg11 harg11 arg12 harg12 arg13 harg13 hc0 x0 x1 x2 x3 x4 x5 x6 x7 x8 xt0 xt1 xo9 xs0 k1_hw1 (ix2 b cl)
      = xo9 (ix2 b cl) + add G (prod G x0 x2 x4 xs0 x7 x8) b cl := by
  unfold out0_B_9 kernelRun0_B
  dsimp only
  dsimp only [kernelRun0_B.sl.r, kernelRun0_B.sl.r_1, kernelRun0_B.sl.r_2, kernelRun0_B.sl.r_3, kernelRun0_B.sl.v0, kernelRun0_B.sl.v1, kernelRun0_B.sl.v2, kernelRun0_B.sl.v13, kernelRun0_B.sl.v14, kernelRun0_B.sl.v15, kernelRun0_B.sl.v16, kernelRun0_B.sl.v17, kernelRun0_B.sl.v18, kernelRun0_B.sl.v19, kernelRun0_B.sl.v25, kernelRun0_B.sl.v26, kernelRun0_B.sl.v27, kernelRun0_B.sl.v28, kernelRun0_B.sl.v29, kernelRun0_B.sl.v30, kernelRun0_B.sl.v31, kernelRun0_B.sl.v33, kernelRun0_B.sl.v35, kernelRun0_B.sl.v36]
  have e0 := rd_all harg3 x0 ![0, 0] inb_S2000x128_S2000x128_0_0 (by decide)
  have e1 := rd_all harg4 x1 ![0, 0] inb_S2000x1_S2000x1_0_0 (by decide)
  have e2 := rd_all harg5 x2 ![0, 0] inb_S2000x1_S2000x1_0_0 (by decide)
  have e4 := rd_all harg7 x4 ![0, 0] inb_S128x128_S128x128_0_0 (by decide)
  have e7 := rd_all harg10 x7 ![0, 0] inb_S128x10_S128x10_0_0 (by decide)
  have e8 := rd_all harg11 x8 ![0] inb_S10_S10_0 (by decide)
  simp only [e0, e1, e2, e4, e7, e8, ids_all]
  erw [scatter_rest (hlo := m1.hlo) (hhi := m1.hhi), List.nil_append, gather_rest (hlo := m1.hlo) (hhi := m1.hhi)]
  refine (scatter (m := m1) ..).trans (congrArg₂ (· + ·) (congrFun (harg12.read_unread xo9) _) (add_eq (fun r j => ?_) b cl))
  refine (gather (m := m1) ..).trans ?_
  rw [zero_row, zero_add]
  exact congrFun (harg13.read_unread xs0) _

include m1 in
theorem sum_A (hc0 : cond0_0 i) (b : Fin 320) (cl : Fin 10) :
    out0_A_9 (F := Ideal) c i arg3 harg3 arg4 harg4 arg5 harg5 arg6 harg6 arg7 harg7 arg8 harg8 arg9 harg9 arg10 harg10 arg11 harg11 arg12 harg12 arg13 harg13 hc0 x0 x1 x2 x3 x4 x5 x6 x7 x8 xt0 xt1 k1_hw1 (ix2 b cl)
      = add G (prod G x0 x2 x4 (table x3 x5 x6) x7 x8) b cl := by
  unfold out0_A_9
  rw [View.read_writes_of_cover VO0_9 VO0_9.junk arg12.view arg12.view.junk _ (cover0_A_9 c i arg3 harg3 arg4 harg4 arg5 harg5 arg6 harg6 arg7 harg7 arg8 harg8 arg9 harg9 arg10 harg10 arg11 harg11 arg12 harg12 arg13 harg13 hc0 x0 x1 x2 x3 x4 x5 x6 x7 x8 xt0 xt1 k1_hw1)]
  unfold kernelRun0_A
  dsimp only
  dsimp only [kernelRun0_A.sl.r, kernelRun0_A.sl.r_1, kernelRun0_A.sl.r_2, kernelRun0_A.sl.r_3, kernelRun0_A.sl.v0, kernelRun0_A.sl.v1, kernelRun0_A.sl.v2, kernelRun0_A.sl.v13, kernelRun0_A.sl.v14, kernelRun0_A.sl.v15, kernelRun0_A.sl.v16, kernelRun0_A.sl.v17, kernelRun0_A.sl.v18, kernelRun0_A.sl.v19, kernelRun0_A.sl.v25, kernelRun0_A.sl.v26, kernelRun0_A.sl.v27, kernelRun0_A.sl.v28, kernelRun0_A.sl.v29, kernelRun0_A.sl.v30, kernelRun0_A.sl.v31, kernelRun0_A.sl.v33, kernelRun0_A.sl.v35, kernelRun0_A.sl.v36, kernelRun0_A.sl.H9_1]
  have e0 := rd_all harg3 x0 ![0, 0] inb_S2000x128_S2000x128_0_0 (by decide)
  have e1 := rd_all harg4 x1 ![0, 0] inb_S2000x1_S2000x1_0_0 (by decide)
  have e2 := rd_all harg5 x2 ![0, 0] inb_S2000x1_S2000x1_0_0 (by decide)
  have e4 := rd_all harg7 x4 ![0, 0] inb_S128x128_S128x128_0_0 (by decide)
  have e7 := rd_all harg10 x7 ![0, 0] inb_S128x10_S128x10_0_0 (by decide)
  have e8 := rd_all harg11 x8 ![0] inb_S10_S10_0 (by decide)
  simp only [e0, e1, e2, e4, e7, e8, ids_all]
  erw [scatter_rest (hlo := m1.hlo) (hhi := m1.hhi), List.nil_append, gather_rest (hlo := m1.hlo) (hhi := m1.hhi)]
  rw [View.writes_append]
  refine (scatter (m := m1) ..).trans ?_
  rw [View.read_writes_full, zero_out, zero_add]
  refine add_eq (fun r j => ?_) b cl
  refine (gather (m := m1) ..).trans ?_
  rw [zero_row, zero_add]
  exact congrFun (table_stored ..) _

end Cert.Two
-- ==== Proof.PointsTwo.lean ====
/- The second call's grid points: the table of the graphs, and the sums of the rows' products by graph. -/
module

public import proofs.«01_k».proof.Proof.Rows
public import proofs.«01_k».proof.Proof.BodyTwo
public import Idealize.ShloMosaic.Lib.Pipeline.ValueKit

@[expose] public section

set_option maxRecDepth 16384

noncomputable section

namespace Cert.Two

open Idealize.ShloMosaic Idealize.ShloMosaic.TcCoe Cert.KernelIdeal.Gen Cert.Pay Cert.Words Cert.Tables
open Cert.KernelIdeal hiding ix1

section blocks

variable (m : Dev nD → Valuation τ sig (Elt Ideal)) (hO : Ok m) (t : Fin (cfgM m hO).N)

/-- A grid point's number. -/
abbrev pt (t : Fin (cfgM m hO).N) : Fin 50 := ⟨t.val, t.isLt⟩

theorem idx (t : Fin grid1.N) : (grid1.coords t 0).val = t.val := by
  have : ∀ t : Fin grid1.N, (grid1.coords t 0).val = t.val := by decide +kernel
  exact this t

/-- The block of a window over the rows at point `t` is the `t`-th. -/
theorem at_t (n : ℕ) (t : Fin grid1.N) (e : n = (BitVec.ofNat 32 (grid1.coords t 0).val).toNat) : n = t.val := by
  have h : t.val < 50 := t.isLt
  rw [e, idx t, BitVec.toNat_ofNat]; omega

theorem skip {n c y : ℕ} (h : n = 0) : n * c + y = y := by rw [h]; omega

theorem place {n k c y : ℕ} (h : n = k) : n * c + y = c * k + y := by rw [h, Nat.mul_comm]

theorem b0 (r : Fin 2000) (l : Fin 128) : iblk m hO 0 0 t (ix2 r l) = m 0 main_arg0 (ix2 (Rows.row (pt m hO t) r) l) := by
  blk_ext [iblk]
  · exact place (at_t _ t rfl)
  · exact skip rfl

theorem b1 (r : Fin 2000) : iblk m hO 0 1 t (ix2 r 0) = m 0 main_v0 (ix2 (Rows.row (pt m hO t) r) 0) := by
  blk_ext [iblk]
  · exact place (at_t _ t rfl)
  · rfl

theorem b2 (r : Fin 2000) : iblk m hO 0 2 t (ix2 r 0) = m 0 main_v3_0 (ix2 (Rows.row (pt m hO t) r) 0) := by
  blk_ext [iblk]
  · exact place (at_t _ t rfl)
  · rfl

theorem b3 : iblk m hO 0 3 t = m 0 main_v3_1 := by
  funext y
  blk_ext [iblk] <;> first | exact skip rfl | rfl

theorem b4 : iblk m hO 0 4 t = m 0 main_v4 := by
  funext y
  blk_ext [iblk] <;> first | exact skip rfl | rfl

theorem b5 : iblk m hO 0 5 t = m 0 main_v5 := by
  funext y
  blk_ext [iblk] <;> first | exact skip rfl | rfl

theorem b6 : iblk m hO 0 6 t = m 0 main_arg9 := by
  funext y
  blk_ext [iblk] <;> first | exact skip rfl | rfl

theorem b7 : iblk m hO 0 7 t = m 0 main_arg10 := by
  funext y
  blk_ext [iblk] <;> first | exact skip rfl | rfl

theorem b8 : iblk m hO 0 8 t = m 0 main_arg11 := by
  funext y
  blk_ext [iblk] <;> first | exact skip rfl | rfl

/-- A word of a prefetched table. -/
theorem word (T : S50.Idx → BitVec 32) (off : Fin 1 → ℕ) (inb : ∀ a, off a + S1.size a ≤ S50.size a) (j : Fin 50) (e : off 0 = j.val) :
    tbM0_0.view.readAt (Elt Ideal) (Rect.unit (s := S50) off S1.size inb).toLoadRect T (Shape.Idx.first (numel1_S1.symm ▸ Nat.one_pos)) = T (ix1 j) := by
  refine congrArg T (funext fun a => ?_)
  match a with
  | ⟨0, _⟩ => exact Fin.ext e

theorem off1 : ∀ t : Fin grid1.N, k1_off1 (grid1.coords t) 0 = t.val := by decide +kernel

variable {ids : IVec S100000 32} (g : Given m ids) (hr : InRange ids) (hs : Sorted ids)

include g hs in
theorem marked : Steps.Marks (iblk m hO 0 1 t)
      (tbM0_0.view.readAt (Elt Ideal) (Rect.unit (s := S50) (k1_off1 (grid1.coords t)) S1.size (k1_off1_inb (grid1.coords t))).toLoadRect (tbl m 0) (Shape.Idx.first (numel1_S1.symm ▸ Nat.one_pos)))
      (tbM0_1.view.readAt (Elt Ideal) (Rect.unit (s := S50) (k1_off1 (grid1.coords t)) S1.size (k1_off1_inb (grid1.coords t))).toLoadRect (tbl m 1) (Shape.Idx.first (numel1_S1.symm ▸ Nat.one_pos)))
      (Rows.graphs ids hr (pt m hO t)) := by
  refine Rows.marks ids hr hs (pt m hO t) _ _ _ (fun r => (b1 m hO t r).trans ?_) ?_ ?_
  · rw [g.col]
    generalize Rows.row (pt m hO t) r = n
    pointwise
  · refine (word (tbl m 0) _ _ (pt m hO t) (off1 t)).trans ?_
    rw [show tbl m 0 = _ from g.lo]
    refine congrArg ids (funext fun a => ?_)
    match a with
    | ⟨0, _⟩ => exact Fin.ext (by show 0 + 2000 * t.val = 2000 * t.val + 0; omega)
  · refine (word (tbl m 1) _ _ (pt m hO t) (off1 t)).trans ?_
    rw [show tbl m 1 = _ from g.hi]
    refine congrArg ids (funext fun a => ?_)
    match a with
    | ⟨0, _⟩ => exact Fin.ext (by show 1999 + 2000 * t.val = 2000 * t.val + 1999; omega)

end blocks

variable (m : Dev nD → Valuation τ sig (Elt Ideal)) (hO : Ok m) (hH : Hyps m hO) {ids : IVec S100000 32} (g : Given m ids) (hr : InRange ids) (hs : Sorted ids)

/-- The table of the graphs. -/
abbrev tab : FVec Ideal S320x128 .f32 := table (m 0 main_v3_1) (m 0 main_v5) (m 0 main_arg9)

/-- The product of row `n`. -/
abbrev prods (n : Fin 100000) (cl : Fin 10) : EReal :=
  Rows.prod ids hr (m 0 main_arg0) (fun n => m 0 main_v3_0 (ix2 n 0)) (m 0 main_v4) (tab m) (m 0 main_arg10) (m 0 main_arg11) n cl

/-- What the rows of point `k` add to entry `(b, cl)`. -/
abbrev adds (b : ℕ) (cl : Fin 10) (k : ℕ) : EReal := Rows.point ids (fun n => prods m hr n cl) b k

theorem adds_eq (t : Fin (cfgM m hO).N) (b : Fin 320) (cl : Fin 10) :
    Steps.add (Rows.graphs ids hr (pt m hO t)) (prod (Rows.graphs ids hr (pt m hO t)) (iblk m hO 0 0 t) (iblk m hO 0 2 t) (m 0 main_v4) (tab m)
      (m 0 main_arg10) (m 0 main_arg11)) b cl = adds m hr b.val cl t.val := by
  refine Rows.add_eq ids hr (pt m hO t) _ (prods m hr) (fun r cl => ?_) b cl
  unfold prod prods Rows.prod
  refine congrArg₂ (· * ·) (b2 m hO t r) (congrArg (thOf · _ _ _) (funext fun j => ?_))
  refine congrArg₂ (· + ·) (Finset.sum_congr rfl fun i _ => ?_) rfl
  exact congrArg (· * _) (b0 m hO t r i)

include g hs

theorem first (t : Fin (cfgM m hO).N) (h : t.val % 50 = 0) :
    (outsAt0 m hO hH 0 t.val t.isLt).2 = tab m ∧ ∀ b cl, (outsAt0 m hO hH 0 t.val t.isLt).1 (ix2 b cl) = adds m hr b.val cl t.val := by
  rw [outsAt0_A m hO hH 0 t h]
  refine ⟨?_, fun b cl => ?_⟩
  · refine (table_A 0 (grid1.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (ms0_9 m hO t) (hs0_9 m hO t) scM0_0 (Memref.isWhole_whole _)
      (iblk m hO 0 0 t) (iblk m hO 0 1 t) (iblk m hO 0 2 t) (iblk m hO 0 3 t) (iblk m hO 0 4 t) (iblk m hO 0 5 t) (iblk m hO 0 6 t) (iblk m hO 0 7 t) (iblk m hO 0 8 t) (tbl m 0) (tbl m 1) (Hyps.c0 hH 0 t) ((hcond0_0 t).mpr h)).trans ?_
    rw [b3, b5, b6]
  · refine ((sum_A 0 (grid1.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (ms0_9 m hO t) (hs0_9 m hO t) scM0_0 (Memref.isWhole_whole _)
      (iblk m hO 0 0 t) (iblk m hO 0 1 t) (iblk m hO 0 2 t) (iblk m hO 0 3 t) (iblk m hO 0 4 t) (iblk m hO 0 5 t) (iblk m hO 0 6 t) (iblk m hO 0 7 t) (iblk m hO 0 8 t) (tbl m 0) (tbl m 1) (Hyps.c0 hH 0 t) (marked m hO t g hr hs) ((hcond0_0 t).mpr h) b cl)).trans ?_
    rw [b3, b4, b5, b6, b7, b8]
    exact adds_eq m hO hr t b cl

theorem next (t : Fin (cfgM m hO).N) (h : ¬t.val % 50 = 0) (hp : (outsAt0 m hO hH 0 (t.val - 1) (Nat.lt_of_le_of_lt (Nat.sub_le _ _) t.isLt)).2 = tab m) :
    (outsAt0 m hO hH 0 t.val t.isLt).2 = (outsAt0 m hO hH 0 (t.val - 1) (Nat.lt_of_le_of_lt (Nat.sub_le _ _) t.isLt)).2 ∧
    ∀ b cl, (outsAt0 m hO hH 0 t.val t.isLt).1 (ix2 b cl) = (outsAt0 m hO hH 0 (t.val - 1) (Nat.lt_of_le_of_lt (Nat.sub_le _ _) t.isLt)).1 (ix2 b cl) + adds m hr b.val cl t.val := by
  rw [outsAt0_B m hO hH 0 t h]
  refine ⟨rfl, fun b cl => ?_⟩
  refine ((sum_B 0 (grid1.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (ms0_9 m hO t) (hs0_9 m hO t) scM0_0 (Memref.isWhole_whole _)
      (iblk m hO 0 0 t) (iblk m hO 0 1 t) (iblk m hO 0 2 t) (iblk m hO 0 3 t) (iblk m hO 0 4 t) (iblk m hO 0 5 t) (iblk m hO 0 6 t) (iblk m hO 0 7 t) (iblk m hO 0 8 t) (tbl m 0) (tbl m 1) (Hyps.c0 hH 0 t) (marked m hO t g hr hs) (fun h' => h ((hcond0_0 t).mp h')) _ _ b cl)).trans (congrArg (_ + ·) ?_)
  rw [b4, b7, b8, hp]
  exact adds_eq m hO hr t b cl

/-- After point `n` the scratch holds the table, and the sums hold the rows of the points up to `n`. -/
theorem upto (n : ℕ) : ∀ hn : n < (cfgM m hO).N, (outsAt0 m hO hH 0 n hn).2 = tab m ∧
    ∀ (b : Fin 320) (cl : Fin 10), (outsAt0 m hO hH 0 n hn).1 (ix2 b cl) = ∑ k ∈ Finset.range (n + 1), adds m hr b.val cl k := by
  induction n with
  | zero =>
    intro hn
    obtain ⟨e1, e2⟩ := first m hO hH g hr hs ⟨0, hn⟩ rfl
    exact ⟨e1, fun b cl => (e2 b cl).trans (Finset.sum_range_one _).symm⟩
  | succ n ih =>
    intro hn
    have hn' : n + 1 < 50 := hn
    obtain ⟨i1, i2⟩ := ih (Nat.lt_of_succ_lt hn)
    obtain ⟨e1, e2⟩ := next m hO hH g hr hs ⟨n + 1, hn⟩ (by show ¬(n + 1) % 50 = 0; omega) i1
    refine ⟨e1.trans i1, fun b cl => (e2 b cl).trans ?_⟩
    rw [Finset.sum_range_succ _ (n + 1)]
    exact congrArg (· + _) (i2 b cl)

/-- The sums of the products by graph. -/
def total : FVec Ideal S320x10 .f32 := fun y => ∑ n : Fin 100000, Rows.term ids (fun n => prods m hr n (y 1)) (y 0).val n

theorem end_of (n : ℕ) (hn : n < (cfgM m hO).N) (h : n = 49) : (outsAt0 m hO hH 0 n hn).1 = total m hr := by
  subst h
  funext y
  rw [eq_ix2 y]
  exact ((upto m hO hH g hr hs 49 hn).2 (y 0) (y 1)).trans (Rows.sum_points ids _ _)

omit g hs

theorem whole9 (t : Fin (cfgM m hO).N) (ht : t.val = 49) : ((cfgM m hO).win 9).WholeAt t := by
  refine ⟨(flush0_9 _ _).2 (by rw [ht]), fun u hf => ?_, fun a => ?_⟩
  · have h := (flush0_9 _ _).1 hf
    have h50 : u.val < 50 := u.isLt
    exact Fin.ext (by omega)
  · exact (Fin.forall_fin_two (p := fun a : Fin 2 => ((cfgM m hO).win 9).index t a = 0 ∧
      ((cfgM m hO).win 9).xsize ((cfgM m hO).grid.coords t) a = ((cfgM m hO).win 9).shape.size a)).2 ⟨⟨rfl, rfl⟩, ⟨rfl, rfl⟩⟩ a

include g hs

/-- The array of sums after the call. -/
theorem sums_of (t : Fin (cfgM m hO).N) (ht : t.val = 49) : (dats m hO hH 0 0).arrAt 9 (cfgM m hO).N = total m hr := by
  refine (dats m hO hH 0 0).arrAt_eq_of_after_last 9 t (whole9 m hO t ht) _ fun j => ?_
  rw [after0_9, end_of m hO hH g hr hs t.val t.isLt ht]
  generalize total m hr = T
  rfl

theorem sums : (dats m hO hH 0 0).arrAt 9 (cfgM m hO).N = total m hr :=
  sums_of m hO hH g hr hs ⟨49, by show 49 < 50; decide⟩ rfl

end Cert.Two
-- ==== Proof.KernelValue.lean ====
/- The kernel's result: the two calls linked by what stands between them. -/
module

public import proofs.«01_k».proof.Proof.PointsOne
public import proofs.«01_k».proof.Proof.PointsTwo

@[expose] public section

set_option maxRecDepth 16384

noncomputable section

namespace Cert.KernelValue

open Idealize.ShloMosaic Idealize.ShloMosaic.TcCoe Cert.KernelIdeal.Gen Cert.Pay Cert.Tables Cert.Whole
open Cert.KernelIdeal hiding ix1

variable (m : (ℓ : Loc nD τ sig) → Buf (Elt Ideal) ℓ)

/-- An argument of the memory. -/
abbrev arg (r : Ref sig .tc) : (Proc.devRef .tc r : DevRef τ sig).ty.Contents (Elt Ideal) := m (((0 : Dev nD) : Thread nD τ).loc r)

/-- The features of the rows. -/
abbrev feature (n : Fin 100000) : EReal :=
  Rows.feature (arg m main_arg0) (arg m main_arg2) (arg m main_arg3) (arg m main_arg4) (arg m main_arg5) (arg m main_arg6) (arg m main_arg7) n

/-- The rows summed by graph. -/
abbrev pooled : FVec Ideal S320x128 .f32 := fun y =>
  ∑ n : Fin 100000, Rows.term (idsOf m) (fun n => (arg m main_arg0 : FVec Ideal S100000x128 .f32) (ix2 n (y 1))) (y 0).val n

/-- The two halves of the second layer's weights. -/
abbrev upper : FVec Ideal S128x128 .f32 := extractStridedSlice S128x128 ![0, 0] (arg m main_arg8) slices_S256x128_S128x128_0_0
abbrev lower : FVec Ideal S128x128 .f32 := extractStridedSlice S128x128 ![128, 0] (arg m main_arg8) slices_S256x128_S128x128_128_0

/-- The table of the graphs. -/
abbrev tab : FVec Ideal S320x128 .f32 := Two.table (pooled m) (lower m) (arg m main_arg9)

/-- The result: what the rows add to each graph's entries. -/
def total (hr : InRange (idsOf m)) : FVec Ideal S256x10 .f32 := fun y =>
  ∑ n : Fin 100000, Rows.term (idsOf m) (fun n => Rows.prod (idsOf m) hr (arg m main_arg0) (feature m) (upper m) (tab m) (arg m main_arg10) (arg m main_arg11) n (y 1)) (y 0).val n

theorem upper_at (i : Fin 128) (j : Fin 128) : upper m (ix2 i j) = (arg m main_arg8 : FVec Ideal S256x128 .f32) (ix2 ⟨i.val, by omega⟩ j) := by
  pointwise

theorem lower_at (i : Fin 128) (j : Fin 128) : lower m (ix2 i j) = (arg m main_arg8 : FVec Ideal S256x128 .f32) (ix2 ⟨128 + i.val, by omega⟩ j) := by
  pointwise

section calls

variable (hO₁ : One.Ok (atOne m)) (hH₁ : One.Hyps (atOne m) hO₁) (hr : InRange (idsOf m)) (hs : Sorted (idsOf m))

/-- The first call finds the arguments as they were. -/
theorem found_one (r : Ref sig .tc) (h : r ∉ hostOps0_W) : atOne m 0 r = arg m r := V1_of m 0 r h

/-- The second call finds what the first did not write as it was. -/
theorem found_two (r : Ref sig .tc) (h : r ∉ hostOps0_W) (h2 : r ∉ ([main_v3_0, main_v3_1] : List (Ref sig .tc))) (h3 : r ∉ hostOps1_W) :
    atTwo m hO₁ hH₁ 0 r = arg m r :=
  ((V3_of m _ 0 r h3).trans (V2_of m _ 0 r h2)).trans (V1_of m 0 r h)

theorem found_upper : atTwo m hO₁ hH₁ 0 main_v4 = upper m := by
  have e : V2 m (outsOne m hO₁ hH₁) 0 main_arg8 = arg m main_arg8 := (V2_of m _ 0 main_arg8 (by decide)).trans (V1_of m 0 main_arg8 (by decide))
  unfold upper
  rw [← e]
  show StableHlo.after hostOps1 (V2 m (outsOne m hO₁ hH₁) 0) main_v4 = _
  generalize V2 m (outsOne m hO₁ hH₁) 0 = V
  after_results <;> rfl

theorem found_lower : atTwo m hO₁ hH₁ 0 main_v5 = lower m := by
  have e : V2 m (outsOne m hO₁ hH₁) 0 main_arg8 = arg m main_arg8 := (V2_of m _ 0 main_arg8 (by decide)).trans (V1_of m 0 main_arg8 (by decide))
  unfold lower
  rw [← e]
  show StableHlo.after hostOps1 (V2 m (outsOne m hO₁ hH₁) 0) main_v5 = _
  generalize V2 m (outsOne m hO₁ hH₁) 0 = V
  after_results <;> rfl

theorem found_features (n : Fin 100000) : (atTwo m hO₁ hH₁ 0 main_v3_0 : FVec Ideal S100000x1 .f32) (ix2 n 0) = feature m n := by
  have e : atTwo m hO₁ hH₁ 0 main_v3_0 = (One.dats (atOne m) hO₁ hH₁ 0 0).arrAt 8 (One.cfgM (atOne m) hO₁).N := by
    refine (V3_of m _ 0 main_v3_0 (by decide)).trans ?_
    refine (Function.update_of_ne (by decide) _ _).trans ((Function.update_self _ _ _).trans ?_)
    exact Pipeline.afterRegion_arr (One.dats (atOne m) hO₁ hH₁ 0 0) (atOne m 0) (launch0 (F := Ideal)).win.arr_inj 8
  rw [e]
  refine (One.features (atOne m) hO₁ hH₁ n).trans ?_
  unfold One.feature
  rw [found_one m main_arg0 (by decide), found_one m main_arg2 (by decide), found_one m main_arg3 (by decide), found_one m main_arg4 (by decide),
    found_one m main_arg5 (by decide), found_one m main_arg6 (by decide), found_one m main_arg7 (by decide)]

include hr hs

theorem found_pooled : atTwo m hO₁ hH₁ 0 main_v3_1 = pooled m := by
  have e : atTwo m hO₁ hH₁ 0 main_v3_1 = (One.dats (atOne m) hO₁ hH₁ 0 0).arrAt 9 (One.cfgM (atOne m) hO₁).N := by
    refine (V3_of m _ 0 main_v3_1 (by decide)).trans ((Function.update_self _ _ _).trans ?_)
    exact Pipeline.afterRegion_arr (One.dats (atOne m) hO₁ hH₁ 0 0) (atOne m 0) (launch0 (F := Ideal)).win.arr_inj 9
  rw [e, One.sums (atOne m) hO₁ hH₁ (given_one m) hr hs]
  unfold One.pooled
  rw [found_one m main_arg0 (by decide)]

variable (hO₂ : Two.Ok (atTwo m hO₁ hH₁)) (hH₂ : Two.Hyps (atTwo m hO₁ hH₁) hO₂)

/-- What the second call leaves, read at an entry. -/
theorem second (b : Fin 320) (cl : Fin 10) : Two.total (atTwo m hO₁ hH₁) hr (ix2 b cl)
    = ∑ n : Fin 100000, Rows.term (idsOf m) (fun n => Rows.prod (idsOf m) hr (arg m main_arg0) (feature m) (upper m) (tab m) (arg m main_arg10) (arg m main_arg11) n cl) b.val n := by
  have h : (fun n => (atTwo m hO₁ hH₁ 0 main_v3_0 : FVec Ideal S100000x1 .f32) (ix2 n 0)) = feature m := funext fun n => found_features m hO₁ hH₁ n
  unfold Two.total Two.prods Two.tab
  rw [h, found_pooled m hO₁ hH₁ hr hs, found_upper, found_lower, found_two m hO₁ hH₁ main_arg0 (by decide) (by decide) (by decide),
    found_two m hO₁ hH₁ main_arg9 (by decide) (by decide) (by decide), found_two m hO₁ hH₁ main_arg10 (by decide) (by decide) (by decide),
    found_two m hO₁ hH₁ main_arg11 (by decide) (by decide) (by decide)]
  rfl

/-- The result of the whole kernel. -/
theorem result : V5 m (outs m hO₁ hH₁ hO₂ hH₂) 0 main_v7 = total m hr := by
  have e : V4 m (outs m hO₁ hH₁ hO₂ hH₂) 0 main_v6 = Two.total (atTwo m hO₁ hH₁) hr := by
    refine (Function.update_self _ _ _).trans ?_
    refine Eq.trans ?_ (Two.sums (atTwo m hO₁ hH₁) hO₂ hH₂ (given_two m hO₁ hH₁) hr hs)
    exact Pipeline.afterRegion_arr (Two.dats (atTwo m hO₁ hH₁) hO₂ hH₂ 0 0) (atTwo m hO₁ hH₁ 0) (launch1 (F := Ideal)).win.arr_inj 9
  have e7 : V5 m (outs m hO₁ hH₁ hO₂ hH₂) 0 main_v7 = extractStridedSlice S256x10 ![0, 0] (V4 m (outs m hO₁ hH₁ hO₂ hH₂) 0 main_v6 : FVec Ideal S320x10 .f32) slices_S320x10_S256x10_0_0 := by
    show StableHlo.after hostOps2 (V4 m (outs m hO₁ hH₁ hO₂ hH₂) 0) main_v7 = _
    generalize V4 m (outs m hO₁ hH₁ hO₂ hH₂) 0 = V
    after_results <;> rfl
  rw [e7, e]
  funext y
  rw [eq_ix2 y]
  refine Eq.trans ?_ (second m hO₁ hH₁ hr hs ⟨(y 0).val, (y 0).isLt.trans (by decide)⟩ (y 1))
  generalize Two.total (atTwo m hO₁ hH₁) hr = T
  pointwise

end calls

end Cert.KernelValue
-- ==== Proof.RefValue.lean ====
/- The reference's stages, read at an index. -/
module

public import proofs.«01_k».proof.Proof.Gen.ReferenceIdeal.Read
public import proofs.«01_k».proof.Proof.Rows
public import Idealize.ShloMosaic.Lib.Routing.Ops

@[expose] public section

set_option maxRecDepth 16384

noncomputable section

namespace Cert.RefValue

open Idealize.ShloMosaic Idealize.ShloMosaic.TcCoe Cert.ReferenceIdeal Cert.ReferenceIdeal.Gen Cert.ReferenceIdeal.Read Cert.Tables Cert.Pay

section scatter

variable {q : ℕ} (wf : ScatterDims.WF (⟨2, ![256, q]⟩ : Shape) S100000x1 (⟨2, ![100000, q]⟩ : Shape) [1] [0] [0] 1)

/-- Whole rows of `q` columns, each added to the row that its index names. -/
abbrev sc : ScatterDims (⟨2, ![256, q]⟩ : Shape) S100000x1 (⟨2, ![100000, q]⟩ : Shape) := ⟨[1], [0], [0], 1, wf⟩

theorem start_row (idx : IVec S100000x1 32) (n : Fin 100000) (k : Fin q) : (sc wf).start (ix2 n k) idx 0 = (idx (ix2 n (0 : Fin 1))).toInt := by
  unfold ScatterDims.start
  rw [dif_pos (show (0 : Fin 2) ∈ (sc wf).scatterDimsToOperandDims from List.mem_singleton.mpr rfl)]
  refine congrArg (fun i => (idx i).toInt) (funext fun b => Fin.ext ?_)
  match b with
  | ⟨0, _⟩ => rfl
  | ⟨1, _⟩ => rfl

theorem start_col (idx : IVec S100000x1 32) (n : Fin 100000) (k : Fin q) : (sc wf).start (ix2 n k) idx 1 = 0 := by
  unfold ScatterDims.start
  exact dif_neg (show ¬(1 : Fin 2) ∈ ([0] : List (Fin 2)) by decide)

theorem window_row (n : Fin 100000) (k : Fin q) : (sc wf).window (ix2 n k) 0 = 0 := by
  unfold ScatterDims.window
  exact dif_neg (show ¬(0 : Fin 2) ∈ ([1] : List (Fin 2)) by decide)

theorem window_col (n : Fin 100000) (k : Fin q) : (sc wf).window (ix2 n k) 1 = k.val := by
  unfold ScatterDims.window
  rw [dif_pos (show (1 : Fin 2) ∈ (sc wf).sKept from (by decide : (1 : Fin 2) ∈ ([1] : List (Fin 2))))]
  rfl

/-- Where an update row lands: the row of its index, the same column. -/
theorem lands (idx : IVec S100000x1 32) (n : Fin 100000) (k : Fin q) (g : Fin 256) (hg : idx (ix2 n (0 : Fin 1)) = BitVec.ofNat 32 g.val) :
    (sc wf).resultIdx? (ix2 n k) idx = some (ix2 g k) := by
  have hz : (idx (ix2 n (0 : Fin 1))).toInt = g.val := by
    rw [hg, BitVec.toInt_eq_toNat_of_lt] <;> rw [BitVec.toNat_ofNat] <;> omega
  have h0 : (sc wf).start (ix2 n k) idx 0 + (sc wf).window (ix2 n k) 0 = g.val := by rw [start_row, window_row, hz]; simp
  have h1 : (sc wf).start (ix2 n k) idx 1 + (sc wf).window (ix2 n k) 1 = k.val := by rw [start_col, window_col]; simp
  have hin : ∀ a : Fin 2, 0 ≤ (sc wf).start (ix2 n k) idx a + (sc wf).window (ix2 n k) a
      ∧ (sc wf).start (ix2 n k) idx a + (sc wf).window (ix2 n k) a < (⟨2, ![256, q]⟩ : Shape).size a := by
    refine Fin.forall_fin_two.2 ⟨?_, ?_⟩
    · rw [h0]; exact ⟨by omega, by have := g.isLt; show (g.val : ℤ) < ((256 : ℕ) : ℤ); omega⟩
    · rw [h1]; exact ⟨by omega, by have := k.isLt; show (k.val : ℤ) < (q : ℤ); omega⟩
  unfold ScatterDims.resultIdx?
  rw [dif_pos hin]
  refine congrArg some ((eq_ix2 _).trans ?_)
  refine congrArg₂ ix2 (Fin.ext ?_) (Fin.ext ?_)
  · show ((sc wf).start (ix2 n k) idx 0 + (sc wf).window (ix2 n k) 0).toNat = g.val
    rw [h0]; rfl
  · show ((sc wf).start (ix2 n k) idx 1 + (sc wf).window (ix2 n k) 1).toNat = k.val
    rw [h1]; rfl

/-- The sum by graph: entry `(b, c)` adds the updates of the rows of graph `b`. -/
theorem by_graph (x : FVec Ideal (⟨2, ![256, q]⟩ : Shape) .f32) (idx : IVec S100000x1 32) (u : FVec Ideal (⟨2, ![100000, q]⟩ : Shape) .f32)
    (g : Fin 100000 → Fin 256) (hg : ∀ n, idx (ix2 n (0 : Fin 1)) = BitVec.ofNat 32 (g n).val) (b : Fin 256) (c : Fin q) :
    Host.scatterAdd (sc wf) x idx u (ix2 b c) = x (ix2 b c) + ∑ n : Fin 100000, if b.val = (g n).val then u (ix2 n c) else 0 := by
  show x (ix2 b c) + ∑ j ∈ Finset.univ.filter (fun j => (sc wf).resultIdx? j idx = some (ix2 b c)), u j = _
  refine congrArg (x (ix2 b c) + ·) ?_
  rw [Finset.sum_filter, ValueIdx.sum_idx2]
  refine Finset.sum_congr rfl fun n _ => ?_
  have e : ∀ k : Fin q, (if (sc wf).resultIdx? (ix2 n k) idx = some (ix2 b c) then u (ix2 n k) else 0)
      = if k = c then (if b.val = (g n).val then u (ix2 n c) else 0) else 0 := fun k => by
    rw [lands wf idx n k (g n) (hg n)]
    by_cases hk : k = c
    · subst hk
      rw [if_pos rfl]
      refine if_congr ⟨fun h => ?_, fun h => ?_⟩ rfl rfl
      · exact (congrArg (fun y : (⟨2, ![256, q]⟩ : Shape).Idx => (y 0).val) (Option.some.inj h)).symm
      · exact congrArg some (congrArg (ix2 · k) (Fin.ext h.symm))
    · rw [if_neg hk, if_neg fun h => hk ?_]
      exact congrArg (fun y : (⟨2, ![256, q]⟩ : Shape).Idx => y 1) (Option.some.inj h)
  refine (Finset.sum_congr rfl fun k _ => e k).trans ?_
  rw [Finset.sum_ite_eq' Finset.univ c, if_pos (Finset.mem_univ _)]

end scatter

variable (X : FVec Ideal S100000x128 .f32) (ids : IVec S100000 32) (W0 : FVec Ideal S128x128 .f32)
    (b0 : FVec Ideal S128 .f32) (W1 : FVec Ideal S128x64 .f32) (b1 : FVec Ideal S64 .f32) (W2 : FVec Ideal S64x1 .f32) (b2 : FVec Ideal S1 .f32)
    (V : FVec Ideal S256x128 .f32) (c : FVec Ideal S128 .f32) (W : FVec Ideal S128x10 .f32) (d : FVec Ideal S10 .f32)

theorem feature (n : Fin 100000) : val_main_v13 (F := Ideal) X W0 b0 W1 b1 W2 b2 (ix2 n (0 : Fin 1)) = Rows.feature X W0 b0 W1 b1 W2 b2 n := by
  unfold Rows.feature
  pointwise [val_main_v13, val_main_v12, val_main_v11, val_main_v10, val_main_v9, val_main_v8, val_main_v7, val_main_v6, val_main_v5, val_main_v4,
    val_main_v3, val_main_v2, val_main_v1, val_main_v0, val_main_call0_v0, val_main_call0_cst, val_main_call1_v0, val_main_call1_cst, hOf]

/-- The column of the graphs that both sums go by. -/
theorem column (n : Fin 100000) (hr : InRange ids) : broadcastInDim S100000x1 ![0] bcast_S100000_S100000x1_0 ids (ix2 n (0 : Fin 1))
    = BitVec.ofNat 32 (⟨(ids (ix1 n)).toNat, hr _⟩ : Fin 256).val := by
  refine (val_main_v15_apply (F := Ideal) ids _).trans ?_
  have e : idx_main_v15 (ix2 n (0 : Fin 1)) = ix1 n := eq_ix1 _
  rw [e]
  simp

/-- The features summed by graph. -/
theorem pooled (hr : InRange ids) (g : Fin 256) (i : Fin 128) :
    val_main_v16 (F := Ideal) X ids (ix2 g i) = ∑ n : Fin 100000, Rows.term ids (fun n => X (ix2 n i)) g.val n := by
  refine (by_graph scatter_S256x128_S100000x1_S100000x128_1_0_0_1_wf _ _ _ (fun n => ⟨(ids (ix1 n)).toNat, hr _⟩) (fun n => column ids n hr) g i).trans ?_
  have hz : val_main_v14 (F := Ideal) (ix2 g i) = 0 := by pointwise [val_main_v14, val_main_cst]
  rw [hz, zero_add]
  rfl

theorem index (hr : InRange ids) (n : Fin 100000) : val_main_v22 (F := Ideal) ids (ix2 n (0 : Fin 1)) = ids (ix1 n) := by
  have h : ¬ (ids (ix1 n)).toInt < 0 := by
    have h0 := hr (ix1 n)
    rw [BitVec.toInt_eq_toNat_of_lt (by omega)]
    omega
  rw [val_main_v22_apply, val_main_v21_apply, val_main_v18_apply, val_main_v17_apply, val_main_c_apply]
  have e : idx_main_v22 (ix2 n (0 : Fin 1)) = ix1 n := eq_ix1 _
  rw [e]
  have hc : IntOp.cmpi .slt (ids (ix1 n)) 0#32 = 0#1 := by
    simp [IntOp.cmpi, BitVec.slt, h]
  rw [hc]
  rfl

theorem gathered (hr : InRange ids) (n : Fin 100000) (i : Fin 128) :
    val_main_v23 (F := Ideal) X ids (ix2 n i) = val_main_v16 (F := Ideal) X ids (ix2 ⟨(ids (ix1 n)).toNat, hr _⟩ i) := by
  unfold val_main_v23
  refine Routing.gather_row _ rfl rfl rfl rfl rfl _ _ n i ⟨(ids (ix1 n)).toNat, hr _⟩ ?_ (by decide)
  refine (index ids hr n).trans ?_
  simp

theorem joined_left (n : Fin 100000) (i : Fin 128) : val_main_v24 (F := Ideal) X ids (ix2 n ⟨i.val, by omega⟩) = X (ix2 n i) := by
  unfold val_main_v24
  generalize val_main_v23 (F := Ideal) X ids = y
  pointwise

theorem joined_right (n : Fin 100000) (i : Fin 128) :
    val_main_v24 (F := Ideal) X ids (ix2 n ⟨128 + i.val, by omega⟩) = val_main_v23 (F := Ideal) X ids (ix2 n i) := by
  unfold val_main_v24
  generalize val_main_v23 (F := Ideal) X ids = y
  pointwise

theorem weight (n : Fin 100000) (cl : Fin 10) : val_main_v33 (F := Ideal) X ids V c W d (ix2 n cl)
    = thOf (fun j => val_main_v25 (F := Ideal) X ids V (ix2 n j) + c (ix1 j)) W d cl := by
  pointwise [val_main_v33, val_main_v32, val_main_v31, val_main_v30, val_main_v29, val_main_v28, val_main_v27, val_main_v26, val_main_call2_v0, val_main_call2_cst, thOf]

/-- Where the two halves of the weights' rows stand, and where a graph stands in the kernel's table. -/
abbrev high (i : Fin 128) : Fin 256 := ⟨i.val, Nat.lt_trans i.isLt (by decide)⟩
abbrev low (i : Fin 128) : Fin 256 := ⟨128 + i.val, Nat.add_lt_add_left i.isLt 128⟩
abbrev entry (g : Fin 256) : Fin 320 := ⟨g.val, Nat.lt_trans g.isLt (by decide)⟩

variable (U : FVec Ideal S128x128 .f32) (P : FVec Ideal (⟨2, ![320, 128]⟩ : Shape) .f32) (hr : InRange ids)
    (hU : ∀ i j, U (ix2 i j) = V (ix2 (high i) j))
    (hP : ∀ (g : Fin 256) j, P (ix2 (entry g) j)
      = ∑ i : Fin 128, (∑ n : Fin 100000, Rows.term ids (fun n => X (ix2 n i)) g.val n) * V (ix2 (low i) j) + c (ix1 j))

include hU hP

/-- The second layer's halves: the row against the first 128 rows of the weights, the sums of its graph against the others. -/
theorem halves (n : Fin 100000) (j : Fin 128) :
    val_main_v25 (F := Ideal) X ids V (ix2 n j) + c (ix1 j)
      = ∑ i : Fin 128, X (ix2 n i) * U (ix2 i j) + P (ix2 ⟨(ids (ix1 n)).toNat, (hr _).trans (by decide)⟩ j) := by
  have e : ∑ k : Fin (128 + 128), val_main_v24 (F := Ideal) X ids (ix2 n k) * V (ix2 k j)
      = ∑ i : Fin 128, X (ix2 n i) * U (ix2 i j)
        + ∑ i : Fin 128, (∑ n' : Fin 100000, Rows.term ids (fun n => X (ix2 n i)) (ids (ix1 n)).toNat n') * V (ix2 (low i) j) := by
    rw [Fin.sum_univ_add]
    refine congrArg₂ (· + ·) (Finset.sum_congr rfl fun i _ => ?_) (Finset.sum_congr rfl fun i _ => ?_)
    · rw [hU]
      exact congrArg (· * V (ix2 (high i) j)) (joined_left X ids n i)
    · refine congrArg (· * V (ix2 (low i) j)) ?_
      exact (joined_right X ids n i).trans ((gathered X ids hr n i).trans (pooled X ids hr _ i))
  have e' : val_main_v25 (F := Ideal) X ids V (ix2 n j) = ∑ k : Fin (128 + 128), val_main_v24 (F := Ideal) X ids (ix2 n k) * V (ix2 k j) := by
    rw [val_main_v25_apply]
    exact Finset.sum_congr rfl fun k _ => congrArg₂ (fun a b => val_main_v24 (F := Ideal) X ids a * V b) (eq_ix2 _) (eq_ix2 _)
  rw [e', e, add_assoc]
  exact congrArg (_ + ·) (hP ⟨(ids (ix1 n)).toNat, hr _⟩ j).symm

theorem update (n : Fin 100000) (cl : Fin 10) :
    val_main_v35 (F := Ideal) X ids W0 b0 W1 b1 W2 b2 V c W d (ix2 n cl)
      = Rows.prod ids hr X (Rows.feature X W0 b0 W1 b1 W2 b2) U P W d n cl := by
  rw [val_main_v35_apply, val_main_v34_apply, weight]
  unfold Rows.prod
  refine congrArg₂ (· * ·) ?_ ?_
  · exact (congrArg (val_main_v13 (F := Ideal) X W0 b0 W1 b1 W2 b2) (eq_ix2 _)).trans (feature X W0 b0 W1 b1 W2 b2 n)
  · exact congrArg (thOf · W d cl) (funext fun j => halves X ids V c U P hr hU hP n j)

/-- The reference's result: entry `(b, cl)` sums what the rows add to it. -/
theorem result (b : Fin 256) (cl : Fin 10) :
    val_main_v38 (F := Ideal) X ids W0 b0 W1 b1 W2 b2 V c W d (ix2 b cl)
      = ∑ n : Fin 100000, Rows.term ids (fun n => Rows.prod ids hr X (Rows.feature X W0 b0 W1 b1 W2 b2) U P W d n cl) b.val n := by
  refine (by_graph scatter_S256x10_S100000x1_S100000x10_1_0_0_1_wf _ _ _ (fun n => ⟨(ids (ix1 n)).toNat, hr _⟩) (fun n => column ids n hr) b cl).trans ?_
  have hz : val_main_v36 (F := Ideal) (ix2 b cl) = 0 := by pointwise [val_main_v36, val_main_cst_1]
  rw [hz, zero_add]
  refine Finset.sum_congr rfl fun n _ => ?_
  unfold Rows.term
  exact if_congr Iff.rfl (update X ids W0 b0 W1 b1 W2 b2 V c W d U P hr hU hP n cl) rfl

end Cert.RefValue
-- ==== Proof.Value.lean ====
/- The two results are one array: what the rows add to each graph's entries. -/
module

public import proofs.«01_k».proof.Defs
public import proofs.«01_k».proof.Proof.Frames
public import proofs.«01_k».proof.Proof.KernelValue
public import proofs.«01_k».proof.Proof.RefValue

@[expose] public section

set_option maxRecDepth 16384

noncomputable section

namespace Cert.Value

open Idealize.ShloMosaic Idealize.ShloMosaic.TcCoe Idealize.SL.Sem Cert.Tables

/-- Equal results, where the rows stand in the order of their graphs. -/
theorem value : Cert.algebraic_KernelIdeal_ReferenceIdeal_pre_sorted_graph_ids := by
  intro m g m' g' hpre hm
  obtain ⟨hr, hs⟩ := sorted_of_fn (hpre 0)
  refine ⟨fun _ => KernelValue.total m hr, ?_, ?_⟩
  · refine (θ_run Cert.KernelIdeal.defs _ _).mono (fun r h c => ⟨(h.1 c).trans ?_, h.2.1 c⟩) (Frames.run m g hr)
    have hc : c = 0 := Subsingleton.elim _ _
    subst hc
    exact KernelValue.result m trivial (Frames.hyps_one m hr) hr hs trivial (Frames.hyps_two m hr)
  · refine (θ_run Cert.ReferenceIdeal.defs _ _).mono (fun r h c => ⟨(h c).1.trans ?_, (h c).2⟩) (Cert.ReferenceIdeal.Value.run (F := Ideal) m' g')
    have hc : c = 0 := Subsingleton.elim _ _
    subst hc
    obtain ⟨a0, a1, a2, a3, a4, a5, a6, a7, a8, a9, a10, a11⟩ := hm 0
    rw [Cert.ReferenceIdeal.Read.val_main_v38_eq, a0, a1, a2, a3, a4, a5, a6, a7, a8, a9, a10, a11]
    funext y
    rw [eq_ix2 y]
    refine RefValue.result _ _ _ _ _ _ _ _ _ _ _ _ (KernelValue.upper m) (KernelValue.tab m) hr (KernelValue.upper_at m) (fun b j => ?_) (y 0) (y 1)
    refine congrArg₂ (· + ·) (Finset.sum_congr rfl fun i _ => ?_) rfl
    exact congrArg _ (KernelValue.lower_at m i j)

end Cert.Value
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Regions
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Regions
public import proofs.«01_k».proof.Proof.Gen.ReferenceIdeal
public import proofs.«01_k».proof.Proof.Gen.ReferenceIdeal.Run
public import proofs.«01_k».proof.Proof.Frames
public import proofs.«01_k».proof.Proof.Value
public import proofs.«01_k».proof.Proof.Gen.Pre_graph_ids
public import proofs.«01_k».proof.Proof.Gen.Pre_sorted_graph_ids
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.Pre_graph_ids.Gen.facts, Cert.Pre_sorted_graph_ids.Gen.facts, Frames.kernel, Frames.kernelIdeal,
  Frames.kernelIdeal_sorted, Frames.reference, Frames.reference_sorted, trivial, Value.value⟩

end Cert.Proof

end
